-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_v59) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v40)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v40) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  IdealRules.named_const.Statement Cert.Kernel5Ideal.κ "mask" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v21_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v21_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v93) = v0 c
          ∧ r.2.mem ((c.tc : Thread Cert.Reference5Ideal.nD Cert.Reference5Ideal.τ).loc Cert.Reference5Ideal.main_v95) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S8x2048x8x128 : Shape := ⟨4, ![8, 2048, 8, 128]⟩
abbrev S8x2048x2x8x128 : Shape := ⟨5, ![8, 2048, 2, 8, 128]⟩
abbrev S1x32x2048x4096 : Shape := ⟨4, ![1, 32, 2048, 4096]⟩
abbrev S_ : Shape := ⟨0, ![]⟩
abbrev S8x2048x1x8x128 : Shape := ⟨5, ![8, 2048, 1, 8, 128]⟩

class Facts : Prop where
  bcast_S_S8x2048x8x128 : S_.BroadcastsInDim S8x2048x8x128 (![] : Fin 0 → Fin S8x2048x8x128.rank)
  slices_S8x2048x2x8x128_S8x2048x1x8x128_0_0_0_0_0 : S8x2048x2x8x128.Slices ![0, 0, 0, 0, 0] S8x2048x1x8x128
  shapeCasts_S8x2048x1x8x128_S8x2048x8x128 : S8x2048x1x8x128.ShapeCasts S8x2048x8x128

variable [Facts]

def fn {F : FTy → Type} [FloatOps F] (main_arg0 : FVec F S8x2048x8x128 .f32) (main_arg1 : FVec F S8x2048x2x8x128 .f32) (main_arg2 : FVec F S1x32x2048x4096 .f32) : IVec S8x2048x8x128 1 × IVec S8x2048x8x128 1 :=
  let main_v0 : FVec F S8x2048x8x128 .f32 := Host.absf main_arg0
  let main_cst : FVec F S_ .f32 := constant S_ .f32 0x7F800000#32
  let main_v1 : FVec F S8x2048x8x128 .f32 := broadcastInDim S8x2048x8x128 ![] bcast_S_S8x2048x8x128 main_cst
  let main_v2 : IVec S8x2048x8x128 1 := cmpf .olt main_v0 main_v1
  let main_v3 : FVec F S8x2048x1x8x128 .f32 := (extractStridedSlice S8x2048x1x8x128 ![0, 0, 0, 0, 0] · slices_S8x2048x2x8x128_S8x2048x1x8x128_0_0_0_0_0) main_arg1
  let main_v4 : FVec F S8x2048x8x128 .f32 := shapeCast S8x2048x8x128 main_v3 shapeCasts_S8x2048x1x8x128_S8x2048x8x128
  let main_v5 : FVec F S8x2048x8x128 .f32 := Host.absf main_v4
  let main_cst_0 : FVec F S_ .f32 := constant S_ .f32 0x7F800000#32
  let main_v6 : FVec F S8x2048x8x128 .f32 := broadcastInDim S8x2048x8x128 ![] bcast_S_S8x2048x8x128 main_cst_0
  let main_v7 : IVec S8x2048x8x128 1 := cmpf .olt main_v5 main_v6
  (main_v2, main_v7)
-- ==== Pre_finite5.lean ====
abbrev S8x2048x4x2x128 : Shape := ⟨5, ![8, 2048, 4, 2, 128]⟩
abbrev S8x2048x2x4x256 : Shape := ⟨5, ![8, 2048, 2, 4, 256]⟩
abbrev S1x4x128 : Shape := ⟨3, ![1, 4, 128]⟩
abbrev S1x256 : Shape := ⟨2, ![1, 256]⟩
abbrev S1x32x2048x2048 : Shape := ⟨4, ![1, 32, 2048, 2048]⟩
abbrev S_ : Shape := ⟨0, ![]⟩

class Facts : Prop where
  bcast_S_S8x2048x4x2x128 : S_.BroadcastsInDim S8x2048x4x2x128 (![] : Fin 0 → Fin S8x2048x4x2x128.rank)
  bcast_S_S8x2048x2x4x256 : S_.BroadcastsInDim S8x2048x2x4x256 (![] : Fin 0 → Fin S8x2048x2x4x256.rank)
  bcast_S_S1x4x128 : S_.BroadcastsInDim S1x4x128 (![] : Fin 0 → Fin S1x4x128.rank)

variable [Facts]

def fn {F : FTy → Type} [FloatOps F] (main_arg0 : FVec F S8x2048x4x2x128 .f32) (main_arg1 : FVec F S8x2048x2x4x256 .f32) (main_arg2 : FVec F S1x4x128 .f32) (main_arg3 : FVec F S1x256 .f32) (main_arg4 : FVec F S1x32x2048x2048 .f32) : IVec S8x2048x4x2x128 1 × IVec S8x2048x2x4x256 1 × IVec S1x4x128 1 :=
  let main_v0 : FVec F S8x2048x4x2x128 .f32 := Host.absf main_arg0
  let main_cst : FVec F S_ .f32 := constant S_ .f32 0x7F800000#32
  let main_v1 : FVec F S8x2048x4x2x128 .f32 := broadcastInDim S8x2048x4x2x128 ![] bcast_S_S8x2048x4x2x128 main_cst
  let main_v2 : IVec S8x2048x4x2x128 1 := cmpf .olt main_v0 main_v1
  let main_v3 : FVec F S8x2048x2x4x256 .f32 := Host.absf main_arg1
  let main_cst_0 : FVec F S_ .f32 := constant S_ .f32 0x7F800000#32
  let main_v4 : FVec F S8x2048x2x4x256 .f32 := broadcastInDim S8x2048x2x4x256 ![] bcast_S_S8x2048x2x4x256 main_cst_0
  let main_v5 : IVec S8x2048x2x4x256 1 := cmpf .olt main_v3 main_v4
  let main_v6 : FVec F S1x4x128 .f32 := Host.absf main_arg2
  let main_cst_1 : FVec F S_ .f32 := constant S_ .f32 0x7F800000#32
  let main_v7 : FVec F S1x4x128 .f32 := broadcastInDim S1x4x128 ![] bcast_S_S1x4x128 main_cst_1
  let main_v8 : IVec S1x4x128 1 := cmpf .olt main_v6 main_v7
  (main_v2, main_v5, main_v8)
-- ==== Kernel.lean ====
abbrev S8x2048x8x128 : Shape := ⟨4, ![8, 2048, 8, 128]⟩
abbrev S8x2048x2x8x128 : Shape := ⟨5, ![8, 2048, 2, 8, 128]⟩
abbrev S1x32x2048x4096 : Shape := ⟨4, ![1, 32, 2048, 4096]⟩
abbrev S_ : Shape := ⟨0, ![]⟩
abbrev S8x2048x1024 : Shape := ⟨3, ![8, 2048, 1024]⟩
abbrev S8x2048x2048 : Shape := ⟨3, ![8, 2048, 2048]⟩
abbrev S32x2048x4096 : Shape := ⟨3, ![32, 2048, 4096]⟩
abbrev S65536x4096 : Shape := ⟨2, ![65536, 4096]⟩
abbrev S1x256x256 : Shape := ⟨3, ![1, 256, 256]⟩
abbrev S1x2048x256 : Shape := ⟨3, ![1, 2048, 256]⟩
abbrev S256x4096 : Shape := ⟨2, ![256, 4096]⟩
abbrev S256x256 : Shape := ⟨2, ![256, 256]⟩
abbrev S512x256 : Shape := ⟨2, ![512, 256]⟩
abbrev S256x1 : Shape := ⟨2, ![256, 1]⟩
abbrev S256x128 : Shape := ⟨2, ![256, 128]⟩
abbrev S256x512 : Shape := ⟨2, ![256, 512]⟩
abbrev S256 : Shape := ⟨1, ![256]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x2x8x128, .f32⟩
  | .hbm, ⟨2, _⟩ => ⟨S1x32x2048x4096, .f32⟩
  | .hbm, ⟨3, _⟩ => ⟨S_, .f32⟩
  | .hbm, ⟨4, _⟩ => ⟨S8x2048x8x128, .f32⟩
  | .hbm, ⟨5, _⟩ => ⟨S8x2048x8x128, .f32⟩
  | .hbm, ⟨6, _⟩ => ⟨S8x2048x8x128, .bf16⟩
  | .hbm, ⟨7, _⟩ => ⟨S8x2048x1024, .bf16⟩
  | .hbm, ⟨8, _⟩ => ⟨S8x2048x2048, .f32⟩
  | .hbm, ⟨9, _⟩ => ⟨S32x2048x4096, .f32⟩
  | .hbm, ⟨10, _⟩ => ⟨S65536x4096, .f32⟩
  | .hbm, ⟨11, _⟩ => ⟨S8x2048x1024, .bf16⟩
  | .hbm, ⟨12, _⟩ => ⟨S65536x4096, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S256x4096, .f32⟩
  | .local _ .vmem, ⟨7, _⟩ => ⟨S256x4096, .f32⟩
  | .local _ .vmem, ⟨8, _⟩ => ⟨S1x256x256, .bf16⟩
  | .local _ .vmem, ⟨9, _⟩ => ⟨S1x256x256, .bf16⟩
  | .local _ .vmem, ⟨10, _⟩ => ⟨S256x4096, .bf16⟩
  | .local _ .vmem, ⟨11, _⟩ => ⟨S256x4096, .bf16⟩
  | _, _ => ⟨S8x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c256_i32_8 : BitVec 32 := 256#32
  let v24 : BitVec 32 := Scalar.muli arg2 c256_i32_8
  v24
def k0_off1 (i : grid0.Coords) : Fin 3 → Nat :=
  let c0_9 : Index := 0#32
  let arg2 : BitVec 32 := BitVec.ofNat 32 (i 2).val
  let c256_i32_8 : BitVec 32 := 256#32
  let v24 : BitVec 32 := Scalar.muli arg2 c256_i32_8
  let v25 : BitVec 32 := v24
  let v26 : Index := Scalar.indexCast v25
  let c0_10 : Index := 0#32
  ![0, v26.toNat, 0]
@[reducible] def k0_t1_loop (i : grid0.Coords) : Scf.Loop 32 :=
  let c0_i32 : BitVec 32 := 0#32
  let arg2 : BitVec 32 := BitVec.ofNat 32 (i 2).val
  let v108 : BitVec 32 := Scalar.subi arg2 c0_i32
  let c1_i32 : BitVec 32 := 1#32
  let v110 : BitVec 32 := Scalar.divsi v108 c1_i32
  let v111 : BitVec 32 := Scalar.muli v110 c1_i32
  let v112 : BitVec 32 := Scalar.addi c0_i32 v111
  let c1_i32_33 : BitVec 32 := 1#32
  ⟨c0_i32, v112, c1_i32_33⟩
def k0_mult2 (i : grid0.Coords) (k0_t1 : Fin (k0_t1_loop i).trips) : BitVec 32 :=
  let arg2 : BitVec 32 := BitVec.ofNat 32 (i 2).val
  let c1_i32_38 : BitVec 32 := 1#32
  let v120 : BitVec 32 := Scalar.subi arg2 c1_i32_38
  let c0_i32 : BitVec 32 := 0#32
  let c1_i32_33 : BitVec 32 := 1#32
  let arg9 : BitVec 32 := Scf.iv c0_i32 c1_i32_33 k0_t1
  let v121 : BitVec 32 := Scalar.subi v120 arg9
  let c256_i32_39 : BitVec 32 := 256#32
  let v122 : BitVec 32 := Scalar.muli v121 c256_i32_39
  v122
def k0_off2 (i : grid0.Coords) (k0_t1 : Fin (k0_t1_loop i).trips) : Fin 3 → Nat :=
  let c0_40 : Index := 0#32
  let arg2 : BitVec 32 := BitVec.ofNat 32 (i 2).val
  let c1_i32_38 : BitVec 32 := 1#32
  let v120 : BitVec 32 := Scalar.subi arg2 c1_i32_38
  let c0_i32 : BitVec 32 := 0#32
  let c1_i32_33 : BitVec 32 := 1#32
  let arg9 : BitVec 32 := Scf.iv c0_i32 c1_i32_33 k0_t1
  let v121 : BitVec 32 := Scalar.subi v120 arg9
  let c256_i32_39 : BitVec 32 := 256#32
  let v122 : BitVec 32 := Scalar.muli v121 c256_i32_39
  let v123 : BitVec 32 := v122
  let v124 : Index := Scalar.indexCast v123
  let c0_41 : Index := 0#32
  ![0, v124.toNat, 0]
@[reducible] def k0_t2_loop (i : grid0.Coords) : Scf.Loop 32 :=
  let c0_i32 : BitVec 32 := 0#32
  let arg2 : BitVec 32 := BitVec.ofNat 32 (i 2).val
  let v108 : BitVec 32 := Scalar.subi arg2 c0_i32
  let c1_i32 : BitVec 32 := 1#32
  let v110 : BitVec 32 := Scalar.divsi v108 c1_i32
  let v111 : BitVec 32 := Scalar.muli v110 c1_i32
  let v112 : BitVec 32 := Scalar.addi c0_i32 v111
  let v109 : BitVec 32 := Scalar.addi c0_i32 v108
  let c1_i32_34 : BitVec 32 := 1#32
  ⟨v112, v109, c1_i32_34⟩
def k0_mult3 (i : grid0.Coords) (k0_t2 : Fin (k0_t2_loop i).trips) : BitVec 32 :=
  let arg2 : BitVec 32 := BitVec.ofNat 32 (i 2).val
  let c1_i32_38 : BitVec 32 := 1#32
  let v120 : BitVec 32 := Scalar.subi arg2 c1_i32_38
  let c0_i32 : BitVec 32 := 0#32
  let v108 : BitVec 32 := Scalar.subi arg2 c0_i32
  let c1_i32 : BitVec 32 := 1#32
  let v110 : BitVec 32 := Scalar.divsi v108 c1_i32
  let v111 : BitVec 32 := Scalar.muli v110 c1_i32
  let v112 : BitVec 32 := Scalar.addi c0_i32 v111
  let c1_i32_34 : BitVec 32 := 1#32
  let arg9 : BitVec 32 := Scf.iv v112 c1_i32_34 k0_t2
  let v121 : BitVec 32 := Scalar.subi v120 arg9
  let c256_i32_39 : BitVec 32 := 256#32
  let v122 : BitVec 32 := Scalar.muli v121 c256_i32_39
  v122
def k0_off3 (i : grid0.Coords) (k0_t2 : Fin (k0_t2_loop i).trips) : Fin 3 → Nat :=
  let c0_40 : Index := 0#32
  let arg2 : BitVec 32 := BitVec.ofNat 32 (i 2).val
  let c1_i32_38 : BitVec 32 := 1#32
  let v120 : BitVec 32 := Scalar.subi arg2 c1_i32_38
  let c0_i32 : BitVec 32 := 0#32
  let v108 : BitVec 32 := Scalar.subi arg2 c0_i32
  let c1_i32 : BitVec 32 := 1#32
  let v110 : BitVec 32 := Scalar.divsi v108 c1_i32
  let v111 : BitVec 32 := Scalar.muli v110 c1_i32
  let v112 : BitVec 32 := Scalar.addi c0_i32 v111
  let c1_i32_34 : BitVec 32 := 1#32
  let arg9 : BitVec 32 := Scf.iv v112 c1_i32_34 k0_t2
  let v121 : BitVec 32 := Scalar.subi v120 arg9
  let c256_i32_39 : BitVec 32 := 256#32
  let v122 : BitVec 32 := Scalar.muli v121 c256_i32_39
  let v123 : BitVec 32 := v122
  let v124 : Index := Scalar.indexCast v123
  let c0_41 : Index := 0#32
  ![0, v124.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x2048x8x128 : Shape := ⟨4, ![8, 2048, 8, 128]⟩
abbrev S8x2048x2x8x128 : Shape := ⟨5, ![8, 2048, 2, 8, 128]⟩
abbrev S1x32x2048x4096 : Shape := ⟨4, ![1, 32, 2048, 4096]⟩
abbrev S2048 : Shape := ⟨1, ![2048]⟩
abbrev S8x2048x1x8x128 : Shape := ⟨5, ![8, 2048, 1, 8, 128]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x128x2048 : Shape := ⟨4, ![8, 8, 128, 2048]⟩
abbrev S8x2048x1024 : Shape := ⟨3, ![8, 2048, 1024]⟩
abbrev S65536x4096 : Shape := ⟨2, ![65536, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x2x8x128, .f32⟩
  | .hbm, ⟨2, _⟩ => ⟨S1x32x2048x4096, .f32⟩
  | .hbm, ⟨3, _⟩ => ⟨S2048, .i32⟩
  | .hbm, ⟨4, _⟩ => ⟨S8x2048x1x8x128, .f32⟩
  | .hbm, ⟨5, _⟩ => ⟨S8x2048x8x128, .f32⟩
  | .hbm, ⟨6, _⟩ => ⟨S8x2048x1x8x128, .f32⟩
  | .hbm, ⟨7, _⟩ => ⟨S8x2048x8x128, .f32⟩
  | .hbm, ⟨8, _⟩ => ⟨S8x8x2048x2048, .f32⟩
  | .hbm, ⟨9, _⟩ => ⟨S_, .f32⟩
  | .hbm, ⟨10, _⟩ => ⟨S8x8x2048x2048, .f32⟩
  | .hbm, ⟨11, _⟩ => ⟨S8x8x2048x2048, .f32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S8x8x2048x2048, .f32⟩
  | .hbm, ⟨18, _⟩ => ⟨S8x8x2048x2048, .f32⟩
  | .hbm, ⟨19, _⟩ => ⟨S_, .f32⟩
  | .hbm, ⟨20, _⟩ => ⟨S8x8x2048x2048, .f32⟩
  | .hbm, ⟨21, _⟩ => ⟨S8x8x2048x2048, .f32⟩
  | .hbm, ⟨22, _⟩ => ⟨S8x8x2048x2048, .f32⟩
  | .hbm, ⟨23, _⟩ => ⟨S8x8x2048x2048, .f32⟩
  | .hbm, ⟨24, _⟩ => ⟨S8x8x2048x2048, .i1⟩
  | .hbm, ⟨25, _⟩ => ⟨S8x8x2048x2048, .f32⟩
  | .hbm, ⟨26, _⟩ => ⟨S8x8x2048x2048, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S_, .f32⟩
  | .hbm, ⟨36, _⟩ => ⟨S8x8x2048x2048, .i1⟩
  | .hbm, ⟨37, _⟩ => ⟨S8x8x2048x2048, .f32⟩
  | .hbm, ⟨38, _⟩ => ⟨S8x8x2048x2048, .f32⟩
  | .hbm, ⟨39, _⟩ => ⟨S_, .f32⟩
  | .hbm, ⟨40, _⟩ => ⟨S_, .f32⟩
  | .hbm, ⟨41, _⟩ => ⟨S8x8x2048x2048, .f32⟩
  | .hbm, ⟨42, _⟩ => ⟨S8x8x2048x2048, .f32⟩
  | .hbm, ⟨43, _⟩ => ⟨S8x8x2048x2048, .f32⟩
  | .hbm, ⟨44, _⟩ => ⟨S_, .f32⟩
  | .hbm, ⟨45, _⟩ => ⟨S8x8x2048x2048, .f32⟩
  | .hbm, ⟨46, _⟩ => ⟨S8x8x2048x2048, .f32⟩
  | .hbm, ⟨47, _⟩ => ⟨S8x8x2048x2048, .f32⟩
  | .hbm, ⟨48, _⟩ => ⟨S8x8x2048x2048, .f32⟩
  | .hbm, ⟨49, _⟩ => ⟨S8x8x2048x2048, .i1⟩
  | .hbm, ⟨50, _⟩ => ⟨S8x8x2048x2048, .f32⟩
  | .hbm, ⟨51, _⟩ => ⟨S8x8x2048x2048, .f32⟩
  | .hbm, ⟨52, _⟩ => ⟨S8x8x2048x2048, .f32⟩
  | .hbm, ⟨53, _⟩ => ⟨S8x8x2048x2048, .f32⟩
  | .hbm, ⟨54, _⟩ => ⟨S8x8x2048x2048, .f32⟩
  | .hbm, ⟨55, _⟩ => ⟨S8x8x2048x2048, .f32⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S_, .f32⟩
  | .hbm, ⟨62, _⟩ => ⟨S_, .f32⟩
  | .hbm, ⟨63, _⟩ => ⟨S8x8x2048x2048, .i1⟩
  | .hbm, ⟨64, _⟩ => ⟨S8x8x2048x2048, .f32⟩
  | .hbm, ⟨65, _⟩ => ⟨S8x8x2048x2048, .f32⟩
  | .hbm, ⟨66, _⟩ => ⟨S8x8x128x2048, .f32⟩
  | .hbm, ⟨67, _⟩ => ⟨S8x2048x8x128, .f32⟩
  | .hbm, ⟨68, _⟩ => ⟨S8x2048x1024, .f32⟩
  | .hbm, ⟨69, _⟩ => ⟨S8x2048x1024, .bf16⟩
  | .hbm, ⟨70, _⟩ => ⟨S65536x4096, .f32⟩
  | .hbm, ⟨71, _⟩ => ⟨S65536x4096, .bf16⟩
  | _, _ => ⟨S8x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Kernel2.lean ====
abbrev S8x2048x2048 : Shape := ⟨3, ![8, 2048, 2048]⟩
abbrev S1x2048 : Shape := ⟨2, ![1, 2048]⟩
abbrev S1x2048x10240 : Shape := ⟨3, ![1, 2048, 10240]⟩
abbrev S16384x2048 : Shape := ⟨2, ![16384, 2048]⟩
abbrev S2048 : Shape := ⟨1, ![2048]⟩
abbrev S2048x10240 : Shape := ⟨2, ![2048, 10240]⟩
abbrev S16384x1024 : Shape := ⟨2, ![16384, 1024]⟩
abbrev S16384x4096 : Shape := ⟨2, ![16384, 4096]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x10240, .f32⟩
  | .hbm, ⟨3, _⟩ => ⟨S16384x2048, .f32⟩
  | .hbm, ⟨4, _⟩ => ⟨S2048, .f32⟩
  | .hbm, ⟨5, _⟩ => ⟨S1x2048, .f32⟩
  | .hbm, ⟨6, _⟩ => ⟨S2048x10240, .f32⟩
  | .hbm, ⟨7, _⟩ => ⟨S2048x10240, .bf16⟩
  | .hbm, ⟨8, _⟩ => ⟨S16384x1024, .bf16⟩
  | .hbm, ⟨9, _⟩ => ⟨S16384x2048, .f32⟩
  | .hbm, ⟨10, _⟩ => ⟨S16384x1024, .bf16⟩
  | .hbm, ⟨11, _⟩ => ⟨S16384x2048, .f32⟩
  | .hbm, ⟨12, _⟩ => ⟨S16384x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 10], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .sge arg1 c1_i32
  let c3_i32 : BitVec 32 := 3#32
  let v11 : BitVec 1 := Scalar.cmpi .slt arg1 c3_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c3_i32_7 : BitVec 32 := 3#32
  let v15 : BitVec 1 := Scalar.cmpi .eq arg1 c3_i32_7
  let v16 : BitVec 32 := Scalar.extui v15
  let c0_i32_8 : BitVec 32 := 0#32
  let v17 : BitVec 1 := Scalar.cmpi .ne v16 c0_i32_8
  v17

def k0_cond5 (i : grid0.Coords) : BitVec 1 :=
  let arg1 : BitVec 32 := BitVec.ofNat 32 (i 1).val
  let c4_i32 : BitVec 32 := 4#32
  let v18 : BitVec 1 := Scalar.cmpi .sge arg1 c4_i32
  let c6_i32 : BitVec 32 := 6#32
  let v19 : BitVec 1 := Scalar.cmpi .slt arg1 c6_i32
  let v20 : BitVec 1 := Scalar.andi v18 v19
  let v21 : BitVec 32 := Scalar.extui v20
  let c0_i32_9 : BitVec 32 := 0#32
  let v22 : BitVec 1 := Scalar.cmpi .ne v21 c0_i32_9
  v22

def k0_cond6 (i : grid0.Coords) : BitVec 1 :=
  let arg1 : BitVec 32 := BitVec.ofNat 32 (i 1).val
  let c6_i32_10 : BitVec 32 := 6#32
  let v23 : BitVec 1 := Scalar.cmpi .sge arg1 c6_i32_10
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x2048x2048 : Shape := ⟨3, ![8, 2048, 2048]⟩
abbrev S1x2048 : Shape := ⟨2, ![1, 2048]⟩
abbrev S1x2048x10240 : Shape := ⟨3, ![1, 2048, 10240]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x10240 : Shape := ⟨2, ![2048, 10240]⟩
abbrev S8x2048x10240 : Shape := ⟨3, ![8, 2048, 10240]⟩
abbrev S8x2048x1024 : Shape := ⟨3, ![8, 2048, 1024]⟩
abbrev S8x2048x8x128 : Shape := ⟨4, ![8, 2048, 8, 128]⟩
abbrev S8x2048x4x2x128 : Shape := ⟨5, ![8, 2048, 4, 2, 128]⟩
abbrev S8x2048x4x256 : Shape := ⟨4, ![8, 2048, 4, 256]⟩
abbrev S8x2048x1x8x128 : Shape := ⟨5, ![8, 2048, 1, 8, 128]⟩
abbrev S8x2048x2x8x128 : Shape := ⟨5, ![8, 2048, 2, 8, 128]⟩
abbrev S8x2048x1x4x256 : Shape := ⟨5, ![8, 2048, 1, 4, 256]⟩
abbrev S8x2048x2x4x256 : Shape := ⟨5, ![8, 2048, 2, 4, 256]⟩
abbrev S8x2048x4096 : Shape := ⟨3, ![8, 2048, 4096]⟩
abbrev S16384x1024 : Shape := ⟨2, ![16384, 1024]⟩
abbrev S16384x2048 : Shape := ⟨2, ![16384, 2048]⟩
abbrev S16384x4096 : Shape := ⟨2, ![16384, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x10240, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x10240, .f32⟩
  | .hbm, ⟨21, _⟩ => ⟨S8x2048x10240, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x2048, .f32⟩
  | .hbm, ⟨29, _⟩ => ⟨S8x2048x2048, .f32⟩
  | .hbm, ⟨30, _⟩ => ⟨S8x2048x8x128, .f32⟩
  | .hbm, ⟨31, _⟩ => ⟨S8x2048x8x128, .f32⟩
  | .hbm, ⟨32, _⟩ => ⟨S8x2048x4x2x128, .f32⟩
  | .hbm, ⟨33, _⟩ => ⟨S8x2048x4x256, .f32⟩
  | .hbm, ⟨34, _⟩ => ⟨S8x2048x1x8x128, .f32⟩
  | .hbm, ⟨35, _⟩ => ⟨S8x2048x1x8x128, .f32⟩
  | .hbm, ⟨36, _⟩ => ⟨S8x2048x2x8x128, .f32⟩
  | .hbm, ⟨37, _⟩ => ⟨S8x2048x4x256, .f32⟩
  | .hbm, ⟨38, _⟩ => ⟨S8x2048x1x4x256, .f32⟩
  | .hbm, ⟨39, _⟩ => ⟨S8x2048x1x4x256, .f32⟩
  | .hbm, ⟨40, _⟩ => ⟨S8x2048x2x4x256, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048x2048, .f32⟩
  | .hbm, ⟨56, _⟩ => ⟨S8x2048x2048, .f32⟩
  | .hbm, ⟨57, _⟩ => ⟨S8x2048x4096, .f32⟩
  | .hbm, ⟨58, _⟩ => ⟨S_, .f32⟩
  | .hbm, ⟨59, _⟩ => ⟨S8x2048x1024, .f32⟩
  | .hbm, ⟨60, _⟩ => ⟨S8x2048x1024, .f32⟩
  | .hbm, ⟨61, _⟩ => ⟨S16384x1024, .f32⟩
  | .hbm, ⟨62, _⟩ => ⟨S16384x1024, .bf16⟩
  | .hbm, ⟨63, _⟩ => ⟨S16384x2048, .f32⟩
  | .hbm, ⟨64, _⟩ => ⟨S_, .f32⟩
  | .hbm, ⟨65, _⟩ => ⟨S8x2048x1024, .f32⟩
  | .hbm, ⟨66, _⟩ => ⟨S8x2048x1024, .f32⟩
  | .hbm, ⟨67, _⟩ => ⟨S16384x1024, .f32⟩
  | .hbm, ⟨68, _⟩ => ⟨S16384x1024, .bf16⟩
  | .hbm, ⟨69, _⟩ => ⟨S16384x2048, .f32⟩
  | .hbm, ⟨70, _⟩ => ⟨S16384x4096, .f32⟩
  | .hbm, ⟨71, _⟩ => ⟨S16384x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== Kernel3.lean ====
abbrev S16384x4 : Shape := ⟨2, ![16384, 4]⟩
abbrev S73728x2048 : Shape := ⟨2, ![73728, 2048]⟩
abbrev S1x32x2048x2048 : Shape := ⟨4, ![1, 32, 2048, 2048]⟩
abbrev S1x32x2048 : Shape := ⟨3, ![1, 32, 2048]⟩
abbrev S65536 : Shape := ⟨1, ![65536]⟩
abbrev S65536x1 : Shape := ⟨2, ![65536, 1]⟩
abbrev S32 : Shape := ⟨1, ![32]⟩
abbrev S1x32 : Shape := ⟨2, ![1, 32]⟩
abbrev S65536x32 : Shape := ⟨2, ![65536, 32]⟩
abbrev S_ : Shape := ⟨0, ![]⟩
abbrev S288 : Shape := ⟨1, ![288]⟩
abbrev S288x1 : Shape := ⟨2, ![288, 1]⟩
abbrev S288x32 : Shape := ⟨2, ![288, 32]⟩
abbrev S1 : Shape := ⟨1, ![1]⟩
abbrev S32x2048x2048 : Shape := ⟨3, ![32, 2048, 2048]⟩
abbrev S32x2048 : Shape := ⟨2, ![32, 2048]⟩
abbrev S32x1x2048 : Shape := ⟨3, ![32, 1, 2048]⟩
abbrev S1179648x128 : Shape := ⟨2, ![1179648, 128]⟩
abbrev S256x2048 : Shape := ⟨2, ![256, 2048]⟩
abbrev S1x2048x2048 : Shape := ⟨3, ![1, 2048, 2048]⟩
abbrev S1x1x2048 : Shape := ⟨3, ![1, 1, 2048]⟩
abbrev S4096x128 : Shape := ⟨2, ![4096, 128]⟩
abbrev S2048x2048 : Shape := ⟨2, ![2048, 2048]⟩
abbrev S1x2048 : Shape := ⟨2, ![1, 2048]⟩
abbrev S256x128 : Shape := ⟨2, ![256, 128]⟩

abbrev nBuf : Space → Nat
  | .hbm => 88
  | .vmem => 8
  | .smem => 2
  | _ => 0

abbrev bufTy : (tb : Table) → Fin (tcTables nBuf tb) → BufTy
  | .hbm, ⟨0, _⟩ => ⟨S16384x4, .i32⟩
  | .hbm, ⟨1, _⟩ => ⟨S73728x2048, .f32⟩
  | .hbm, ⟨2, _⟩ => ⟨S1x32x2048x2048, .f32⟩
  | .hbm, ⟨3, _⟩ => ⟨S1x32x2048, .f32⟩
  | .hbm, ⟨4, _⟩ => ⟨S65536, .i32⟩
  | .hbm, ⟨5, _⟩ => ⟨S65536x1, .i32⟩
  | .hbm, ⟨6, _⟩ => ⟨S32, .i32⟩
  | .hbm, ⟨7, _⟩ => ⟨S1x32, .i32⟩
  | .hbm, ⟨8, _⟩ => ⟨S65536x32, .i32⟩
  | .hbm, ⟨9, _⟩ => ⟨S65536x32, .i32⟩
  | .hbm, ⟨10, _⟩ => ⟨S65536x32, .i1⟩
  | .hbm, ⟨11, _⟩ => ⟨S65536x32, .i32⟩
  | .hbm, ⟨12, _⟩ => ⟨S_, .i32⟩
  | .hbm, ⟨13, _⟩ => ⟨S_, .i32⟩
  | .hbm, ⟨14, _⟩ => ⟨S65536x32, .i32⟩
  | .hbm, ⟨15, _⟩ => ⟨S1x32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i32⟩
  | .hbm, ⟨23, _⟩ => ⟨S_, .i32⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S32, .i1⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S32, .i32⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S_, .i32⟩
  | .hbm, ⟨45, _⟩ => ⟨S_, .i32⟩
  | .hbm, ⟨46, _⟩ => ⟨S32, .i32⟩
  | .hbm, ⟨47, _⟩ => ⟨S288, .i32⟩
  | .hbm, ⟨48, _⟩ => ⟨S_, .i32⟩
  | .hbm, ⟨49, _⟩ => ⟨S288, .i32⟩
  | .hbm, ⟨50, _⟩ => ⟨S288, .i32⟩
  | .hbm, ⟨51, _⟩ => ⟨S_, .i32⟩
  | .hbm, ⟨52, _⟩ => ⟨S288, .i32⟩
  | .hbm, ⟨53, _⟩ => ⟨S288, .i32⟩
  | .hbm, ⟨54, _⟩ => ⟨S1x32, .i32⟩
  | .hbm, ⟨55, _⟩ => ⟨S288x1, .i32⟩
  | .hbm, ⟨56, _⟩ => ⟨S288x32, .i32⟩
  | .hbm, ⟨57, _⟩ => ⟨S288x32, .i32⟩
  | .hbm, ⟨58, _⟩ => ⟨S288x32, .i1⟩
  | .hbm, ⟨59, _⟩ => ⟨S288x32, .i32⟩
  | .hbm, ⟨60, _⟩ => ⟨S_, .i32⟩
  | .hbm, ⟨61, _⟩ => ⟨S288, .i32⟩
  | .hbm, ⟨62, _⟩ => ⟨S_, .i32⟩
  | .hbm, ⟨63, _⟩ => ⟨S288, .i32⟩
  | .hbm, ⟨64, _⟩ => ⟨S1, .i32⟩
  | .hbm, ⟨65, _⟩ => ⟨S_, .i32⟩
  | .hbm, ⟨66, _⟩ => ⟨S_, .i32⟩
  | .hbm, ⟨67, _⟩ => ⟨S1, .i32⟩
  | .hbm, ⟨68, _⟩ => ⟨S1, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S1, .i1⟩
  | .hbm, ⟨73, _⟩ => ⟨S1, .i32⟩
  | .hbm, ⟨74, _⟩ => ⟨S1, .i32⟩
  | .hbm, ⟨75, _⟩ => ⟨S_, .i32⟩
  | .hbm, ⟨76, _⟩ => ⟨S1, .i32⟩
  | .hbm, ⟨77, _⟩ => ⟨S1, .i1⟩
  | .hbm, ⟨78, _⟩ => ⟨S1, .i1⟩
  | .hbm, ⟨79, _⟩ => ⟨S_, .i32⟩
  | .hbm, ⟨80, _⟩ => ⟨S1, .i32⟩
  | .hbm, ⟨81, _⟩ => ⟨S1, .i32⟩
  | .hbm, ⟨82, _⟩ => ⟨S73728x2048, .bf16⟩
  | .hbm, ⟨83, _⟩ => ⟨S32x2048x2048, .f32⟩
  | .hbm, ⟨84, _⟩ => ⟨S32x2048x2048, .bf16⟩
  | .hbm, ⟨85, _⟩ => ⟨S32x2048, .f32⟩
  | .hbm, ⟨86, _⟩ => ⟨S32x1x2048, .f32⟩
  | .hbm, ⟨87, _⟩ => ⟨S1179648x128, .f32⟩
  | .local _ .vmem, ⟨0, _⟩ => ⟨S256x2048, .bf16⟩
  | .local _ .vmem, ⟨1, _⟩ => ⟨S256x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x1x2048, .f32⟩
  | .local _ .vmem, ⟨5, _⟩ => ⟨S1x1x2048, .f32⟩
  | .local _ .vmem, ⟨6, _⟩ => ⟨S4096x128, .f32⟩
  | .local _ .vmem, ⟨7, _⟩ => ⟨S4096x128, .f32⟩
  | .local _ .smem, ⟨0, _⟩ => ⟨S288, .i32⟩
  | .local _ .smem, ⟨1, _⟩ => ⟨S1, .i32⟩
  | _, _ => ⟨S16384x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v15 : Ref sig .tc := ⟨.hbm, 40, rfl⟩
abbrev main_c_2 : Ref sig .tc := ⟨.hbm, 41, rfl⟩
abbrev main_v16 : Ref sig .tc := ⟨.hbm, 42, rfl⟩
abbrev main_v17 : Ref sig .tc := ⟨.hbm, 43, rfl⟩
abbrev main_call2_call0_c : Ref sig .tc := ⟨.hbm, 44, rfl⟩
abbrev main_call2_call0_v0 : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_v20 : Ref sig .tc := ⟨.hbm, 49, rfl⟩
abbrev main_v21 : Ref sig .tc := ⟨.hbm, 50, rfl⟩
abbrev main_c_4 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_5 : Ref sig .tc := ⟨.hbm, 60, rfl⟩
abbrev main_v30 : Ref sig .tc := ⟨.hbm, 61, rfl⟩
abbrev main_c_6 : Ref sig .tc := ⟨.hbm, 62, rfl⟩
abbrev main_v31 : Ref sig .tc := ⟨.hbm, 63, rfl⟩
abbrev main_v33 : Ref sig .tc := ⟨.hbm, 64, rfl⟩
abbrev main_c_7 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_c : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_0 : Ref sig .tc := ⟨.hbm, 79, rfl⟩
abbrev main_call3_v12 : Ref sig .tc := ⟨.hbm, 80, rfl⟩
abbrev main_call3_v13 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v32 : Ref sig .tc := ⟨.smem, 0, rfl⟩
abbrev main_v34 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_v32.idx, main_v34.idx], fun | 0 => main_v32.names | 1 => main_v34.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x4 : Shape := ⟨2, ![16384, 4]⟩
abbrev S73728x2048 : Shape := ⟨2, ![73728, 2048]⟩
abbrev S1x32x2048x2048 : Shape := ⟨4, ![1, 32, 2048, 2048]⟩
abbrev S1x32x2048 : Shape := ⟨3, ![1, 32, 2048]⟩
abbrev S65536 : Shape := ⟨1, ![65536]⟩
abbrev S65536x1 : Shape := ⟨2, ![65536, 1]⟩
abbrev S32 : Shape := ⟨1, ![32]⟩
abbrev S1x32 : Shape := ⟨2, ![1, 32]⟩
abbrev S65536x32 : Shape := ⟨2, ![65536, 32]⟩
abbrev S_ : Shape := ⟨0, ![]⟩
abbrev S288 : Shape := ⟨1, ![288]⟩
abbrev S288x1 : Shape := ⟨2, ![288, 1]⟩
abbrev S288x32 : Shape := ⟨2, ![288, 32]⟩
abbrev S288x256x2048 : Shape := ⟨3, ![288, 256, 2048]⟩
abbrev S32x2048x2048 : Shape := ⟨3, ![32, 2048, 2048]⟩
abbrev S288x2048x2048 : Shape := ⟨3, ![288, 2048, 2048]⟩
abbrev S32x2048 : Shape := ⟨2, ![32, 2048]⟩
abbrev S288x2048 : Shape := ⟨2, ![288, 2048]⟩
abbrev S288x1x2048 : Shape := ⟨3, ![288, 1, 2048]⟩
abbrev S1 : Shape := ⟨1, ![1]⟩
abbrev S288x1x1 : Shape := ⟨3, ![288, 1, 1]⟩
abbrev S1179648x128 : Shape := ⟨2, ![1179648, 128]⟩

abbrev nBuf : Space → Nat
  | .hbm => 112
  | .vmem => 0
  | .smem => 0
  | _ => 0

abbrev bufTy : (tb : Table) → Fin (tcTables nBuf tb) → BufTy
  | .hbm, ⟨0, _⟩ => ⟨S16384x4, .i32⟩
  | .hbm, ⟨1, _⟩ => ⟨S73728x2048, .f32⟩
  | .hbm, ⟨2, _⟩ => ⟨S1x32x2048x2048, .f32⟩
  | .hbm, ⟨3, _⟩ => ⟨S1x32x2048, .f32⟩
  | .hbm, ⟨4, _⟩ => ⟨S65536, .i32⟩
  | .hbm, ⟨5, _⟩ => ⟨S65536x1, .i32⟩
  | .hbm, ⟨6, _⟩ => ⟨S32, .i32⟩
  | .hbm, ⟨7, _⟩ => ⟨S1x32, .i32⟩
  | .hbm, ⟨8, _⟩ => ⟨S65536x32, .i32⟩
  | .hbm, ⟨9, _⟩ => ⟨S65536x32, .i32⟩
  | .hbm, ⟨10, _⟩ => ⟨S65536x32, .i1⟩
  | .hbm, ⟨11, _⟩ => ⟨S65536x32, .i32⟩
  | .hbm, ⟨12, _⟩ => ⟨S_, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i1⟩
  | .hbm, ⟨33, _⟩ => ⟨S32, .i1⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S32, .i32⟩
  | .hbm, ⟨38, _⟩ => ⟨S_, .i32⟩
  | .hbm, ⟨39, _⟩ => ⟨S32, .i32⟩
  | .hbm, ⟨40, _⟩ => ⟨S32, .i32⟩
  | .hbm, ⟨41, _⟩ => ⟨S_, .i32⟩
  | .hbm, ⟨42, _⟩ => ⟨S_, .i32⟩
  | .hbm, ⟨43, _⟩ => ⟨S32, .i32⟩
  | .hbm, ⟨44, _⟩ => ⟨S288, .i32⟩
  | .hbm, ⟨45, _⟩ => ⟨S_, .i32⟩
  | .hbm, ⟨46, _⟩ => ⟨S288, .i32⟩
  | .hbm, ⟨47, _⟩ => ⟨S288, .i32⟩
  | .hbm, ⟨48, _⟩ => ⟨S_, .i32⟩
  | .hbm, ⟨49, _⟩ => ⟨S288, .i32⟩
  | .hbm, ⟨50, _⟩ => ⟨S288, .i32⟩
  | .hbm, ⟨51, _⟩ => ⟨S1x32, .i32⟩
  | .hbm, ⟨52, _⟩ => ⟨S288x1, .i32⟩
  | .hbm, ⟨53, _⟩ => ⟨S288x32, .i32⟩
  | .hbm, ⟨54, _⟩ => ⟨S288x32, .i32⟩
  | .hbm, ⟨55, _⟩ => ⟨S288x32, .i1⟩
  | .hbm, ⟨56, _⟩ => ⟨S288x32, .i32⟩
  | .hbm, ⟨57, _⟩ => ⟨S_, .i32⟩
  | .hbm, ⟨58, _⟩ => ⟨S288, .i32⟩
  | .hbm, ⟨59, _⟩ => ⟨S_, .i32⟩
  | .hbm, ⟨60, _⟩ => ⟨S288, .i32⟩
  | .hbm, ⟨61, _⟩ => ⟨S288, .i32⟩
  | .hbm, ⟨62, _⟩ => ⟨S288x256x2048, .f32⟩
  | .hbm, ⟨63, _⟩ => ⟨S32x2048x2048, .f32⟩
  | .hbm, ⟨64, _⟩ => ⟨S_, .i32⟩
  | .hbm, ⟨65, _⟩ => ⟨S288, .i32⟩
  | .hbm, ⟨66, _⟩ => ⟨S288, .i1⟩
  | .hbm, ⟨67, _⟩ => ⟨S_, .i32⟩
  | .hbm, ⟨68, _⟩ => ⟨S288, .i32⟩
  | .hbm, ⟨69, _⟩ => ⟨S288, .i32⟩
  | .hbm, ⟨70, _⟩ => ⟨S288, .i32⟩
  | .hbm, ⟨71, _⟩ => ⟨S288x1, .i32⟩
  | .hbm, ⟨72, _⟩ => ⟨S288x2048x2048, .f32⟩
  | .hbm, ⟨73, _⟩ => ⟨S288x256x2048, .f32⟩
  | .hbm, ⟨74, _⟩ => ⟨S32x2048, .f32⟩
  | .hbm, ⟨75, _⟩ => ⟨S_, .i32⟩
  | .hbm, ⟨76, _⟩ => ⟨S288, .i32⟩
  | .hbm, ⟨77, _⟩ => ⟨S288, .i1⟩
  | .hbm, ⟨78, _⟩ => ⟨S_, .i32⟩
  | .hbm, ⟨79, _⟩ => ⟨S288, .i32⟩
  | .hbm, ⟨80, _⟩ => ⟨S288, .i32⟩
  | .hbm, ⟨81, _⟩ => ⟨S288, .i32⟩
  | .hbm, ⟨82, _⟩ => ⟨S288x1, .i32⟩
  | .hbm, ⟨83, _⟩ => ⟨S288x2048, .f32⟩
  | .hbm, ⟨84, _⟩ => ⟨S288x1x2048, .f32⟩
  | .hbm, ⟨85, _⟩ => ⟨S288x256x2048, .f32⟩
  | .hbm, ⟨86, _⟩ => ⟨S288x256x2048, .f32⟩
  | .hbm, ⟨87, _⟩ => ⟨S288, .i32⟩
  | .hbm, ⟨88, _⟩ => ⟨S1, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i1⟩
  | .hbm, ⟨96, _⟩ => ⟨S_, .i32⟩
  | .hbm, ⟨97, _⟩ => ⟨S_, .i32⟩
  | .hbm, ⟨98, _⟩ => ⟨S_, .i1⟩
  | .hbm, ⟨99, _⟩ => ⟨S_, .i1⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S288, .i32⟩
  | .hbm, ⟨104, _⟩ => ⟨S288, .i1⟩
  | .hbm, ⟨105, _⟩ => ⟨S288x1x1, .i1⟩
  | .hbm, ⟨106, _⟩ => ⟨S_, .f32⟩
  | .hbm, ⟨107, _⟩ => ⟨S_, .f32⟩
  | .hbm, ⟨108, _⟩ => ⟨S288x256x2048, .i1⟩
  | .hbm, ⟨109, _⟩ => ⟨S288x256x2048, .f32⟩
  | .hbm, ⟨110, _⟩ => ⟨S288x256x2048, .f32⟩
  | .hbm, ⟨111, _⟩ => ⟨S1179648x128, .f32⟩
  | _, _ => ⟨S16384x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_call1_call0_c : Ref sig .tc := ⟨.hbm, 41, rfl⟩
abbrev main_call1_call0_v0 : Ref sig .tc := ⟨.hbm, 42, rfl⟩
abbrev main_v16 : Ref sig .tc := ⟨.hbm, 43, rfl⟩
abbrev main_v17 : Ref sig .tc := ⟨.hbm, 44, rfl⟩
abbrev main_c_4 : Ref sig .tc := ⟨.hbm, 45, rfl⟩
abbrev main_v18 : Ref sig .tc := ⟨.hbm, 46, rfl⟩
abbrev main_v19 : Ref sig .tc := ⟨.hbm, 47, rfl⟩
abbrev main_c_5 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_6 : Ref sig .tc := ⟨.hbm, 57, rfl⟩
abbrev main_v28 : Ref sig .tc := ⟨.hbm, 58, rfl⟩
abbrev main_c_7 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_8 : Ref sig .tc := ⟨.hbm, 64, rfl⟩
abbrev main_v33 : Ref sig .tc := ⟨.hbm, 65, rfl⟩
abbrev main_v34 : Ref sig .tc := ⟨.hbm, 66, rfl⟩
abbrev main_c_9 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_10 : Ref sig .tc := ⟨.hbm, 75, rfl⟩
abbrev main_v42 : Ref sig .tc := ⟨.hbm, 76, rfl⟩
abbrev main_v43 : Ref sig .tc := ⟨.hbm, 77, rfl⟩
abbrev main_c_11 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_12 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_c : Ref sig .tc := ⟨.hbm, 97, rfl⟩
abbrev main_call2_v6 : Ref sig .tc := ⟨.hbm, 98, rfl⟩
abbrev main_call2_v7 : Ref sig .tc := ⟨.hbm, 99, rfl⟩
abbrev main_call2_c_0 : Ref sig .tc := ⟨.hbm, 100, rfl⟩
abbrev main_call2_v8 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v59 : Ref sig .tc := ⟨.hbm, 110, rfl⟩
abbrev main_v60 : Ref sig .tc := ⟨.hbm, 111, rfl⟩

abbrev nD : Nat := 1
abbrev τ : Topo := Topo.v7x

variable {F : FTy → Type} [FloatOps F]
-- ==== Kernel4.lean ====
abbrev S16384x1024 : Shape := ⟨2, ![16384, 1024]⟩
abbrev S16384x4096 : Shape := ⟨2, ![16384, 4096]⟩
abbrev S16384x2048 : Shape := ⟨2, ![16384, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S1024x2048 : Shape := ⟨2, ![1024, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S262144x128 : Shape := ⟨2, ![262144, 128]⟩
abbrev S16384x128 : Shape := ⟨2, ![16384, 128]⟩
abbrev S256x1024 : Shape := ⟨2, ![256, 1024]⟩
abbrev S256x4096 : Shape := ⟨2, ![256, 4096]⟩
abbrev S256x2048 : Shape := ⟨2, ![256, 2048]⟩
abbrev S4096x128 : Shape := ⟨2, ![4096, 128]⟩
abbrev S256x128 : Shape := ⟨2, ![256, 128]⟩
abbrev S256 : Shape := ⟨1, ![256]⟩
abbrev S256x1 : Shape := ⟨2, ![256, 1]⟩
abbrev S256x32 : Shape := ⟨2, ![256, 32]⟩

abbrev nBuf : Space → Nat
  | .hbm => 25
  | .vmem => 22
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x4096, .bf16⟩
  | .hbm, ⟨3, _⟩ => ⟨S16384x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x32, .f32⟩
  | .hbm, ⟨9, _⟩ => ⟨S1x32, .f32⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S2048x2048, .f32⟩
  | .hbm, ⟨15, _⟩ => ⟨S2048x2048, .bf16⟩
  | .hbm, ⟨16, _⟩ => ⟨S2048, .f32⟩
  | .hbm, ⟨17, _⟩ => ⟨S1x2048, .f32⟩
  | .hbm, ⟨18, _⟩ => ⟨S2048x32, .f32⟩
  | .hbm, ⟨19, _⟩ => ⟨S32, .f32⟩
  | .hbm, ⟨20, _⟩ => ⟨S1x32, .f32⟩
  | .hbm, ⟨21, _⟩ => ⟨S16384x2048, .f32⟩
  | .hbm, ⟨22, _⟩ => ⟨S262144x128, .f32⟩
  | .hbm, ⟨23, _⟩ => ⟨S16384x128, .i32⟩
  | .hbm, ⟨24, _⟩ => ⟨S16384x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x4096, .bf16⟩
  | .local _ .vmem, ⟨5, _⟩ => ⟨S256x4096, .bf16⟩
  | .local _ .vmem, ⟨6, _⟩ => ⟨S256x2048, .f32⟩
  | .local _ .vmem, ⟨7, _⟩ => ⟨S256x2048, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x2048, .f32⟩
  | .local _ .vmem, ⟨12, _⟩ => ⟨S2048x32, .f32⟩
  | .local _ .vmem, ⟨13, _⟩ => ⟨S1x32, .f32⟩
  | .local _ .vmem, ⟨14, _⟩ => ⟨S256x2048, .f32⟩
  | .local _ .vmem, ⟨15, _⟩ => ⟨S256x2048, .f32⟩
  | .local _ .vmem, ⟨16, _⟩ => ⟨S4096x128, .f32⟩
  | .local _ .vmem, ⟨17, _⟩ => ⟨S4096x128, .f32⟩
  | .local _ .vmem, ⟨18, _⟩ => ⟨S256x128, .i32⟩
  | .local _ .vmem, ⟨19, _⟩ => ⟨S256x128, .i32⟩
  | .local _ .vmem, ⟨20, _⟩ => ⟨S256x128, .f32⟩
  | .local _ .vmem, ⟨21, _⟩ => ⟨S256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S16384x1024 : Shape := ⟨2, ![16384, 1024]⟩
abbrev S16384x4096 : Shape := ⟨2, ![16384, 4096]⟩
abbrev S16384x2048 : Shape := ⟨2, ![16384, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x32 : Shape := ⟨3, ![1, 2048, 32]⟩
abbrev S1x32 : Shape := ⟨2, ![1, 32]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S262144x128 : Shape := ⟨2, ![262144, 128]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x4096, .bf16⟩
  | .hbm, ⟨3, _⟩ => ⟨S16384x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x32, .f32⟩
  | .hbm, ⟨9, _⟩ => ⟨S1x32, .f32⟩
  | .hbm, ⟨10, _⟩ => ⟨S16384x4096, .f32⟩
  | .hbm, ⟨11, _⟩ => ⟨S16384x2048, .f32⟩
  | .hbm, ⟨12, _⟩ => ⟨S16384x2048, .f32⟩
  | .hbm, ⟨13, _⟩ => ⟨S16384x1024, .f32⟩
  | .hbm, ⟨14, _⟩ => ⟨S1024x2048, .f32⟩
  | .hbm, ⟨15, _⟩ => ⟨S16384x2048, .f32⟩
  | .hbm, ⟨16, _⟩ => ⟨S16384x1024, .f32⟩
  | .hbm, ⟨17, _⟩ => ⟨S1024x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S2048x2048, .f32⟩
  | .hbm, ⟨23, _⟩ => ⟨S16384x2048, .f32⟩
  | .hbm, ⟨24, _⟩ => ⟨S16384x2048, .f32⟩
  | .hbm, ⟨25, _⟩ => ⟨S2048, .f32⟩
  | .hbm, ⟨26, _⟩ => ⟨S16384x2048, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S262144x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel5.lean ====
abbrev S8x2048x4x2x128 : Shape := ⟨5, ![8, 2048, 4, 2, 128]⟩
abbrev S8x2048x2x4x256 : Shape := ⟨5, ![8, 2048, 2, 4, 256]⟩
abbrev S1x4x128 : Shape := ⟨3, ![1, 4, 128]⟩
abbrev S1x256 : Shape := ⟨2, ![1, 256]⟩
abbrev S1x32x2048x2048 : Shape := ⟨4, ![1, 32, 2048, 2048]⟩
abbrev S4 : Shape := ⟨1, ![4]⟩
abbrev S_ : Shape := ⟨0, ![]⟩
abbrev S1x4 : Shape := ⟨2, ![1, 4]⟩
abbrev S8x2048x1024 : Shape := ⟨3, ![8, 2048, 1024]⟩
abbrev S8x2048x2048 : Shape := ⟨3, ![8, 2048, 2048]⟩
abbrev S4x128 : Shape := ⟨2, ![4, 128]⟩
abbrev S256 : Shape := ⟨1, ![256]⟩
abbrev S32x2048x2048 : Shape := ⟨3, ![32, 2048, 2048]⟩
abbrev S65536x2048 : Shape := ⟨2, ![65536, 2048]⟩
abbrev S1x256x256 : Shape := ⟨3, ![1, 256, 256]⟩
abbrev S1x2048x256 : Shape := ⟨3, ![1, 2048, 256]⟩
abbrev S256x2048 : Shape := ⟨2, ![256, 2048]⟩
abbrev S1x256x128 : Shape := ⟨3, ![1, 256, 128]⟩
abbrev S256x128 : Shape := ⟨2, ![256, 128]⟩
abbrev S1x1 : Shape := ⟨2, ![1, 1]⟩
abbrev S256x256 : Shape := ⟨2, ![256, 256]⟩
abbrev S256x1 : Shape := ⟨2, ![256, 1]⟩
abbrev S1x128 : Shape := ⟨2, ![1, 128]⟩
abbrev S1 : Shape := ⟨1, ![1]⟩

abbrev nBuf : Space → Nat
  | .hbm => 33
  | .vmem => 14
  | .smem => 1
  | _ => 0

abbrev bufTy : (tb : Table) → Fin (tcTables nBuf tb) → BufTy
  | .hbm, ⟨0, _⟩ => ⟨S8x2048x4x2x128, .f32⟩
  | .hbm, ⟨1, _⟩ => ⟨S8x2048x2x4x256, .f32⟩
  | .hbm, ⟨2, _⟩ => ⟨S1x4x128, .f32⟩
  | .hbm, ⟨3, _⟩ => ⟨S1x256, .f32⟩
  | .hbm, ⟨4, _⟩ => ⟨S1x32x2048x2048, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S1x4, .f32⟩
  | .hbm, ⟨20, _⟩ => ⟨S_, .f32⟩
  | .hbm, ⟨21, _⟩ => ⟨S8x2048x4x2x128, .f32⟩
  | .hbm, ⟨22, _⟩ => ⟨S8x2048x4x2x128, .f32⟩
  | .hbm, ⟨23, _⟩ => ⟨S8x2048x4x2x128, .bf16⟩
  | .hbm, ⟨24, _⟩ => ⟨S8x2048x1024, .bf16⟩
  | .hbm, ⟨25, _⟩ => ⟨S8x2048x2048, .f32⟩
  | .hbm, ⟨26, _⟩ => ⟨S4x128, .f32⟩
  | .hbm, ⟨27, _⟩ => ⟨S256, .f32⟩
  | .hbm, ⟨28, _⟩ => ⟨S1x256, .f32⟩
  | .hbm, ⟨29, _⟩ => ⟨S32x2048x2048, .f32⟩
  | .hbm, ⟨30, _⟩ => ⟨S65536x2048, .f32⟩
  | .hbm, ⟨31, _⟩ => ⟨S8x2048x1024, .bf16⟩
  | .hbm, ⟨32, _⟩ => ⟨S65536x2048, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S4x128, .f32⟩
  | .local _ .vmem, ⟨7, _⟩ => ⟨S1x256, .f32⟩
  | .local _ .vmem, ⟨8, _⟩ => ⟨S256x2048, .f32⟩
  | .local _ .vmem, ⟨9, _⟩ => ⟨S256x2048, .f32⟩
  | .local _ .vmem, ⟨10, _⟩ => ⟨S1x256x256, .bf16⟩
  | .local _ .vmem, ⟨11, _⟩ => ⟨S1x256x256, .bf16⟩
  | .local _ .vmem, ⟨12, _⟩ => ⟨S256x2048, .bf16⟩
  | .local _ .vmem, ⟨13, _⟩ => ⟨S256x2048, .bf16⟩
  | .local _ .smem, ⟨0, _⟩ => ⟨S1x4, .f32⟩
  | _, _ => ⟨S8x2048x4x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 2 → Nat :=
  let c0_8 : Index := 0#32
  let arg1 : BitVec 32 := BitVec.ofNat 32 (i 1).val
  let v8 : Index := Scalar.indexCast arg1
  ![0, v8.toNat]
def k0_mult1 (i : grid0.Coords) : BitVec 32 :=
  let arg2 : BitVec 32 := BitVec.ofNat 32 (i 2).val
  let c256_i32 : BitVec 32 := 256#32
  let v23 : BitVec 32 := Scalar.muli arg2 c256_i32
  v23
def k0_off2 (i : grid0.Coords) : Fin 3 → Nat :=
  let c0_12 : Index := 0#32
  let arg2 : BitVec 32 := BitVec.ofNat 32 (i 2).val
  let c256_i32 : BitVec 32 := 256#32
  let v23 : BitVec 32 := Scalar.muli arg2 c256_i32
  let v24 : BitVec 32 := v23
  let v25 : Index := Scalar.indexCast v24
  let c0_13 : Index := 0#32
  ![0, v25.toNat, 0]
def k0_off3 (i : grid0.Coords) : Fin 3 → Nat :=
  let c0_14 : Index := 0#32
  let arg2 : BitVec 32 := BitVec.ofNat 32 (i 2).val
  let c256_i32 : BitVec 32 := 256#32
  let v23 : BitVec 32 := Scalar.muli arg2 c256_i32
  let v24 : BitVec 32 := v23
  let v29 : Index := Scalar.indexCast v24
  let c128_15 : Index := 128#32
  ![0, v29.toNat, 128]
def k0_off4 (i : grid0.Coords) : Fin 3 → Nat :=
  let c0_16 : Index := 0#32
  let arg2 : BitVec 32 := BitVec.ofNat 32 (i 2).val
  let c256_i32 : BitVec 32 := 256#32
  let v23 : BitVec 32 := Scalar.muli arg2 c256_i32
  let v24 : BitVec 32 := v23
  let v33 : Index := Scalar.indexCast v24
  let c0_17 : Index := 0#32
  ![0, v33.toNat, 0]
@[reducible] def k0_t1_loop (i : grid0.Coords) : Scf.Loop 32 :=
  let c0_i32 : BitVec 32 := 0#32
  let arg2 : BitVec 32 := BitVec.ofNat 32 (i 2).val
  let v85 : BitVec 32 := Scalar.subi arg2 c0_i32
  let c1_i32 : BitVec 32 := 1#32
  let v87 : BitVec 32 := Scalar.divsi v85 c1_i32
  let v88 : BitVec 32 := Scalar.muli v87 c1_i32
  let v89 : BitVec 32 := Scalar.addi c0_i32 v88
  let c1_i32_29 : BitVec 32 := 1#32
  ⟨c0_i32, v89, c1_i32_29⟩
def k0_mult2 (i : grid0.Coords) (k0_t1 : Fin (k0_t1_loop i).trips) : BitVec 32 :=
  let c0_i32 : BitVec 32 := 0#32
  let c1_i32_29 : BitVec 32 := 1#32
  let arg12 : BitVec 32 := Scf.iv c0_i32 c1_i32_29 k0_t1
  let c256_i32_48 : BitVec 32 := 256#32
  let v138 : BitVec 32 := Scalar.muli arg12 c256_i32_48
  v138
def k0_off5 (i : grid0.Coords) (k0_t1 : Fin (k0_t1_loop i).trips) : Fin 3 → Nat :=
  let c0_49 : Index := 0#32
  let c0_i32 : BitVec 32 := 0#32
  let c1_i32_29 : BitVec 32 := 1#32
  let arg12 : BitVec 32 := Scf.iv c0_i32 c1_i32_29 k0_t1
  let c256_i32_48 : BitVec 32 := 256#32
  let v138 : BitVec 32 := Scalar.muli arg12 c256_i32_48
  let v139 : BitVec 32 := v138
  let v140 : Index := Scalar.indexCast v139
  let c0_50 : Index := 0#32
  ![0, v140.toNat, 0]
def k0_off6 (i : grid0.Coords) (k0_t1 : Fin (k0_t1_loop i).trips) : Fin 3 → Nat :=
  let c0_51 : Index := 0#32
  let c0_i32 : BitVec 32 := 0#32
  let c1_i32_29 : BitVec 32 := 1#32
  let arg12 : BitVec 32 := Scf.iv c0_i32 c1_i32_29 k0_t1
  let c256_i32_48 : BitVec 32 := 256#32
  let v138 : BitVec 32 := Scalar.muli arg12 c256_i32_48
  let v139 : BitVec 32 := v138
  let v144 : Index := Scalar.indexCast v139
  let c128_52 : Index := 128#32
  ![0, v144.toNat, 128]
def k0_off7 (i : grid0.Coords) (k0_t1 : Fin (k0_t1_loop i).trips) : Fin 3 → Nat :=
  let c0_53 : Index := 0#32
  let c0_i32 : BitVec 32 := 0#32
  let c1_i32_29 : BitVec 32 := 1#32
  let arg12 : BitVec 32 := Scf.iv c0_i32 c1_i32_29 k0_t1
  let c256_i32_48 : BitVec 32 := 256#32
  let v138 : BitVec 32 := Scalar.muli arg12 c256_i32_48
  let v139 : BitVec 32 := v138
  let v148 : Index := Scalar.indexCast v139
  let c0_54 : Index := 0#32
  ![0, v148.toNat, 0]
@[reducible] def k0_t2_loop (i : grid0.Coords) : Scf.Loop 32 :=
  let c0_i32 : BitVec 32 := 0#32
  let arg2 : BitVec 32 := BitVec.ofNat 32 (i 2).val
  let v85 : BitVec 32 := Scalar.subi arg2 c0_i32
  let c1_i32 : BitVec 32 := 1#32
  let v87 : BitVec 32 := Scalar.divsi v85 c1_i32
  let v88 : BitVec 32 := Scalar.muli v87 c1_i32
  let v89 : BitVec 32 := Scalar.addi c0_i32 v88
  let v86 : BitVec 32 := Scalar.addi c0_i32 v85
  let c1_i32_30 : BitVec 32 := 1#32
  ⟨v89, v86, c1_i32_30⟩
def k0_mult3 (i : grid0.Coords) (k0_t2 : Fin (k0_t2_loop i).trips) : BitVec 32 :=
  let c0_i32 : BitVec 32 := 0#32
  let arg2 : BitVec 32 := BitVec.ofNat 32 (i 2).val
  let v85 : BitVec 32 := Scalar.subi arg2 c0_i32
  let c1_i32 : BitVec 32 := 1#32
  let v87 : BitVec 32 := Scalar.divsi v85 c1_i32
  let v88 : BitVec 32 := Scalar.muli v87 c1_i32
  let v89 : BitVec 32 := Scalar.addi c0_i32 v88
  let c1_i32_30 : BitVec 32 := 1#32
  let arg12 : BitVec 32 := Scf.iv v89 c1_i32_30 k0_t2
  let c256_i32_48 : BitVec 32 := 256#32
  let v138 : BitVec 32 := Scalar.muli arg12 c256_i32_48
  v138
def k0_off8 (i : grid0.Coords) (k0_t2 : Fin (k0_t2_loop i).trips) : Fin 3 → Nat :=
  let c0_49 : Index := 0#32
  let c0_i32 : BitVec 32 := 0#32
  let arg2 : BitVec 32 := BitVec.ofNat 32 (i 2).val
  let v85 : BitVec 32 := Scalar.subi arg2 c0_i32
  let c1_i32 : BitVec 32 := 1#32
  let v87 : BitVec 32 := Scalar.divsi v85 c1_i32
  let v88 : BitVec 32 := Scalar.muli v87 c1_i32
  let v89 : BitVec 32 := Scalar.addi c0_i32 v88
  let c1_i32_30 : BitVec 32 := 1#32
  let arg12 : BitVec 32 := Scf.iv v89 c1_i32_30 k0_t2
  let c256_i32_48 : BitVec 32 := 256#32
  let v138 : BitVec 32 := Scalar.muli arg12 c256_i32_48
  let v139 : BitVec 32 := v138
  let v140 : Index := Scalar.indexCast v139
  let c0_50 : Index := 0#32
  ![0, v140.toNat, 0]
def k0_off9 (i : grid0.Coords) (k0_t2 : Fin (k0_t2_loop i).trips) : Fin 3 → Nat :=
  let c0_51 : Index := 0#32
  let c0_i32 : BitVec 32 := 0#32
  let arg2 : BitVec 32 := BitVec.ofNat 32 (i 2).val
  let v85 : BitVec 32 := Scalar.subi arg2 c0_i32
  let c1_i32 : BitVec 32 := 1#32
  let v87 : BitVec 32 := Scalar.divsi v85 c1_i32
  let v88 : BitVec 32 := Scalar.muli v87 c1_i32
  let v89 : BitVec 32 := Scalar.addi c0_i32 v88
  let c1_i32_30 : BitVec 32 := 1#32
  let arg12 : BitVec 32 := Scf.iv v89 c1_i32_30 k0_t2
  let c256_i32_48 : BitVec 32 := 256#32
  let v138 : BitVec 32 := Scalar.muli arg12 c256_i32_48
  let v139 : BitVec 32 := v138
  let v144 : Index := Scalar.indexCast v139
  let c128_52 : Index := 128#32
  ![0, v144.toNat, 128]
def k0_off10 (i : grid0.Coords) (k0_t2 : Fin (k0_t2_loop i).trips) : Fin 3 → Nat :=
  let c0_53 : Index := 0#32
  let c0_i32 : BitVec 32 := 0#32
  let arg2 : BitVec 32 := BitVec.ofNat 32 (i 2).val
  let v85 : BitVec 32 := Scalar.subi arg2 c0_i32
  let c1_i32 : BitVec 32 := 1#32
  let v87 : BitVec 32 := Scalar.divsi v85 c1_i32
  let v88 : BitVec 32 := Scalar.muli v87 c1_i32
  let v89 : BitVec 32 := Scalar.addi c0_i32 v88
  let c1_i32_30 : BitVec 32 := 1#32
  let arg12 : BitVec 32 := Scf.iv v89 c1_i32_30 k0_t2
  let c256_i32_48 : BitVec 32 := 256#32
  let v138 : BitVec 32 := Scalar.muli arg12 c256_i32_48
  let v139 : BitVec 32 := v138
  let v148 : Index := Scalar.indexCast v139
  let c0_54 : Index := 0#32
  ![0, v148.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  ![v3.toNat, c0_i32.toNat]

abbrev stage0_0 : Fin 1 → Memref sig .tc .smem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel5Ideal.lean ====
variable {F : FTy → Type} [FloatOps F] [Named F]
def κ : String → Option EReal := fun
  | "mask" => some ⊥
  | _ => none
-- ==== Reference5Ideal.lean ====
abbrev S8x2048x4x2x128 : Shape := ⟨5, ![8, 2048, 4, 2, 128]⟩
abbrev S8x2048x2x4x256 : Shape := ⟨5, ![8, 2048, 2, 4, 256]⟩
abbrev S1x4x128 : Shape := ⟨3, ![1, 4, 128]⟩
abbrev S1x256 : Shape := ⟨2, ![1, 256]⟩
abbrev S1x32x2048x2048 : Shape := ⟨4, ![1, 32, 2048, 2048]⟩
abbrev S8x2048x1x4x256 : Shape := ⟨5, ![8, 2048, 1, 4, 256]⟩
abbrev S8x2048x4x256 : Shape := ⟨4, ![8, 2048, 4, 256]⟩
abbrev S4x128 : Shape := ⟨2, ![4, 128]⟩
abbrev S1x128 : Shape := ⟨2, ![1, 128]⟩
abbrev S128 : Shape := ⟨1, ![128]⟩
abbrev S_ : Shape := ⟨0, ![]⟩
abbrev S2048 : Shape := ⟨1, ![2048]⟩
abbrev S8x4x2x2048x2048 : Shape := ⟨5, ![8, 4, 2, 2048, 2048]⟩
abbrev S4 : Shape := ⟨1, ![4]⟩
abbrev S2048x1 : Shape := ⟨2, ![2048, 1]⟩
abbrev S1x2048 : Shape := ⟨2, ![1, 2048]⟩
abbrev S2048x2048 : Shape := ⟨2, ![2048, 2048]⟩
abbrev S4x1x1x1 : Shape := ⟨4, ![4, 1, 1, 1]⟩
abbrev S1x1x2048x2048 : Shape := ⟨4, ![1, 1, 2048, 2048]⟩
abbrev S4x1x2048x2048 : Shape := ⟨4, ![4, 1, 2048, 2048]⟩
abbrev S1x4x1x2048x2048 : Shape := ⟨5, ![1, 4, 1, 2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x256x2048 : Shape := ⟨4, ![8, 4, 256, 2048]⟩
abbrev S256 : Shape := ⟨1, ![256]⟩
abbrev S8x2048x4 : Shape := ⟨3, ![8, 2048, 4]⟩
abbrev S8x2048x4x1 : Shape := ⟨4, ![8, 2048, 4, 1]⟩
abbrev S1x1x1x256 : Shape := ⟨4, ![1, 1, 1, 256]⟩
abbrev S8x2048x1024 : Shape := ⟨3, ![8, 2048, 1024]⟩
abbrev S65536x2048 : Shape := ⟨2, ![65536, 2048]⟩

abbrev nBuf : Space → Nat
  | .hbm => 120
  | .vmem => 0
  | .smem => 0
  | _ => 0

abbrev bufTy : (tb : Table) → Fin (tcTables nBuf tb) → BufTy
  | .hbm, ⟨0, _⟩ => ⟨S8x2048x4x2x128, .f32⟩
  | .hbm, ⟨1, _⟩ => ⟨S8x2048x2x4x256, .f32⟩
  | .hbm, ⟨2, _⟩ => ⟨S1x4x128, .f32⟩
  | .hbm, ⟨3, _⟩ => ⟨S1x256, .f32⟩
  | .hbm, ⟨4, _⟩ => ⟨S1x32x2048x2048, .f32⟩
  | .hbm, ⟨5, _⟩ => ⟨S8x2048x1x4x256, .f32⟩
  | .hbm, ⟨6, _⟩ => ⟨S8x2048x4x256, .f32⟩
  | .hbm, ⟨7, _⟩ => ⟨S8x2048x4x2x128, .f32⟩
  | .hbm, ⟨8, _⟩ => ⟨S4x128, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048, .i32⟩
  | .hbm, ⟨29, _⟩ => ⟨S8x2048x1x4x256, .f32⟩
  | .hbm, ⟨30, _⟩ => ⟨S8x2048x4x256, .f32⟩
  | .hbm, ⟨31, _⟩ => ⟨S8x4x2x2048x2048, .f32⟩
  | .hbm, ⟨32, _⟩ => ⟨S_, .f32⟩
  | .hbm, ⟨33, _⟩ => ⟨S8x4x2x2048x2048, .f32⟩
  | .hbm, ⟨34, _⟩ => ⟨S8x4x2x2048x2048, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S2048x1, .i32⟩
  | .hbm, ⟨50, _⟩ => ⟨S1x2048, .i32⟩
  | .hbm, ⟨51, _⟩ => ⟨S2048x2048, .i32⟩
  | .hbm, ⟨52, _⟩ => ⟨S2048x2048, .i32⟩
  | .hbm, ⟨53, _⟩ => ⟨S2048x2048, .i32⟩
  | .hbm, ⟨54, _⟩ => ⟨S2048x2048, .f32⟩
  | .hbm, ⟨55, _⟩ => ⟨S4x1x1x1, .f32⟩
  | .hbm, ⟨56, _⟩ => ⟨S1x1x2048x2048, .f32⟩
  | .hbm, ⟨57, _⟩ => ⟨S4x1x2048x2048, .f32⟩
  | .hbm, ⟨58, _⟩ => ⟨S4x1x2048x2048, .f32⟩
  | .hbm, ⟨59, _⟩ => ⟨S4x1x2048x2048, .f32⟩
  | .hbm, ⟨60, _⟩ => ⟨S1x4x1x2048x2048, .f32⟩
  | .hbm, ⟨61, _⟩ => ⟨S8x4x2x2048x2048, .f32⟩
  | .hbm, ⟨62, _⟩ => ⟨S8x4x2x2048x2048, .f32⟩
  | .hbm, ⟨63, _⟩ => ⟨S1x2048, .i32⟩
  | .hbm, ⟨64, _⟩ => ⟨S2048x1, .i32⟩
  | .hbm, ⟨65, _⟩ => ⟨S2048x2048, .i32⟩
  | .hbm, ⟨66, _⟩ => ⟨S2048x2048, .i32⟩
  | .hbm, ⟨67, _⟩ => ⟨S2048x2048, .i1⟩
  | .hbm, ⟨68, _⟩ => ⟨S_, .f32⟩
  | .hbm, ⟨69, _⟩ => ⟨S_, .f32⟩
  | .hbm, ⟨70, _⟩ => ⟨S8x4x2x2048x2048, .i1⟩
  | .hbm, ⟨71, _⟩ => ⟨S8x4x2x2048x2048, .f32⟩
  | .hbm, ⟨72, _⟩ => ⟨S8x4x2x2048x2048, .f32⟩
  | .hbm, ⟨73, _⟩ => ⟨S_, .f32⟩
  | .hbm, ⟨74, _⟩ => ⟨S8x4x2x2048, .f32⟩
  | .hbm, ⟨75, _⟩ => ⟨S_, .f32⟩
  | .hbm, ⟨76, _⟩ => ⟨S8x4x2x2048, .f32⟩
  | .hbm, ⟨77, _⟩ => ⟨S8x4x2x2048, .f32⟩
  | .hbm, ⟨78, _⟩ => ⟨S8x4x2x2048x1, .f32⟩
  | .hbm, ⟨79, _⟩ => ⟨S8x4x2x2048x2048, .f32⟩
  | .hbm, ⟨80, _⟩ => ⟨S8x4x2x2048x2048, .f32⟩
  | .hbm, ⟨81, _⟩ => ⟨S8x4x2x2048x2048, .f32⟩
  | .hbm, ⟨82, _⟩ => ⟨S_, .f32⟩
  | .hbm, ⟨83, _⟩ => ⟨S8x4x2x2048, .f32⟩
  | .hbm, ⟨84, _⟩ => ⟨S8x4x2x2048x1, .f32⟩
  | .hbm, ⟨85, _⟩ => ⟨S8x4x2x2048x2048, .f32⟩
  | .hbm, ⟨86, _⟩ => ⟨S8x4x2x2048x2048, .f32⟩
  | .hbm, ⟨87, _⟩ => ⟨S8x4x1x2048x2048, .f32⟩
  | .hbm, ⟨88, _⟩ => ⟨S8x4x2048x2048, .f32⟩
  | .hbm, ⟨89, _⟩ => ⟨S8x4x1x2048x2048, .f32⟩
  | .hbm, ⟨90, _⟩ => ⟨S8x4x2048x2048, .f32⟩
  | .hbm, ⟨91, _⟩ => ⟨S8x4x2048x2048, .f32⟩
  | .hbm, ⟨92, _⟩ => ⟨S8x4x2048x2048, .f32⟩
  | .hbm, ⟨93, _⟩ => ⟨S8x4x2048x2048, .f32⟩
  | .hbm, ⟨94, _⟩ => ⟨S8x4x256x2048, .f32⟩
  | .hbm, ⟨95, _⟩ => ⟨S8x2048x4x256, .f32⟩
  | .hbm, ⟨96, _⟩ => ⟨S256, .f32⟩
  | .hbm, ⟨97, _⟩ => ⟨S8x2048x4x256, .f32⟩
  | .hbm, ⟨98, _⟩ => ⟨S_, .f32⟩
  | .hbm, ⟨99, _⟩ => ⟨S8x2048x4, .f32⟩
  | .hbm, ⟨100, _⟩ => ⟨S8x2048x4x1, .f32⟩
  | .hbm, ⟨101, _⟩ => ⟨S_, .f32⟩
  | .hbm, ⟨102, _⟩ => ⟨S8x2048x4x1, .f32⟩
  | .hbm, ⟨103, _⟩ => ⟨S8x2048x4x1, .f32⟩
  | .hbm, ⟨104, _⟩ => ⟨S_, .f32⟩
  | .hbm, ⟨105, _⟩ => ⟨S8x2048x4x1, .f32⟩
  | .hbm, ⟨106, _⟩ => ⟨S8x2048x4x1, .f32⟩
  | .hbm, ⟨107, _⟩ => ⟨S8x2048x4x1, .f32⟩
  | .hbm, ⟨108, _⟩ => ⟨S8x2048x4x256, .f32⟩
  | .hbm, ⟨109, _⟩ => ⟨S8x2048x4x256, .f32⟩
  | .hbm, ⟨110, _⟩ => ⟨S1x1x1x256, .f32⟩
  | .hbm, ⟨111, _⟩ => ⟨S8x2048x4x256, .f32⟩
  | .hbm, ⟨112, _⟩ => ⟨S8x2048x4x256, .f32⟩
  | .hbm, ⟨113, _⟩ => ⟨S_, .f32⟩
  | .hbm, ⟨114, _⟩ => ⟨S8x2048x4x256, .f32⟩
  | .hbm, ⟨115, _⟩ => ⟨S8x2048x4x256, .f32⟩
  | .hbm, ⟨116, _⟩ => ⟨S8x2048x1024, .f32⟩
  | .hbm, ⟨117, _⟩ => ⟨S8x2048x1024, .bf16⟩
  | .hbm, ⟨118, _⟩ => ⟨S65536x2048, .f32⟩
  | .hbm, ⟨119, _⟩ => ⟨S65536x2048, .bf16⟩
  | _, _ => ⟨S8x2048x4x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_11 : Ref sig .tc := ⟨.hbm, 98, rfl⟩
abbrev main_v78 : Ref sig .tc := ⟨.hbm, 99, rfl⟩
abbrev main_v79 : Ref sig .tc := ⟨.hbm, 100, rfl⟩
abbrev main_cst_12 : Ref sig .tc := ⟨.hbm, 101, rfl⟩
abbrev main_v80 : Ref sig .tc := ⟨.hbm, 102, rfl⟩
abbrev main_v81 : Ref sig .tc := ⟨.hbm, 103, rfl⟩
abbrev main_cst_13 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_14 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩

abbrev nD : Nat := 1
abbrev τ : Topo := Topo.v7x

variable {F : FTy → Type} [FloatOps F]
-- ==== Proof.StickMath.lean ====
module

public import Idealize.ShloMosaic.Lib.Pointwise

@[expose] public section

noncomputable section

/-!
# The arithmetic of stick-breaking attention for one query

One query at position `t` meets real scores `Z s` and values `W s`. A key `s` before `t` takes the share
`exp (Z s + lf s + after s)`, where `lf s` is the logarithm of the part the key leaves and `after s` adds up `lf` over
the keys behind `s`. The sums over a suffix of the keys are what the kernel carries from one tile of keys to the next.
-/

namespace Cert.Stick

open Idealize.ShloMosaic

/-- `log (1 + exp x)`, as both programs compute it. -/
def sp (x : ℝ) : ℝ := max x 0 + Real.log (1 + Real.exp (-|x|))

/-- The logarithm of what key `s` leaves: nothing is taken by a key that is not before the query. -/
def lf (Z : ℕ → ℝ) (t s : ℕ) : ℝ := if s < t then -sp (Z s) else 0

/-- The sum of `lf` over the keys from `n` on. -/
def carry (Z : ℕ → ℝ) (t n : ℕ) : ℝ := ∑ j ∈ Finset.Ico n 2048, lf Z t j

/-- The share of key `s`. -/
def wt (Z : ℕ → ℝ) (t s : ℕ) : ℝ := if s < t then Real.exp (Z s + lf Z t s + carry Z t (s + 1)) else 0

/-- The weighted sum of the values from key `n` on. -/
def acc (Z : ℕ → ℝ) (W : ℕ → EReal) (t n : ℕ) : EReal := ∑ j ∈ Finset.Ico n 2048, (wt Z t j : EReal) * W j

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : max (x : EReal) (y : EReal) = ((max x y : ℝ) : EReal) :=
  (EReal.coe_strictMono.monotone.map_max).symm

theorem max_neg_coe (x : ℝ) : max (x : EReal) (-(x : EReal)) = ((|x| : ℝ) : EReal) := by
  rw [← EReal.coe_neg, coe_max]; rfl

theorem log_one_add_exp (y : ℝ) :
    Ideal.log (1 + Ideal.exp (y : EReal)) = ((Real.log (1 + Real.exp y) : ℝ) : EReal) := by
  rw [Ideal.exp_coe, ← EReal.coe_one, ← EReal.coe_add, Ideal.log_coe, if_neg]
  have := Real.exp_pos y
  linarith

theorem softplus_coe (x : ℝ) :
    max (x : EReal) 0 + Ideal.log (1 + Ideal.exp (0 - max (x : EReal) (-(x : EReal)))) = ((sp x : ℝ) : EReal) := by
  rw [max_neg_coe, zero_sub, ← EReal.coe_neg, log_one_add_exp, ← EReal.coe_zero, coe_max, ← EReal.coe_add]
  rfl

theorem neg_softplus_coe (x : ℝ) :
    0 - (max (x : EReal) 0 + Ideal.log (1 + Ideal.exp (0 - max (x : EReal) (-(x : EReal))))) =
      ((-sp x : ℝ) : EReal) := by
  rw [softplus_coe, zero_sub, ← EReal.coe_neg]

/-- A sum over the keys from `n` on is the sum over the tile at `n` and the one over the keys behind the tile. -/
theorem sum_tile {M : Type*} [AddCommMonoid M] (f : ℕ → M) {n : ℕ} (hn : n + 256 ≤ 2048) :
    ∑ j ∈ Finset.Ico (n + 256) 2048, f j + ∑ x : Fin 256, f (n + x) = ∑ j ∈ Finset.Ico n 2048, f j := by
  rw [← Finset.sum_Ico_consecutive f (show n ≤ n + 256 by omega) hn, add_comm, Finset.sum_Ico_eq_sum_range f n,
    Nat.add_sub_cancel_left, Finset.sum_range]

theorem carry_tile (Z : ℕ → ℝ) (t : ℕ) {n : ℕ} (hn : n + 256 ≤ 2048) :
    ((carry Z t (n + 256) : ℝ) : EReal) + ∑ x : Fin 256, ((lf Z t (n + x) : ℝ) : EReal) = (carry Z t n : ℝ) := by
  rw [← coe_sum, ← EReal.coe_add]
  exact congrArg _ (sum_tile (lf Z t) hn)

theorem acc_tile (Z : ℕ → ℝ) (W : ℕ → EReal) (t : ℕ) {n : ℕ} (hn : n + 256 ≤ 2048) :
    acc Z W t (n + 256) + ∑ x : Fin 256, ((wt Z t (n + x) : ℝ) : EReal) * W (n + x) = acc Z W t n :=
  sum_tile (fun j => ((wt Z t j : ℝ) : EReal) * W j) hn

/-- The keys of a tile behind key `n + x` and the keys behind the tile are the keys behind `n + x`. -/
theorem after_tile (Z : ℕ → ℝ) (t : ℕ) {n : ℕ} (hn : n + 256 ≤ 2048) (x : Fin 256) :
    ∑ y : Fin 256, (if x < y then lf Z t (n + y) else 0) + carry Z t (n + 256) = carry Z t (n + x + 1) := by
  unfold carry
  rw [← Finset.sum_Ico_consecutive (lf Z t) (show n + x + 1 ≤ n + 256 by omega) hn]
  congr 1
  have h := Finset.sum_range (n := 256) (fun y : ℕ => (if (x : ℕ) < y then lf Z t (n + y) else (0 : ℝ)))
  simp only [Fin.lt_def]
  rw [← h, ← Finset.sum_filter, Finset.sum_Ico_eq_sum_range]
  refine (Finset.sum_bij (M := ℝ) (fun (a : ℕ) _ => (x : ℕ) + 1 + a) ?_ ?_ ?_ ?_).symm
  · intro a ha; simp only [Finset.mem_range, Finset.mem_filter] at *; omega
  · intro a _ b _ hab; omega
  · intro b hb; simp only [Finset.mem_range, Finset.mem_filter] at hb
    exact ⟨b - (x + 1), Finset.mem_range.2 (by omega), by omega⟩
  · intro a _; congr 1; omega

/-- The exponent of key `n + x` as the kernel adds it up inside the tile at `n`: the suffix of the tile by a product
with a triangle of ones, on the rounded `lf` and on what the rounding left (nothing, in exact arithmetic). -/
theorem exponent_tile (Z : ℕ → ℝ) (t : ℕ) {n : ℕ} (hn : n + 256 ≤ 2048) (x : Fin 256) (T T' : Fin 256 → EReal)
    (hT : ∀ y, T y = if x < y then 1 else 0) :
    (Z (n + x) : EReal) + (lf Z t (n + x) : ℝ) +
        (∑ y : Fin 256, (lf Z t (n + y) : ℝ) * T y +
            ∑ y : Fin 256, (((lf Z t (n + y) : ℝ) : EReal) - (lf Z t (n + y) : ℝ)) * T' y +
          (carry Z t (n + 256) : ℝ)) =
      ((Z (n + x) + lf Z t (n + x) + carry Z t (n + x + 1) : ℝ) : EReal) := by
  have h1 : ∑ y : Fin 256, ((lf Z t (n + y) : ℝ) : EReal) * T y =
      ((∑ y : Fin 256, if x < y then lf Z t (n + y) else 0 : ℝ) : EReal) := by
    rw [coe_sum]
    refine Finset.sum_congr rfl fun y _ => ?_
    rw [hT]; split <;> simp
  have h2 : ∑ y : Fin 256, (((lf Z t (n + y) : ℝ) : EReal) - (lf Z t (n + y) : ℝ)) * T' y = 0 := by
    refine Finset.sum_eq_zero fun y _ => ?_
    rw [← EReal.coe_sub, sub_self, EReal.coe_zero, zero_mul]
  rw [h1, h2, add_zero, ← EReal.coe_add, ← EReal.coe_add, ← EReal.coe_add, after_tile Z t hn]

/-- Behind the query nothing is summed. -/
theorem carry_of_le (Z : ℕ → ℝ) {t n : ℕ} (h : t ≤ n) : carry Z t n = 0 :=
  Finset.sum_eq_zero fun j hj => if_neg (by have := (Finset.mem_Ico.1 hj).1; omega)

theorem acc_of_le (Z : ℕ → ℝ) (W : ℕ → EReal) {t n : ℕ} (h : t ≤ n) : acc Z W t n = 0 :=
  Finset.sum_eq_zero fun j hj => by
    rw [wt, if_neg (by have := (Finset.mem_Ico.1 hj).1; omega), EReal.coe_zero, zero_mul]

/-- The share of a key before the query, from its exponent. -/
theorem exp_wt (Z : ℕ → ℝ) {t s : ℕ} (h : s < t) :
    Ideal.exp ((Z s + lf Z t s + carry Z t (s + 1) : ℝ) : EReal) = (wt Z t s : ℝ) := by
  rw [wt, if_pos h, Ideal.exp_coe]

/-- The scale, a float word for about `1/√128`, is a real number. -/
theorem scale_real : ∃ c : ℝ, Ideal.ofBits .f32 0x3DB504F3#32 = (c : EReal) := by
  rw [Ideal.ofBits, Ideal.ieee]
  rw [if_neg (by decide), if_neg (by decide)]
  exact ⟨_, rfl⟩

section Layer

variable (Q : Fin 8 → Fin 2048 → Fin 8 → Fin 128 → EReal) (KV : Fin 8 → Fin 2048 → Fin 2 → Fin 8 → Fin 128 → EReal)

/-- The score of query `t` against key `s` in head `h` of batch entry `b` (0 past the last key), scale included. -/
def score (b : Fin 8) (h : Fin 8) (t : Fin 2048) (s : ℕ) : EReal :=
  if hs : s < 2048 then ∑ e : Fin 128, Q b t h e * Ideal.ofBits .f32 0x3DB504F3#32 * KV b ⟨s, hs⟩ 0 h e else 0

/-- The values of column `d` of head `h`, by key position. -/
def value (b : Fin 8) (h : Fin 8) (d : Fin 128) (s : ℕ) : EReal := if hs : s < 2048 then KV b ⟨s, hs⟩ 1 h d else 0

/-- One entry of the layer's attention. -/
def attend (b : Fin 8) (t : Fin 2048) (h : Fin 8) (d : Fin 128) : EReal :=
  acc (fun s => (score Q KV b h t s).toReal) (value KV b h d) t 0

/-- Every query and key entry is finite. -/
def Finite : Prop :=
  (∀ b t h e, ∃ x : ℝ, Q b t h e = (x : EReal)) ∧ ∀ b s h e, ∃ x : ℝ, KV b s 0 h e = (x : EReal)

variable {Q KV}

/-- So every score is a real number. -/
theorem Finite.score (hf : Finite Q KV) (b h : Fin 8) (t : Fin 2048) (s : ℕ) :
    score Q KV b h t s = ((score Q KV b h t s).toReal : EReal) := by
  obtain ⟨c, hc⟩ := scale_real
  unfold Stick.score
  split
  · choose f hf1 using hf.1
    choose g hg1 using hf.2
    have : ∀ x : EReal, (∃ y : ℝ, x = y) → x = (x.toReal : EReal) := by
      rintro _ ⟨y, rfl⟩; rw [EReal.toReal_coe]
    refine this _ ⟨∑ e : Fin 128, f b t h e * c * g b ⟨s, by assumption⟩ h e, ?_⟩
    rw [coe_sum]
    refine Finset.sum_congr rfl fun e _ => ?_
    rw [hf1, hg1, hc, EReal.coe_mul, EReal.coe_mul]
  · rw [EReal.toReal_zero, EReal.coe_zero]

end Layer

end Cert.Stick
-- ==== Proof.Tile.lean ====
module

public import proofs.«01_k».proof.Proof.Gen.KernelIdeal.Skeleton
public import proofs.«01_k».proof.Proof.StickMath
public import Idealize.ShloMosaic.Lib.WordCmp

@[expose] public section

set_option maxRecDepth 16384

noncomputable section

/-!
# What one tile of keys does to a query's running sums

The kernel holds, for each of two heads, a column of carried sums and a block of weighted values. The lemmas read one
entry of each after a tile of 256 keys, first for the tile on the diagonal (keys masked by position) and then for a
tile that lies wholly before the query.
-/

namespace Cert.KernelIdeal.Att

open Cert.KernelIdeal Cert.KernelIdeal.Gen Idealize.ShloMosaic Idealize.ShloMosaic.TcCoe Idealize.SL.Sem Cert.Stick

/-- The score of the first head of a step: query row `r` of the block against key row `x` of the tile. -/
def scoreLo (q : FVec Ideal S256x256 .bf16) (k : Vec Ideal S1x256x256 .f32) (r x : Fin 256) : EReal :=
  ∑ e : Fin 128, q (ix2 r ⟨e, by omega⟩) * k (ix3 0 x ⟨e, by omega⟩)

/-- The score of the second head of a step. -/
def scoreHi (q : FVec Ideal S256x256 .bf16) (k : Vec Ideal S1x256x256 .f32) (r x : Fin 256) : EReal :=
  ∑ e : Fin 128, q (ix2 r ⟨128 + e, by omega⟩) * k (ix3 0 x ⟨128 + e, by omega⟩)

theorem tri_lo (y x : Fin 256) : k0_pay27 (F := Ideal) (ix2 ⟨y, by omega⟩ x) = if x < y then 1 else 0 := by
  have h : IntOp.ori (IntOp.cmpi CmpIPredicate.slt (BitVec.ofNat 32 ↑y) 256#32)
      (IntOp.cmpi CmpIPredicate.sgt (BitVec.ofNat 32 ↑y) (IntOp.addi (BitVec.ofNat 32 ↑x) 256#32)) = 1#1 := by
    rw [show IntOp.cmpi CmpIPredicate.slt (BitVec.ofNat 32 ↑y) 256#32 = 1#1 by word_cmp]
    generalize IntOp.cmpi _ _ _ = b
    revert b; decide
  pointwise [k0_pay27]
  rw [h]
  by_cases hxy : x < y
  · rw [show IntOp.cmpi CmpIPredicate.sgt (BitVec.ofNat 32 ↑y) (BitVec.ofNat 32 ↑x) = 1#1 by word_cmp, if_pos hxy]
    show (((1#32 : BitVec 32).toInt : ℝ) : EReal) = 1
    norm_num
  · rw [show IntOp.cmpi CmpIPredicate.sgt (BitVec.ofNat 32 ↑y) (BitVec.ofNat 32 ↑x) = 0#1 by word_cmp, if_neg hxy]
    show (((0#32 : BitVec 32).toInt : ℝ) : EReal) = 0
    norm_num

theorem mask_at (r x : Fin 256) {α : Type} (a b : α) :
    Scalar.select (k0_pay30 (ix2 r x)) a b = if x < r then a else b := by
  pointwise [k0_pay30]
  by_cases h : x < r
  · rw [show IntOp.cmpi CmpIPredicate.slt (BitVec.ofNat 32 ↑x) (BitVec.ofNat 32 ↑r) = 1#1 by word_cmp, if_pos h]
    rfl
  · rw [show IntOp.cmpi CmpIPredicate.slt (BitVec.ofNat 32 ↑x) (BitVec.ofNat 32 ↑r) = 0#1 by word_cmp, if_neg h]
    rfl

variable {Z : ℕ → ℝ} {W : ℕ → EReal} {t n : ℕ} {r : Fin 256}
  {q : FVec Ideal S256x256 .bf16} {k v : Vec Ideal S1x256x256 .f32}

section Diagonal

variable (ht : t = n + r) (hn : n + 256 ≤ 2048)
include ht

theorem zero_carry : k0_pay28 (F := Ideal) (ix2 r 0) = (carry Z t (n + 256) : ℝ) := by
  rw [carry_of_le Z (by omega)]
  pointwise [k0_pay28]
  rfl

theorem zero_acc (d : Fin 128) : k0_pay29 (F := Ideal) (ix2 r d) = acc Z W t (n + 256) := by
  rw [acc_of_le Z W (by omega)]
  pointwise [k0_pay29]

theorem lf_diag {z : FVec Ideal S256x256 .f32} (x : Fin 256) (hz : z (ix2 r x) = (Z (n + x) : ℝ)) :
    k0_pay35 (F := Ideal) k0_pay30 z 0 (ix2 r x) = (lf Z t (n + x) : ℝ) := by
  pointwise [k0_pay35]
  rw [mask_at, Ideal.absf_def, hz, neg_softplus_coe, lf]
  by_cases h : x < r
  · rw [if_pos h, if_pos (by omega)]
  · rw [if_neg h, if_neg (by omega)]; rfl

theorem lf_diag' {z : FVec Ideal S256x256 .f32} (x : Fin 256) (hz : z (ix2 r x) = (sp (Z (n + x)) : ℝ)) :
    k0_pay1 (F := Ideal) k0_pay30 z 0 (ix2 r x) = (lf Z t (n + x) : ℝ) := by
  pointwise [k0_pay1]
  rw [mask_at, hz, zero_sub, ← EReal.coe_neg, lf]
  by_cases h : x < r
  · rw [if_pos h, if_pos (by omega)]
  · rw [if_neg h, if_neg (by omega)]; rfl

include hn

theorem carry_diag {c : FVec Ideal S256x1 .f32} {z : FVec Ideal S256x256 .f32}
    (hc : c (ix2 r 0) = (carry Z t (n + 256) : ℝ)) (hz : ∀ x : Fin 256, z (ix2 r x) = (Z (n + x) : ℝ)) :
    k0_pay36 (F := Ideal) c k0_pay30 z 0 (ix2 r 0) = (carry Z t n : ℝ) := by
  pointwise [k0_pay36]
  rw [hc, ← carry_tile Z t hn]
  exact congrArg _ (Finset.sum_congr rfl fun x _ => lf_diag ht x (hz x))

theorem carry_diag' {c : FVec Ideal S256x1 .f32} {z : FVec Ideal S256x256 .f32}
    (hc : c (ix2 r 0) = (carry Z t (n + 256) : ℝ)) (hz : ∀ x : Fin 256, z (ix2 r x) = (sp (Z (n + x)) : ℝ)) :
    k0_pay2 (F := Ideal) c k0_pay30 z 0 (ix2 r 0) = (carry Z t n : ℝ) := by
  pointwise [k0_pay2]
  rw [hc, ← carry_tile Z t hn]
  exact congrArg _ (Finset.sum_congr rfl fun x _ => lf_diag' ht x (hz x))

theorem acc_diag {c : FVec Ideal S256x1 .f32} {a : FVec Ideal S256x128 .f32} {w : FVec Ideal S256x128 .bf16}
    {z : FVec Ideal S256x256 .f32} {d : Fin 128}
    (hc : c (ix2 r 0) = (carry Z t (n + 256) : ℝ)) (hz : ∀ x : Fin 256, z (ix2 r x) = (Z (n + x) : ℝ))
    (ha : a (ix2 r d) = acc Z W t (n + 256)) (hw : ∀ x : Fin 256, w (ix2 x d) = W (n + x)) :
    k0_pay37 (F := Ideal) k0_pay27 c a k0_pay30 w z 0 (ix2 r d) = acc Z W t n := by
  pointwise [k0_pay37]
  rw [ha, ← acc_tile Z W t hn]
  refine congrArg _ (Finset.sum_congr rfl fun x _ => ?_)
  simp only [lf_diag ht _ (hz _), hz, hc, hw, mask_at]
  by_cases h : x < r
  · rw [if_pos h, exponent_tile Z t hn x _ _ fun y => tri_lo y x, exp_wt Z (by omega)]
  · rw [if_neg h, wt, if_neg (by omega), EReal.coe_zero, zero_mul]

theorem acc_diag' {c : FVec Ideal S256x1 .f32} {a : FVec Ideal S256x128 .f32} {w : FVec Ideal S256x128 .bf16}
    {z s : FVec Ideal S256x256 .f32} {d : Fin 128}
    (hc : c (ix2 r 0) = (carry Z t (n + 256) : ℝ)) (hz : ∀ x : Fin 256, z (ix2 r x) = (Z (n + x) : ℝ))
    (hs : ∀ x : Fin 256, s (ix2 r x) = (sp (Z (n + x)) : ℝ))
    (ha : a (ix2 r d) = acc Z W t (n + 256)) (hw : ∀ x : Fin 256, w (ix2 x d) = W (n + x)) :
    k0_pay3 (F := Ideal) k0_pay27 c a k0_pay30 w z s 0 (ix2 r d) = acc Z W t n := by
  pointwise [k0_pay3]
  rw [ha, ← acc_tile Z W t hn]
  refine congrArg _ (Finset.sum_congr rfl fun x _ => ?_)
  simp only [lf_diag' ht _ (hs _), hz, hc, hw, mask_at]
  by_cases h : x < r
  · rw [if_pos h, exponent_tile Z t hn x _ _ fun y => tri_lo y x, exp_wt Z (by omega)]
  · rw [if_neg h, wt, if_neg (by omega), EReal.coe_zero, zero_mul]

end Diagonal

section Scores

theorem score_diag_lo (q : Vec Ideal S1x256x256 .bf16) (x : Fin 256) :
    k0_pay34 (F := Ideal) q k (ix2 r x) = scoreLo (k0_pay26 q) k r x := by
  unfold scoreLo
  pointwise [k0_pay34, k0_pay31, k0_pay26]

theorem score_diag_hi (x : Fin 256) :
    k0_pay39 (F := Ideal) q (k0_pay31 k) (ix2 r x) = scoreHi q k r x := by
  unfold scoreHi
  pointwise [k0_pay39, k0_pay31]

theorem sp_diag_hi (x : Fin 256) {z : ℝ} (hz : scoreHi q k r x = (z : ℝ)) :
    k0_pay40 (F := Ideal) q (k0_pay31 k) (ix2 r x) = (sp z : ℝ) := by
  pointwise [k0_pay40]
  rw [Ideal.absf_def, score_diag_hi, hz, softplus_coe]

theorem value_lo (x : Fin 256) (d : Fin 128) :
    k0_pay33 (F := Ideal) v (ix2 x d) = v (ix3 0 x ⟨d, by omega⟩) := by
  pointwise [k0_pay33, k0_pay32]

theorem value_hi (x : Fin 256) (d : Fin 128) :
    k0_pay38 (F := Ideal) (k0_pay32 v) (ix2 x d) = v (ix3 0 x ⟨128 + d, by omega⟩) := by
  pointwise [k0_pay38, k0_pay32]

theorem score_lo (x : Fin 256) : k0_pay15 (F := Ideal) q k (ix2 r x) = scoreLo q k r x := by
  unfold scoreLo
  pointwise [k0_pay15, k0_pay13]

theorem score_hi (x : Fin 256) : k0_pay4 (F := Ideal) q (k0_pay13 k) (ix2 r x) = scoreHi q k r x := by
  unfold scoreHi
  pointwise [k0_pay4, k0_pay13]

end Scores

section Before

variable (ht : n + 256 ≤ t) (hn : n + 256 ≤ 2048)
include ht

theorem lf_lo (x : Fin 256) (hz : scoreLo q k r x = (Z (n + x) : ℝ)) :
    k0_pay16 (F := Ideal) q k (ix2 r x) = (lf Z t (n + x) : ℝ) := by
  pointwise [k0_pay16]
  rw [Ideal.absf_def, score_lo, hz, neg_softplus_coe, lf, if_pos (by omega)]

theorem lf_hi (x : Fin 256) (hz : scoreHi q k r x = (Z (n + x) : ℝ)) :
    k0_pay5 (F := Ideal) q (k0_pay13 k) (ix2 r x) = (lf Z t (n + x) : ℝ) := by
  pointwise [k0_pay5]
  rw [Ideal.absf_def, score_hi, hz, neg_softplus_coe, lf, if_pos (by omega)]

include hn

theorem carry_lo {c : FVec Ideal S256x1 .f32} (hc : c (ix2 r 0) = (carry Z t (n + 256) : ℝ))
    (hz : ∀ x : Fin 256, scoreLo q k r x = (Z (n + x) : ℝ)) :
    k0_pay17 (F := Ideal) q c k (ix2 r 0) = (carry Z t n : ℝ) := by
  pointwise [k0_pay17]
  rw [hc, ← carry_tile Z t hn]
  exact congrArg _ (Finset.sum_congr rfl fun x _ => lf_lo ht x (hz x))

theorem carry_hi {c : FVec Ideal S256x1 .f32} (hc : c (ix2 r 0) = (carry Z t (n + 256) : ℝ))
    (hz : ∀ x : Fin 256, scoreHi q k r x = (Z (n + x) : ℝ)) :
    k0_pay6 (F := Ideal) q c (k0_pay13 k) (ix2 r 0) = (carry Z t n : ℝ) := by
  pointwise [k0_pay6]
  rw [hc, ← carry_tile Z t hn]
  exact congrArg _ (Finset.sum_congr rfl fun x _ => lf_hi ht x (hz x))

theorem acc_lo {c : FVec Ideal S256x1 .f32} {a : FVec Ideal S256x128 .f32} {d : Fin 128}
    (hc : c (ix2 r 0) = (carry Z t (n + 256) : ℝ)) (hz : ∀ x : Fin 256, scoreLo q k r x = (Z (n + x) : ℝ))
    (ha : a (ix2 r d) = acc Z W t (n + 256)) (hw : ∀ x : Fin 256, v (ix3 0 x ⟨d, by omega⟩) = W (n + x)) :
    k0_pay18 (F := Ideal) q k0_pay27 c a k v (ix2 r d) = acc Z W t n := by
  pointwise [k0_pay18, k0_pay14]
  rw [ha, ← acc_tile Z W t hn]
  refine congrArg _ (Finset.sum_congr rfl fun x _ => ?_)
  simp only [score_lo, lf_lo ht _ (hz _), hz, hc]
  rw [exponent_tile Z t hn x _ _ fun y => tri_lo y x, exp_wt Z (by omega), hw]

theorem acc_hi {c : FVec Ideal S256x1 .f32} {a : FVec Ideal S256x128 .f32} {d : Fin 128}
    (hc : c (ix2 r 0) = (carry Z t (n + 256) : ℝ)) (hz : ∀ x : Fin 256, scoreHi q k r x = (Z (n + x) : ℝ))
    (ha : a (ix2 r d) = acc Z W t (n + 256)) (hw : ∀ x : Fin 256, v (ix3 0 x ⟨128 + d, by omega⟩) = W (n + x)) :
    k0_pay7 (F := Ideal) q k0_pay27 c a (k0_pay13 k) (k0_pay14 v) (ix2 r d) = acc Z W t n := by
  pointwise [k0_pay7, k0_pay14]
  rw [ha, ← acc_tile Z W t hn]
  refine congrArg _ (Finset.sum_congr rfl fun x _ => ?_)
  simp only [score_hi, lf_hi ht _ (hz _), hz, hc]
  rw [exponent_tile Z t hn x _ _ fun y => tri_lo y x, exp_wt Z (by omega), hw]

end Before

end Cert.KernelIdeal.Att
-- ==== Proof.Body.lean ====
module

public import proofs.«01_k».proof.Proof.Gen.KernelIdeal.Value
public import proofs.«01_k».proof.Proof.Tile
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.SL.Sem Cert.Stick

/-- The 256 rows of a block of keys or values from row `n` on. -/
def tile (x : Vec Ideal S1x2048x256 .f32) (n : ℕ) : Vec Ideal S1x256x256 .f32 :=
  fun j => if h : n + (j 1).val < 2048 then x (ix3 0 ⟨n + (j 1).val, h⟩ (j 2)) else 0

theorem ld_tile (x : Vec Ideal S1x2048x256 .f32) (n a : ℕ) (ha : a = n)
    (h : ∀ b, (![0, a, 0] : Fin 3 → ℕ) b + (![1, 256, 256] : Fin 3 → ℕ) b ≤ S1x2048x256.size b) :
    (View.ld x (Rect.unit (s := S1x2048x256) ![0, a, 0] ![1, 256, 256] h) : Vec Ideal S1x256x256 .f32) = tile x n := by
  subst ha
  have h1 : a + 256 ≤ 2048 := h 1
  funext j
  idx_vars j
  unfold tile
  pointwise []
  rw [dif_pos (show a + j1.val < 2048 by omega)]

theorem trips_eq (i : grid0.Coords) : (k0_t1_loop i).trips = (i 2).val := by
  have h : ∀ n : Fin 8, Scf.trips 0#32 (Scalar.addi 0#32 (Scalar.muli (Scalar.divsi (Scalar.subi (BitVec.ofNat 32 n.val) 0#32) 1#32) 1#32)) 1#32 = n.val := by decide
  exact h (i 2)

theorem off2_eq (i : grid0.Coords) (k : Fin (k0_t1_loop i).trips) :
    (Scalar.indexCast (Scalar.muli (Scalar.subi (Scalar.subi (BitVec.ofNat 32 (i 2).val) 1#32) (Scf.iv 0#32 1#32 k))
      256#32)).toNat = 256 * ((i 2).val - 1 - k) := by
  have h : ∀ n k : Fin 8, k < n → (Scalar.indexCast (Scalar.muli (Scalar.subi (Scalar.subi (BitVec.ofNat 32 n.val) 1#32)
      (Scf.iv 0#32 1#32 k)) 256#32)).toNat = 256 * (n.val - 1 - k) := by decide
  have hk : k.val < (i 2).val := lt_of_lt_of_eq k.isLt (trips_eq i)
  have h8 : (i 2).val < 8 := (i 2).isLt
  exact h (i 2) ⟨k, by omega⟩ hk

theorem off1_eq (i : grid0.Coords) :
    (Scalar.indexCast (Scalar.muli (BitVec.ofNat 32 (i 2).val) 256#32)).toNat = 256 * (i 2).val := by
  have h : ∀ n : Fin 8, (Scalar.indexCast (Scalar.muli (BitVec.ofNat 32 n.val) 256#32)).toNat = 256 * n.val := by decide
  exact h (i 2)

theorem trip_eq (𝒱 : Variants) (c : Dev nD) (bd : Option 𝒱.V) (i : grid0.Coords) (arg3 : Memref sig .tc .vmem S1x256x256 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S256x4096 .f32) (harg6 : arg6.IsWhole) (arg7 : Memref sig .tc .vmem S1x256x256 .bf16) (harg7 : arg7.IsWhole) (arg8 : Memref sig .tc .vmem S256x4096 .bf16) (harg8 : arg8.IsWhole) (arg2 : BitVec 32) (q : FVec Ideal S256x256 .bf16) (tri : FVec Ideal S512x256 .bf16)
    (x1 x2 : Vec Ideal S1x2048x256 .f32) (k : Fin (k0_t1_loop i).trips) (n : ℕ) (hn : n = 256 * ((i 2).val - 1 - k))
    (s : FVec Ideal S256x1 .f32 × FVec Ideal S256x128 .f32 × FVec Ideal S256x1 .f32 × FVec Ideal S256x128 .f32) :
    tripR_k0_t1 (F := Ideal) 𝒱 c bd i arg3 harg3 arg4 harg4 arg5 harg5 arg6 harg6 arg7 harg7 arg8 harg8 arg2 q tri (harg4.unread x1) (harg5.unread x2) k s =
      (k0_pay17 q s.1 (tile x1 n), k0_pay18 q tri s.1 s.2.1 (tile x1 n) (tile x2 n),
        k0_pay6 q s.2.2.1 (k0_pay13 (tile x1 n)),
        k0_pay7 q tri s.2.2.1 s.2.2.2 (k0_pay13 (tile x1 n)) (k0_pay14 (tile x2 n))) := by
  obtain ⟨s1, s2, s3, s4⟩ := s
  unfold tripR_k0_t1 trip_k0_t1
  dsimp only
  sl_unfold_words
  simp only [View.readAt_eq_ld, harg4.read_unread, harg5.read_unread]
  have e1 := ld_tile x1 n _ ((off2_eq i k).trans hn.symm)
  have e2 := ld_tile x2 n _ ((off2_eq i k).trans hn.symm)
  have h : ∀ A B, A = tile x1 n → B = tile x2 n →
      (k0_pay17 q s1 A, k0_pay18 q tri s1 s2 A B, k0_pay6 q s3 (k0_pay13 A), k0_pay7 q tri s3 s4 (k0_pay13 A) (k0_pay14 B)) =
        (k0_pay17 q s1 (tile x1 n), k0_pay18 q tri s1 s2 (tile x1 n) (tile x2 n), k0_pay6 q s3 (k0_pay13 (tile x1 n)),
          k0_pay7 q tri s3 s4 (k0_pay13 (tile x1 n)) (k0_pay14 (tile x2 n))) := by
    rintro _ _ rfl rfl; rfl
  exact h _ _ (e1 _) (e2 _)

/-- The carried values after the tile on the diagonal, which starts at key `n`. -/
def init (q : FVec Ideal S256x256 .bf16) (q' : Vec Ideal S1x256x256 .bf16) (k v : Vec Ideal S1x256x256 .f32) :
    FVec Ideal S256x1 .f32 × FVec Ideal S256x128 .f32 × FVec Ideal S256x1 .f32 × FVec Ideal S256x128 .f32 :=
  (k0_pay36 k0_pay28 k0_pay30 (k0_pay34 q' k) (FloatOps.ofBits .f32 0#32),
    k0_pay37 k0_pay27 k0_pay28 k0_pay29 k0_pay30 (k0_pay33 v) (k0_pay34 q' k) (FloatOps.ofBits .f32 0#32),
    k0_pay2 k0_pay28 k0_pay30 (k0_pay40 q (k0_pay31 k)) (FloatOps.ofBits .f32 0#32),
    k0_pay3 k0_pay27 k0_pay28 k0_pay29 k0_pay30 (k0_pay38 (k0_pay32 v)) (k0_pay39 q (k0_pay31 k))
      (k0_pay40 q (k0_pay31 k)) (FloatOps.ofBits .f32 0#32))

theorem zero_bits : (FloatOps.ofBits .f32 0#32 : Ideal .f32) = 0 := by
  have h := congrFun (show constant (F := Ideal) S256x1 .f32 0#32 = fun _ => FloatOps.ofBits .f32 0#32 from rfl) (ix2 0 0)
  rw [← h]
  pointwise []

/-- The second loop runs no trip. -/
theorem trips2_eq (i : grid0.Coords) : (k0_t2_loop i).trips = 0 := by
  have h : ∀ n : Fin 8, Scf.trips (Scalar.addi 0#32 (Scalar.muli (Scalar.divsi (Scalar.subi (BitVec.ofNat 32 n.val) 0#32) 1#32) 1#32))
    (Scalar.addi 0#32 (Scalar.subi (BitVec.ofNat 32 n.val) 0#32)) 1#32 = 0 := by decide
  exact h (i 2)

theorem out_eq (c : Dev nD) (i : grid0.Coords) (arg3 : Memref sig .tc .vmem S1x256x256 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S256x4096 .f32) (harg6 : arg6.IsWhole) (arg7 : Memref sig .tc .vmem S1x256x256 .bf16) (harg7 : arg7.IsWhole) (arg8 : Memref sig .tc .vmem S256x4096 .bf16) (harg8 : arg8.IsWhole)
    (x0 : Vec Ideal S1x256x256 .bf16) (x1 : Vec Ideal S1x2048x256 .f32) (x2 : Vec Ideal S1x2048x256 .f32) (x3 : Vec Ideal S256x4096 .f32) :
    ∃ s, s = st_k0_t1 (F := Ideal) Variants.none c none i arg3 harg3 arg4 harg4 arg5 harg5 arg6 harg6 arg7 harg7 arg8 harg8 (BitVec.ofNat 32 (i 2).val) (k0_pay26 x0) k0_pay27
        (harg4.unread x1) (harg5.unread x2) (init (k0_pay26 x0) x0 (tile x1 (256 * (i 2).val)) (tile x2 (256 * (i 2).val)))
        (i 2).val ∧
      out0_A_4 (F := Ideal) c i arg3 harg3 arg4 harg4 arg5 harg5 arg6 harg6 arg7 harg7 arg8 harg8 x0 x1 x2 x3 = k0_pay12 s.2.1 s.2.2.2 := by
  refine ⟨_, rfl, ?_⟩
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  rw [View.canon_unit_zero (funext fun a => by fin_cases a <;> rfl)]
  sl_unfold_words
  simp only [View.readAt_eq_ld, harg3.read_unread, harg4.read_unread, harg5.read_unread]
  have hz : (![0, 0, 0] : Fin 3 → ℕ) = fun _ => 0 := funext fun a => by fin_cases a <;> rfl
  have e0 := View.ld_unit_zero (S := S1x256x256) hz inb_S1x256x256_S1x256x256_0_0_0 x0
  have e1 := ld_tile x1 _ _ (off1_eq i)
  have e2 := ld_tile x2 _ _ (off1_eq i)
  have et := trips2_eq i
  unfold k0_t2_loop Scf.Loop.trips at et
  dsimp only at et
  have et1 := trips_eq i
  unfold k0_t1_loop Scf.Loop.trips at et1
  dsimp only at et1
  rw [et, et1, st_k0_t2_zero]
  have h : ∀ Q A B, Q = x0 → A = tile x1 (256 * (i 2).val) → B = tile x2 (256 * (i 2).val) →
      st_k0_t1 (F := Ideal) Variants.none c none i arg3 harg3 arg4 harg4 arg5 harg5 arg6 harg6 arg7 harg7 arg8 harg8 (BitVec.ofNat 32 (i 2).val) (k0_pay26 Q) k0_pay27
        (harg4.unread x1) (harg5.unread x2) (init (k0_pay26 Q) Q A B) (i 2).val =
      st_k0_t1 (F := Ideal) Variants.none c none i arg3 harg3 arg4 harg4 arg5 harg5 arg6 harg6 arg7 harg7 arg8 harg8 (BitVec.ofNat 32 (i 2).val) (k0_pay26 x0) k0_pay27
        (harg4.unread x1) (harg5.unread x2) (init (k0_pay26 x0) x0 (tile x1 (256 * (i 2).val)) (tile x2 (256 * (i 2).val))) (i 2).val := by
    rintro _ _ _ rfl rfl rfl; rfl
  have h' := h _ _ _ e0 (e1 (k0_off1_inb i)) (e2 (k0_off1_inb i))
  rw [← h']
  rfl

/-- Key rows, one column, by position (0 past the last key). -/
def col (x : Vec Ideal S1x2048x256 .f32) (e : Fin 256) (s : ℕ) : EReal :=
  if h : s < 2048 then x (ix3 0 ⟨s, h⟩ e) else 0

theorem tile_at (x : Vec Ideal S1x2048x256 .f32) (n : ℕ) (y e : Fin 256) : tile x n (ix3 0 y e) = col x e (n + y) := rfl

section Rows

variable {x0 : Vec Ideal S1x256x256 .bf16} {x1 x2 : Vec Ideal S1x2048x256 .f32} {r : Fin 256} {Z Z' : ℕ → ℝ}

/-- The scores of a query row against every key: the first head's, -/
def Lo (x0 : Vec Ideal S1x256x256 .bf16) (x1 : Vec Ideal S1x2048x256 .f32) (r : Fin 256) (Z : ℕ → ℝ) : Prop :=
  ∀ s < 2048, ∑ e : Fin 128, x0 (ix3 0 r ⟨e, by omega⟩) * col x1 ⟨e, by omega⟩ s = (Z s : ℝ)

/-- and the second head's. -/
def Hi (x0 : Vec Ideal S1x256x256 .bf16) (x1 : Vec Ideal S1x2048x256 .f32) (r : Fin 256) (Z : ℕ → ℝ) : Prop :=
  ∀ s < 2048, ∑ e : Fin 128, x0 (ix3 0 r ⟨128 + e, by omega⟩) * col x1 ⟨128 + e, by omega⟩ s = (Z s : ℝ)

theorem Lo.tile (h : Lo x0 x1 r Z) {n : ℕ} (hn : n + 256 ≤ 2048) (y : Fin 256) :
    scoreLo (k0_pay26 x0) (tile x1 n) r y = (Z (n + y) : ℝ) := by
  rw [← h (n + y) (by omega)]
  unfold scoreLo
  pointwise [k0_pay26]
  rfl

theorem Hi.tile (h : Hi x0 x1 r Z) {n : ℕ} (hn : n + 256 ≤ 2048) (y : Fin 256) :
    scoreHi (k0_pay26 x0) (tile x1 n) r y = (Z (n + y) : ℝ) := by
  rw [← h (n + y) (by omega)]
  unfold scoreHi
  pointwise [k0_pay26]
  rfl

/-- What the carried values hold of query row `r` (position `t`) when the keys from `n` on have been met. -/
def Holds (x2 : Vec Ideal S1x2048x256 .f32) (r : Fin 256) (Z Z' : ℕ → ℝ) (t n : ℕ)
    (s : FVec Ideal S256x1 .f32 × FVec Ideal S256x128 .f32 × FVec Ideal S256x1 .f32 × FVec Ideal S256x128 .f32) : Prop :=
  s.1 (ix2 r 0) = (carry Z t n : ℝ) ∧ (∀ d : Fin 128, s.2.1 (ix2 r d) = acc Z (col x2 ⟨d, by omega⟩) t n) ∧
    s.2.2.1 (ix2 r 0) = (carry Z' t n : ℝ) ∧
    ∀ d : Fin 128, s.2.2.2 (ix2 r d) = acc Z' (col x2 ⟨128 + d, by omega⟩) t n

theorem holds_init (h : Lo x0 x1 r Z) (h' : Hi x0 x1 r Z') {t n : ℕ} (ht : t = n + r) (hn : n + 256 ≤ 2048) :
    Holds x2 r Z Z' t n (init (k0_pay26 x0) x0 (tile x1 n) (tile x2 n)) := by
  have hz : ∀ y : Fin 256, k0_pay34 (F := Ideal) x0 (tile x1 n) (ix2 r y) = (Z (n + y) : ℝ) := fun y => by
    rw [score_diag_lo, h.tile hn]
  have hz' : ∀ y : Fin 256, k0_pay39 (F := Ideal) (k0_pay26 x0) (k0_pay31 (tile x1 n)) (ix2 r y) = (Z' (n + y) : ℝ) :=
    fun y => by rw [score_diag_hi, h'.tile hn]
  have hs' : ∀ y : Fin 256, k0_pay40 (F := Ideal) (k0_pay26 x0) (k0_pay31 (tile x1 n)) (ix2 r y) = (sp (Z' (n + y)) : ℝ) :=
    fun y => sp_diag_hi y (h'.tile hn y)
  unfold init
  rw [zero_bits]
  refine ⟨carry_diag ht hn (zero_carry ht) hz, fun d => ?_, carry_diag' ht hn (zero_carry ht) hs', fun d => ?_⟩
  · exact acc_diag ht hn (zero_carry ht) hz (zero_acc ht d) fun y => (value_lo y d).trans (tile_at ..)
  · exact acc_diag' ht hn (zero_carry ht) hz' hs' (zero_acc ht d) fun y => (value_hi y d).trans (tile_at ..)

theorem holds_trip (h : Lo x0 x1 r Z) (h' : Hi x0 x1 r Z') {t n : ℕ} (ht : n + 256 ≤ t) (hn : n + 256 ≤ 2048)
    {s : FVec Ideal S256x1 .f32 × FVec Ideal S256x128 .f32 × FVec Ideal S256x1 .f32 × FVec Ideal S256x128 .f32}
    (hs : Holds x2 r Z Z' t (n + 256) s) :
    Holds x2 r Z Z' t n (k0_pay17 (k0_pay26 x0) s.1 (tile x1 n), k0_pay18 (k0_pay26 x0) k0_pay27 s.1 s.2.1 (tile x1 n) (tile x2 n),
        k0_pay6 (k0_pay26 x0) s.2.2.1 (k0_pay13 (tile x1 n)),
        k0_pay7 (k0_pay26 x0) k0_pay27 s.2.2.1 s.2.2.2 (k0_pay13 (tile x1 n)) (k0_pay14 (tile x2 n))) := by
  obtain ⟨hc, ha, hc', ha'⟩ := hs
  exact ⟨carry_lo ht hn hc (h.tile hn), fun d => acc_lo ht hn hc (h.tile hn) (ha d) fun y => tile_at ..,
    carry_hi ht hn hc' (h'.tile hn), fun d => acc_hi ht hn hc' (h'.tile hn) (ha' d) fun y => tile_at ..⟩

theorem holds_loop (h : Lo x0 x1 r Z) (h' : Hi x0 x1 r Z') (c : Dev nD) (i : grid0.Coords) (arg3 : Memref sig .tc .vmem S1x256x256 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S256x4096 .f32) (harg6 : arg6.IsWhole) (arg7 : Memref sig .tc .vmem S1x256x256 .bf16) (harg7 : arg7.IsWhole) (arg8 : Memref sig .tc .vmem S256x4096 .bf16) (harg8 : arg8.IsWhole) {t : ℕ}
    (ht : t = 256 * (i 2).val + r) (k : ℕ) (hk : k ≤ (i 2).val) :
    Holds x2 r Z Z' t (256 * ((i 2).val - k)) (st_k0_t1 (F := Ideal) Variants.none c none i arg3 harg3 arg4 harg4 arg5 harg5 arg6 harg6 arg7 harg7 arg8 harg8 (BitVec.ofNat 32 (i 2).val)
      (k0_pay26 x0) k0_pay27 (harg4.unread x1) (harg5.unread x2)
      (init (k0_pay26 x0) x0 (tile x1 (256 * (i 2).val)) (tile x2 (256 * (i 2).val))) k) := by
  have h8 : (i 2).val < 8 := (i 2).isLt
  induction k with
  | zero => exact holds_init h h' ht (by omega)
  | succ k ih =>
    rw [st_k0_t1_succ (F := Ideal) Variants.none c none i arg3 harg3 arg4 harg4 arg5 harg5 arg6 harg6 arg7 harg7 arg8 harg8 (BitVec.ofNat 32 (i 2).val)
      (k0_pay26 x0) k0_pay27 (harg4.unread x1) (harg5.unread x2) _ ⟨k, by rw [trips_eq]; omega⟩]
    rw [trip_eq Variants.none c none i arg3 harg3 arg4 harg4 arg5 harg5 arg6 harg6 arg7 harg7 arg8 harg8 _ _ _ _ _ _ (256 * ((i 2).val - (k + 1))) (by show _ = 256 * ((i 2).val - 1 - k); omega)]
    refine holds_trip h h' (by omega) (by omega) ?_
    have := ih (by omega)
    rwa [show 256 * ((i 2).val - (k + 1)) + 256 = 256 * ((i 2).val - k) by omega]

/-- One entry of the block the kernel leaves: the weighted sum of its head's values over all keys. -/
theorem out_at (h : Lo x0 x1 r Z) (h' : Hi x0 x1 r Z') (c : Dev nD) (i : grid0.Coords) (arg3 : Memref sig .tc .vmem S1x256x256 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S256x4096 .f32) (harg6 : arg6.IsWhole) (arg7 : Memref sig .tc .vmem S1x256x256 .bf16) (harg7 : arg7.IsWhole) (arg8 : Memref sig .tc .vmem S256x4096 .bf16) (harg8 : arg8.IsWhole) (x3 : Vec Ideal S256x4096 .f32)
    {t : ℕ} (ht : t = 256 * (i 2).val + r) (y : Fin 256) :
    out0_A_4 (F := Ideal) c i arg3 harg3 arg4 harg4 arg5 harg5 arg6 harg6 arg7 harg7 arg8 harg8 x0 x1 x2 x3 (ix3 0 r y) = acc (if y.val < 128 then Z else Z') (col x2 y) t 0 := by
  obtain ⟨s, hs, ho⟩ := out_eq c i arg3 harg3 arg4 harg4 arg5 harg5 arg6 harg6 arg7 harg7 arg8 harg8 x0 x1 x2 x3
  obtain ⟨-, ha, -, ha'⟩ := hs ▸ holds_loop (x2 := x2) h h' c i arg3 harg3 arg4 harg4 arg5 harg5 arg6 harg6 arg7 harg7 arg8 harg8 ht (i 2).val le_rfl
  rw [Nat.sub_self] at ha ha'
  rw [ho]
  pointwise [k0_pay12]
  by_cases hy : y.val < 128
  · rw [dif_pos hy, if_pos hy, ha]
  · rw [dif_neg hy, if_neg hy, ha']
    congr 2
    apply Fin.ext
    show 128 + (y.val - 128) = y.val
    omega

end Rows

theorem out5_eq (c : Dev nD) (i : grid0.Coords) (arg3 : Memref sig .tc .vmem S1x256x256 .bf16) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S256x4096 .f32) (harg6 : arg6.IsWhole) (arg7 : Memref sig .tc .vmem S1x256x256 .bf16) (harg7 : arg7.IsWhole) (arg8 : Memref sig .tc .vmem S256x4096 .bf16) (harg8 : arg8.IsWhole)
    (x0 : Vec Ideal S1x256x256 .bf16) (x1 : Vec Ideal S1x2048x256 .f32) (x2 : Vec Ideal S1x2048x256 .f32) (x3 : Vec Ideal S256x4096 .f32) :
    out0_A_5 (F := Ideal) c i arg3 harg3 arg4 harg4 arg5 harg5 arg6 harg6 arg7 harg7 arg8 harg8 x0 x1 x2 x3 = k0_pay25 x3 := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  have hz : (![0, 0] : Fin 2 → ℕ) = fun _ => 0 := funext fun a => by fin_cases a <;> rfl
  sl_unfold_words
  rw [View.canon_unit_zero hz]
  simp only [View.readAt_eq_ld, harg6.read_unread]
  exact congrArg k0_pay25 (View.ld_unit_zero (S := S256x4096) hz _ _)

end Cert.KernelIdeal.Att
-- ==== Proof.Final.lean ====
module

public import proofs.«01_k».proof.Proof.Body

@[expose] public section

set_option maxRecDepth 16384

noncomputable section

namespace Cert.KernelIdeal.Att

open Cert.KernelIdeal Cert.KernelIdeal.Gen Idealize.ShloMosaic Idealize.ShloMosaic.TcCoe Idealize.SL.Sem Cert.Stick
open Idealize.ShloMosaic.Pipeline (Dat)

variable (m : (ℓ : Loc nD τ sig) → Buf (Elt Ideal) ℓ)

/-- The queries and the keys and values a run is launched on. -/
def Q (c : Dev nD) (b : Fin 8) (t : Fin 2048) (h : Fin 8) (e : Fin 128) : EReal := m ((c : Thread nD τ).loc main_arg0) (ix4 b t h e)
def KV (c : Dev nD) (b : Fin 8) (s : Fin 2048) (w : Fin 2) (h : Fin 8) (e : Fin 128) : EReal :=
  m ((c : Thread nD τ).loc main_arg1) (ix5 b s w h e)

theorem idx : ∀ t : Fin cfg0.N,
    win0_0.index t = ![(grid0.coords t 0).val, (grid0.coords t 2).val, (grid0.coords t 1).val] ∧
    win0_1.index t = ![(grid0.coords t 0).val, 0, (grid0.coords t 1).val] ∧
    win0_2.index t = ![(grid0.coords t 0).val, 0, 4 + (grid0.coords t 1).val] ∧
    win0_3.index t = ![t.val, 0] ∧
    win0_4.index t = ![(grid0.coords t 0).val, (grid0.coords t 2).val, (grid0.coords t 1).val] ∧
    win0_5.index t = ![t.val, 0] :=
  (by decide +kernel : ∀ t : Fin grid0.N, _)

section Blocks

variable (c : Dev nD) (t : Fin cfg0.N) {b : Fin 8} {h4 : Fin 4} {i : Fin 8}
  (hb : (grid0.coords t 0).val = b.val) (hh : (grid0.coords t 1).val = h4.val) (hi : (grid0.coords t 2).val = i.val)
include hb hh hi

theorem q_at (r y : Fin 256) :
    (iblk m c 0 t (ix3 0 r y) : EReal) = Q m c b ⟨256 * i + r, by omega⟩ ⟨2 * h4 + y / 128, by omega⟩ ⟨y % 128, by omega⟩ *
      Ideal.ofBits .f32 0x3DB504F3#32 := by
  unfold Q
  blk_simp [iblk, idx t]
  entry_read
  pointwise []
  refine Ideal.mul_congr ?_ rfl
  blk_point [iblk, V, idx t]

theorem k_at (s : Fin 2048) (y : Fin 256) :
    (iblk m c 1 t (ix3 0 s y) : EReal) = KV m c b s 0 ⟨2 * h4 + y / 128, by omega⟩ ⟨y % 128, by omega⟩ := by
  unfold KV
  blk_point [iblk, V, idx t]

theorem v_at (s : Fin 2048) (y : Fin 256) :
    (iblk m c 2 t (ix3 0 s y) : EReal) = KV m c b s 1 ⟨2 * h4 + y / 128, by omega⟩ ⟨y % 128, by omega⟩ := by
  unfold KV
  blk_point [iblk, V, idx t]

end Blocks

/-- The attention, laid out as the kernel's result: head and column share the last axis. -/
def attended (c : Dev nD) : S8x2048x1024.Idx → EReal := fun j =>
  attend (Q m c) (KV m c) (j 0) (j 1) ⟨(j 2).val / 128, by have : (j 2).val < 1024 := (j 2).isLt; omega⟩
    ⟨(j 2).val % 128, Nat.mod_lt _ (by omega)⟩

theorem fin_eq {n a b : ℕ} (h : a = b) {ha : a < n} : (⟨a, ha⟩ : Fin n) = ⟨b, h ▸ ha⟩ := Fin.ext h

theorem point (hf : ∀ c, Finite (Q m c) (KV m c)) (c : Dev nD) (t : Fin cfg0.N) {b : Fin 8} {h4 : Fin 4} {i : Fin 8}
    (hb : (grid0.coords t 0).val = b.val) (hh : (grid0.coords t 1).val = h4.val) (hi : (grid0.coords t 2).val = i.val)
    (r y : Fin 256) :
    (outsAt0 m c t).1 (ix3 0 r y) = attended m c (ix3 b ⟨256 * i + r, by omega⟩ ⟨256 * h4 + y, by omega⟩) := by
  simp only [outsAt0]
  rw [out_at (x0 := iblk m c 0 t) (x1 := iblk m c 1 t) (x2 := iblk m c 2 t) (r := r)
    (Z := fun s => (score (Q m c) (KV m c) b ⟨2 * h4, by omega⟩ ⟨256 * i + r, by omega⟩ s).toReal)
    (Z' := fun s => (score (Q m c) (KV m c) b ⟨2 * h4 + 1, by omega⟩ ⟨256 * i + r, by omega⟩ s).toReal)
    (t := 256 * i + r) ?_ ?_ c _ _ _ _ _ _ _ _ _ _ _ _ _ _ (by rw [hi]) y]
  · have e1 : (⟨2 * h4 + y / 128, by omega⟩ : Fin 8) = ⟨(256 * h4 + y) / 128, by omega⟩ := Fin.ext (by show _ = _; dsimp only; omega)
    have e2 : (⟨y % 128, by omega⟩ : Fin 128) = ⟨(256 * h4 + y) % 128, by omega⟩ := Fin.ext (by show _ = _; dsimp only; omega)
    have hv : col (iblk m c 2 t) y = value (KV m c) b ⟨(256 * h4 + y) / 128, by omega⟩ ⟨(256 * h4 + y) % 128, by omega⟩ := by
      funext s
      unfold col value
      split
      · rw [v_at m c t hb hh hi, e1, e2]
      · rfl
    show _ = acc (fun s => (score (Q m c) (KV m c) b ⟨(256 * h4 + y) / 128, by omega⟩ ⟨256 * i + r, by omega⟩ s).toReal)
      (value (KV m c) b ⟨(256 * h4 + y) / 128, by omega⟩ ⟨(256 * h4 + y) % 128, by omega⟩) (256 * i + r) 0
    rw [hv]
    by_cases hy : y.val < 128
    · rw [if_pos hy, show (⟨2 * h4, by omega⟩ : Fin 8) = ⟨(256 * h4 + y) / 128, by omega⟩ from Fin.ext (by dsimp only; omega)]
    · rw [if_neg hy, show (⟨2 * h4 + 1, by omega⟩ : Fin 8) = ⟨(256 * h4 + y) / 128, by omega⟩ from Fin.ext (by dsimp only; omega)]
  · intro s hs
    rw [← (hf c).score, score, dif_pos hs]
    refine Finset.sum_congr rfl fun e _ => ?_
    rw [q_at m c t hb hh hi, col, dif_pos hs, k_at m c t hb hh hi, fin_eq (show 2 * h4 + e.val / 128 = 2 * h4 by omega), fin_eq (show e.val % 128 = e by omega)]
  · intro s hs
    rw [← (hf c).score, score, dif_pos hs]
    refine Finset.sum_congr rfl fun e _ => ?_
    rw [q_at m c t hb hh hi, col, dif_pos hs, k_at m c t hb hh hi, fin_eq (show 2 * h4 + (128 + e.val) / 128 = 2 * h4 + 1 by omega), fin_eq (show (128 + e.val) % 128 = e by omega)]

theorem final (hf : ∀ c, Finite (Q m c) (KV m c)) (c : Dev nD) : (dats m 0 c).arrAt 4 cfg0.N = attended m c := by
  refine (dats m 0 c).arrAt_eq_of_covers 4 _ (by decide +kernel) fun t _ y => ?_
  blk_simp
  rw [after0_4]
  idx_vars y
  obtain rfl : y0 = 0 := Subsingleton.elim _ _
  have h0 : (grid0.coords t 0).val < 8 := (grid0.coords t 0).isLt
  have h1 : (grid0.coords t 1).val < 4 := (grid0.coords t 1).isLt
  have h2 : (grid0.coords t 2).val < 8 := (grid0.coords t 2).isLt
  refine (point m hf c t (b := ⟨_, h0⟩) (h4 := ⟨_, h1⟩) (i := ⟨_, h2⟩) rfl rfl rfl y1 y2).trans (congrArg (attended m c) ?_)
  blk_ext [idx t]

theorem final5 (c : Dev nD) : (dats m 0 c).arrAt 5 cfg0.N = fun j : S65536x4096.Idx => (V m c main_v6 j : EReal) := by
  refine (dats m 0 c).arrAt_eq_of_covers 5 _ (by decide +kernel) fun t _ y => ?_
  blk_simp
  rw [after0_5]
  simp only [outsAt0]
  rw [out5_eq]
  idx_vars y
  pointwise [k0_pay25]
  blk_point [iblk, idx t]

end Cert.KernelIdeal.Att
-- ==== Proof.CumSum.lean ====
module

public import proofs.«01_k».proof.Proof.StickMath

@[expose] public section

set_option maxRecDepth 16384

noncomputable section

/-!
# A running sum from the far end, read at an index

`jnp`'s reversed `cumsum` along the last axis prints as a window as wide as the axis, padded behind.
-/

namespace Cert.Stick

open Idealize.ShloMosaic

theorem foldl_add {α : Type} (l : List α) (g : α → EReal) (v : EReal) :
    l.foldl (fun r n => r + g n) v = v + (l.map g).sum := by
  induction l generalizing v with
  | nil => simp
  | cons a l ih => rw [List.foldl_cons, ih, List.map_cons, List.sum_cons, add_assoc]

abbrev Scores : Shape := ⟨4, ![8, 8, 2048, 2048]⟩

theorem cumsum_at (x : FVec Ideal Scores .f32) (init : (⟨0, ![]⟩ : Shape).Idx → EReal) (h0 : ∀ i, init i = 0) (hw hu)
    (f : ℕ → EReal) (b h : Fin 8) (t s : Fin 2048) (hx : ∀ j : Fin 2048, x (ix4 b h t j) = f j) :
    Host.reduceWindowAdd (s := Scores) (t := Scores) ![1, 1, 1, 2048] ![1, 1, 1, 1] ![0, 0, 0, 0] ![0, 0, 0, 2047] x init hw hu (ix4 b h t s) =
      ∑ j ∈ Finset.Ico s.val 2048, f j := by
  rw [Host.reduceWindowAdd, Ideal.hostReduceWindowAdd_def, Ideal.hostReduceWindowAdd]
  unfold Host.reduceWindow
  dsimp only
  rw [foldl_add, h0, zero_add, ← Fin.sum_univ_def]
  refine (Fintype.sum_equiv (⟨4, ![1, 1, 1, 2048]⟩ : Shape).rowMajor.symm _
    (fun w => if s.val + (w 3).val < 2048 then f (s.val + (w 3).val) else 0) fun i => ?_).trans ?_
  · have w0 : ((⟨4, ![1, 1, 1, 2048]⟩ : Shape).rowMajor.symm i 0).val = 0 := by
      have : ((⟨4, ![1, 1, 1, 2048]⟩ : Shape).rowMajor.symm i 0).val < 1 := Fin.isLt _
      omega
    have w1 : ((⟨4, ![1, 1, 1, 2048]⟩ : Shape).rowMajor.symm i 1).val = 0 := by
      have : ((⟨4, ![1, 1, 1, 2048]⟩ : Shape).rowMajor.symm i 1).val < 1 := Fin.isLt _
      omega
    have w2 : ((⟨4, ![1, 1, 1, 2048]⟩ : Shape).rowMajor.symm i 2).val = 0 := by
      have : ((⟨4, ![1, 1, 1, 2048]⟩ : Shape).rowMajor.symm i 2).val < 1 := Fin.isLt _
      omega
    split_ifs with h1 h2 h2
    · refine Eq.trans (congrArg x (funext fun a => Fin.ext ?_)) (hx ⟨s.val + _, h2⟩)
      fin_cases a
      · show b.val * 1 + ((⟨4, ![1, 1, 1, 2048]⟩ : Shape).rowMajor.symm i 0).val - 0 = b.val; rw [w0]; omega
      · show h.val * 1 + ((⟨4, ![1, 1, 1, 2048]⟩ : Shape).rowMajor.symm i 1).val - 0 = h.val; rw [w1]; omega
      · show t.val * 1 + ((⟨4, ![1, 1, 1, 2048]⟩ : Shape).rowMajor.symm i 2).val - 0 = t.val; rw [w2]; omega
      · show s.val * 1 + ((⟨4, ![1, 1, 1, 2048]⟩ : Shape).rowMajor.symm i 3).val - 0 = s.val + ((⟨4, ![1, 1, 1, 2048]⟩ : Shape).rowMajor.symm i 3).val; omega
    · exfalso; apply h2
      have : s.val * 1 + ((⟨4, ![1, 1, 1, 2048]⟩ : Shape).rowMajor.symm i 3).val - 0 < 2048 := (h1 3).2
      omega
    · exfalso; apply h1
      intro a
      fin_cases a
      · refine ⟨Nat.zero_le _, ?_⟩
        show b.val * 1 + ((⟨4, ![1, 1, 1, 2048]⟩ : Shape).rowMajor.symm i 0).val - 0 < 8; rw [w0]; omega
      · refine ⟨Nat.zero_le _, ?_⟩
        show h.val * 1 + ((⟨4, ![1, 1, 1, 2048]⟩ : Shape).rowMajor.symm i 1).val - 0 < 8; rw [w1]; omega
      · refine ⟨Nat.zero_le _, ?_⟩
        show t.val * 1 + ((⟨4, ![1, 1, 1, 2048]⟩ : Shape).rowMajor.symm i 2).val - 0 < 2048; rw [w2]; omega
      · refine ⟨Nat.zero_le _, ?_⟩
        show s.val * 1 + ((⟨4, ![1, 1, 1, 2048]⟩ : Shape).rowMajor.symm i 3).val - 0 < 2048; omega
    · rfl
  · rw [sum_idx4]
    simp only [Fin.sum_univ_one]
    have := Finset.sum_range (n := 2048) (fun y : ℕ => if s.val + y < 2048 then f (s.val + y) else (0 : EReal))
    refine this.symm.trans ?_
    rw [← Finset.sum_filter, Finset.sum_Ico_eq_sum_range]
    refine Finset.sum_congr ?_ fun _ _ => rfl
    ext a; simp only [Finset.mem_filter, Finset.mem_range]; omega

end Cert.Stick
-- ==== Proof.RefValue.lean ====
module

public import proofs.«01_k».proof.Proof.Gen.ReferenceIdeal.Run
public import proofs.«01_k».proof.Proof.CumSum
public import Idealize.ShloMosaic.Lib.Pipeline.ValueKit
public import Idealize.ShloMosaic.Lib.WordCmp

@[expose] public section

set_option maxRecDepth 16384

noncomputable section

/-!
# What the reference's attention computes

Every entry of `stick_breaking` is the sum `attend` of StickMath, over all keys, for finite queries and keys.
-/

namespace Cert.Stick

open Idealize.ShloMosaic

theorem sp_neg (r : ℝ) : sp (-r) = sp r - r := by
  unfold sp
  rw [abs_neg]
  rcases le_total r 0 with h | h
  · rw [max_eq_left (by linarith), max_eq_right h]; ring
  · rw [max_eq_right (by linarith), max_eq_left h]; ring

/-- jax's `logaddexp x 0`, at a real number. -/
theorem logaddexp_coe (r : ℝ) :
    max (r : EReal) 0 + Ideal.log1p (Ideal.exp (-FloatOps.absf (F := Ideal) (φ := .f32) (r : EReal))) =
      ((sp r : ℝ) : EReal) := by
  rw [Ideal.absf_def, max_neg_coe, ← EReal.coe_neg]
  unfold Ideal.log1p
  rw [log_one_add_exp, ← EReal.coe_zero, coe_max, ← EReal.coe_add]
  rfl

/-- The share of a key before the query as the reference writes it: the suffix sum from the key on, less the key. -/
theorem share_coe (Z : ℕ → ℝ) {t s : ℕ} (h : s < t) (hs : s < 2048) :
    Ideal.exp (-((sp (-Z s) : ℝ) : EReal) + (((carry Z t s : ℝ) : EReal) - -((sp (Z s) : ℝ) : EReal))) =
      ((wt Z t s : ℝ) : EReal) := by
  rw [← EReal.coe_neg, ← EReal.coe_neg, ← EReal.coe_sub, ← EReal.coe_add, ← exp_wt Z h]
  congr 2
  have h1 : carry Z t s = lf Z t s + carry Z t (s + 1) := Finset.sum_eq_sum_Ico_succ_bot hs _
  rw [h1, sp_neg, lf, if_pos h]
  ring

section Layer

variable {Q : Fin 8 → Fin 2048 → Fin 8 → Fin 128 → EReal} {KV : Fin 8 → Fin 2048 → Fin 2 → Fin 8 → Fin 128 → EReal}

/-- Scaling the finished product instead of the query gives the same score. -/
theorem Finite.scaled (hf : Finite Q KV) (b h : Fin 8) (t s : Fin 2048) :
    (∑ e : Fin 128, Q b t h e * KV b s 0 h e) * Ideal.ofBits .f32 0x3DB504F3#32 =
      ((Stick.score Q KV b h t s).toReal : EReal) := by
  rw [← hf.score]
  obtain ⟨c, hc⟩ := scale_real
  unfold Stick.score
  rw [dif_pos s.isLt]
  choose f hf1 using hf.1
  choose g hg1 using hf.2
  simp only [hf1, hg1, hc, ← EReal.coe_mul, ← coe_sum]
  congr 1
  rw [Finset.sum_mul]
  exact Finset.sum_congr rfl fun e _ => by ring

theorem attend_eq (b : Fin 8) (t : Fin 2048) (h : Fin 8) (d : Fin 128) :
    attend Q KV b t h d =
      ∑ s : Fin 2048, ((wt (fun s => (score Q KV b h t s).toReal) t s : ℝ) : EReal) * KV b s 1 h d := by
  unfold attend acc
  rw [← Finset.range_eq_Ico, Finset.sum_range]
  refine Finset.sum_congr rfl fun s _ => ?_
  rw [value, dif_pos s.isLt]

end Layer

end Cert.Stick

namespace Cert.ReferenceIdeal.Att

open Cert.ReferenceIdeal Cert.ReferenceIdeal.Gen Cert.ReferenceIdeal.Value Idealize.ShloMosaic Idealize.ShloMosaic.TcCoe Idealize.SL.Sem Cert.Stick

variable (m : (ℓ : Loc nD τ sig) → Buf (Elt Ideal) ℓ)

/-- The queries. -/
def Q (c : Dev nD) (b : Fin 8) (t : Fin 2048) (h : Fin 8) (e : Fin 128) : EReal := m (c.tc.loc main_arg0) (ix4 b t h e)

/-- The key and value rows. -/
def KV (c : Dev nD) (b : Fin 8) (s : Fin 2048) (w : Fin 2) (h : Fin 8) (e : Fin 128) : EReal :=
  m (c.tc.loc main_arg1) (ix5 b s w h e)

/-- The reference's first result, entry by entry. -/
theorem ref_at (c : Dev nD) (hf : Finite (Q m c) (KV m c)) (b : Fin 8) (t : Fin 2048) (y : Fin 1024) :
    (res_main_v25 m c (ix3 b t y) : EReal) =
      attend (Q m c) (KV m c) b t ⟨y.val / 128, by omega⟩ ⟨y.val % 128, by omega⟩ := by
  have h0 : (id (constant (F := Ideal) S_ FTy.f32 0#32) ix0 : EReal) = 0 := Ideal.ofBits_zero_f32
  rw [attend_eq]
  unfold res_main_v25
  pointwise []
  refine Finset.sum_congr (M := EReal) rfl fun s _ => ?_
  rw [mul_comm]
  refine congrArg₂ (· * ·) ?_ rfl
  generalize hZ : (fun s : ℕ => (score (Q m c) (KV m c) b ⟨y.val / 128, by omega⟩ t s).toReal) = Z
  have hz' : ∀ s : Fin 2048, (∑ e : Fin 128, Q m c b t ⟨y.val / 128, by omega⟩ e *
      KV m c b s 0 ⟨y.val / 128, by omega⟩ e) * Ideal.ofBits .f32 0x3DB504F3#32 = ((Z s : ℝ) : EReal) := fun s => by subst hZ; exact hf.scaled b ⟨y.val / 128, by omega⟩ t s
  unfold Q KV at hz'
  generalize hX : Host.reduceWindowAdd (F := Ideal) (φ := .f32) _ _ _ _ _ _ _ _ (ix4 _ _ _ _) = X
  have hX' : X = ((carry Z t s : ℝ) : EReal) := by
    refine hX.symm.trans ((cumsum_at _ _ (fun _ => Ideal.ofBits_zero_f32) _ _ (fun j => ((lf Z t j : ℝ) : EReal))
      b ⟨y.val / 128, by omega⟩ t s fun j => ?_).trans (coe_sum _ _).symm)
    pointwise []
    rw [hz' j, h0, lf]
    simp only [ne_eq, not_true_eq_false, if_false, neg_neg, logaddexp_coe]
    by_cases h : j.val < t.val
    · have hc : IntOp.cmpi .slt (BitVec.ofNat 32 j.val) (BitVec.ofNat 32 t.val) = 1#1 := by word_cmp
      rw [hc, if_pos h, EReal.coe_neg]
      rfl
    · have hc : IntOp.cmpi .slt (BitVec.ofNat 32 j.val) (BitVec.ofNat 32 t.val) = 0#1 := by word_cmp
      rw [hc, if_neg h]
      rfl
  clear hX
  rw [hX', hz' s, h0]
  simp only [ne_eq, not_true_eq_false, if_false, neg_neg, logaddexp_coe]
  by_cases h : s.val < t.val
  · have hc : IntOp.cmpi .slt (BitVec.ofNat 32 s.val) (BitVec.ofNat 32 t.val) = 1#1 := by word_cmp
    rw [hc, ← share_coe Z h s.isLt, ← logaddexp_coe (-Z s), EReal.coe_neg]
    rfl
  · have hc : IntOp.cmpi .slt (BitVec.ofNat 32 s.val) (BitVec.ofNat 32 t.val) = 0#1 := by word_cmp
    rw [hc, wt, if_neg h]
    rfl

end Cert.ReferenceIdeal.Att
-- ==== Proof.Attention.lean ====
module

public import proofs.«01_k».proof.Defs
public import proofs.«01_k».proof.Proof.Gen.Kernel
public import proofs.«01_k».proof.Proof.Final
public import proofs.«01_k».proof.Proof.RefValue
public import Idealize.ShloMosaic.Lib.StableHlo.RunHlo

@[expose] public section

set_option maxRecDepth 16384

noncomputable section

/-!
# The attention: the kernel's results are the reference's
-/

namespace Cert.AttEq

open Idealize.ShloMosaic Idealize.ShloMosaic.TcCoe Idealize.SL.Sem Cert.Stick

instance : Cert.Pre_finite.Facts := by constructor <;> decide

/-- An extended real whose absolute value compares below infinity is a real number. -/
theorem real_of_lt (x : EReal)
    (h : FloatOps.cmpf (F := Ideal) (φ := .f32) .olt (max x (-x)) (Ideal.ofBits .f32 0x7F800000#32) = 1#1) :
    ∃ r : ℝ, x = (r : EReal) := by
  have htop : Ideal.ofBits .f32 0x7F800000#32 = (⊤ : EReal) := by
    rw [Ideal.ofBits, Ideal.ieee, if_pos (by decide), if_pos (by decide), if_neg (by decide)]
  rw [htop] at h
  induction x using EReal.rec with
  | bot => exfalso; revert h; simp [Ideal.cmpf_def, Ideal.cmp]
  | coe r => exact ⟨r, rfl⟩
  | top => exfalso; revert h; simp [Ideal.cmpf_def, Ideal.cmp]

/-- The precondition says that the queries and the keys are finite. -/
theorem finite_of_pre (m : (ℓ : Loc Cert.KernelIdeal.nD Cert.KernelIdeal.τ Cert.KernelIdeal.sig) → Buf (Elt Ideal) ℓ)
    (h : Cert.Pre_KernelIdeal_finite m) (c : Dev Cert.KernelIdeal.nD) :
    Finite (Cert.KernelIdeal.Att.Q m c) (Cert.KernelIdeal.Att.KV m c) := by
  have h1 := (h c).1
  have h2 := (h c).2
  simp only [Cert.Pre_finite.fn] at h1 h2
  constructor
  · intro b t h e
    have := congrFun h1 (ix4 b t h e)
    exact real_of_lt _ this
  · intro b s h e
    have := congrFun h2 (ix4 b s h e)
    revert this
    pointwise []
    intro this
    exact real_of_lt _ this

/-- The second result: the rows of the experts' weights, rounded. -/
theorem rows_eq (m : (ℓ : Loc Cert.KernelIdeal.nD Cert.KernelIdeal.τ Cert.KernelIdeal.sig) → Buf (Elt Ideal) ℓ)
    (c : Dev Cert.KernelIdeal.nD) (a : FVec Ideal Cert.ReferenceIdeal.S1x32x2048x4096 .f32)
    (ha : a = m ((c : Thread Cert.KernelIdeal.nD Cert.KernelIdeal.τ).loc Cert.KernelIdeal.main_arg2)) :
    truncf .bf16 (shapeCast Cert.ReferenceIdeal.S65536x4096 a Cert.ReferenceIdeal.Gen.facts.shapeCasts_S1x32x2048x4096_S65536x4096)
        Cert.ReferenceIdeal.Gen.facts.bitsLt_bf16_f32 =
      fun j : Cert.KernelIdeal.S65536x4096.Idx => (Cert.KernelIdeal.Gen.V m c Cert.KernelIdeal.main_v6 j : EReal) := by
  subst ha
  funext j
  idx_vars j
  entry_read
  pointwise []

/-- The reference runs, and leaves its arguments and its counters, of which it has none. -/
theorem frame_ref : Cert.quiescent_ReferenceIdeal := fun m ρ _ =>
  (θ_run _ _ _).mono (fun r h => ⟨fun c => (h c).2.2, sem_eq_zero_of_no_sems (by decide) r.2⟩)
    (Cert.ReferenceIdeal.Value.run m ρ)

theorem frame_ref_finite : Cert.quiescent_ReferenceIdeal_pre_finite := fun m ρ _ => frame_ref m ρ trivial

/-- Kernel and reference compute the same attention, for finite queries and keys. -/
theorem algebraic : Cert.algebraic_KernelIdeal_ReferenceIdeal_pre_finite := by
  intro m g m' g' hpre hag
  have hf := finite_of_pre m hpre
  refine ⟨fun c => Cert.KernelIdeal.Att.attended m c, fun c => fun j : Cert.KernelIdeal.S65536x4096.Idx => (Cert.KernelIdeal.Gen.V m c Cert.KernelIdeal.main_v6 j : EReal), ?_, ?_⟩
  · refine (θ_run _ _ _).mono (fun r h c => ?_) (Cert.KernelIdeal.Value.run_blocks m g)
    obtain ⟨h0, h1, h2, h3, h4⟩ := h c
    exact ⟨h0.trans (Cert.KernelIdeal.Att.final m hf c), h1.trans (Cert.KernelIdeal.Att.final5 m c), h2, h3, h4⟩
  · refine (θ_run _ _ _).mono (fun r h c => ?_) (Cert.ReferenceIdeal.Value.run m' g')
    obtain ⟨h0, h1, h2, h3, h4⟩ := h c
    obtain ⟨a0, a1, a2⟩ := hag c
    have hQ : Cert.ReferenceIdeal.Att.Q m' c = Cert.KernelIdeal.Att.Q m c := by
      unfold Cert.ReferenceIdeal.Att.Q Cert.KernelIdeal.Att.Q; rw [a0]
    have hKV : Cert.ReferenceIdeal.Att.KV m' c = Cert.KernelIdeal.Att.KV m c := by
      unfold Cert.ReferenceIdeal.Att.KV Cert.KernelIdeal.Att.KV; rw [a1]
    refine ⟨h0.trans ?_, h1.trans (rows_eq m c _ a2), h2, h3, h4⟩
    funext j
    idx_vars j
    refine (Cert.ReferenceIdeal.Att.ref_at m' c (by rw [hQ, hKV]; exact hf c) _ _ _).trans ?_
    rw [hQ, hKV]
    rfl

end Cert.AttEq
-- ==== Proof.ProjRun.lean ====
/-
  The projection's body, run once for every grid point: the norm of the row tile is kept in the scratch from the first
  column step on, and each column step multiplies it with one column tile of the weights and stores the product into
  the one output that the step belongs to.
-/
module

public import proofs.«01_k».proof.Proof.Gen.Kernel2Ideal.Frame
public import proofs.«01_k».proof.Proof.Gen.Kernel2Ideal.Skeleton
public import Idealize.ShloMosaic.Lib.Tactic
public import Idealize.ShloMosaic.Lib.VecWindow

@[expose] public section

set_option maxRecDepth 16384

noncomputable section

namespace Cert.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## The conditions on the column step -/

/-- The first output is stored at column step 0. -/
theorem cond2_iff (i : grid0.Coords) : k0_cond2 i = 1#1 ↔ (i 1).val = 0 := by
  have h : ∀ j : Fin 10, Scalar.cmpi .ne (Scalar.extui (Scalar.cmpi .eq (BitVec.ofNat 32 j.val) 0#32) : BitVec 32) 0#32 = 1#1 ↔ j.val = 0 := by decide
  exact h (i 1)
/-- The second output is stored at column steps 1 and 2. -/
theorem cond3_iff (i : grid0.Coords) : k0_cond3 i = 1#1 ↔ 1 ≤ (i 1).val ∧ (i 1).val < 3 := by
  have h : ∀ j : Fin 10, Scalar.cmpi .ne (Scalar.extui (Scalar.andi (Scalar.cmpi .sge (BitVec.ofNat 32 j.val) 1#32) (Scalar.cmpi .slt (BitVec.ofNat 32 j.val) 3#32)) : BitVec 32) 0#32 = 1#1 ↔ 1 ≤ j.val ∧ j.val < 3 := by decide
  exact h (i 1)
/-- The third output is stored at column step 3. -/
theorem cond4_iff (i : grid0.Coords) : k0_cond4 i = 1#1 ↔ (i 1).val = 3 := by
  have h : ∀ j : Fin 10, Scalar.cmpi .ne (Scalar.extui (Scalar.cmpi .eq (BitVec.ofNat 32 j.val) 3#32) : BitVec 32) 0#32 = 1#1 ↔ j.val = 3 := by decide
  exact h (i 1)
/-- The fourth output is stored at column steps 4 and 5. -/
theorem cond5_iff (i : grid0.Coords) : k0_cond5 i = 1#1 ↔ 4 ≤ (i 1).val ∧ (i 1).val < 6 := by
  have h : ∀ j : Fin 10, Scalar.cmpi .ne (Scalar.extui (Scalar.andi (Scalar.cmpi .sge (BitVec.ofNat 32 j.val) 4#32) (Scalar.cmpi .slt (BitVec.ofNat 32 j.val) 6#32)) : BitVec 32) 0#32 = 1#1 ↔ 4 ≤ j.val ∧ j.val < 6 := by decide
  exact h (i 1)
/-- The fifth output is stored at column steps 6 to 9. -/
theorem cond6_iff (i : grid0.Coords) : k0_cond6 i = 1#1 ↔ 6 ≤ (i 1).val := by
  have h : ∀ j : Fin 10, Scalar.cmpi .ne (Scalar.extui (Scalar.cmpi .sge (BitVec.ofNat 32 j.val) 6#32) : BitVec 32) 0#32 = 1#1 ↔ 6 ≤ j.val := by decide
  exact h (i 1)
/-- The scratch is filled at column step 0. -/
theorem cond1_iff (i : grid0.Coords) : Scalar.cmpi .ne (Scalar.extui (Scalar.cmpi .eq (BitVec.ofNat 32 (i 1).val) 0#32) : BitVec 32) 0#32 = 1#1 ↔ (i 1).val = 0 := cond2_iff i

/-! ## The run -/

/-- What the scratch holds after the body, from the row tile, the gain and what it held before. -/
def uAfter (i : grid0.Coords) (x0 : Vec F S512x2048 .f32) (x1 : Vec F S1x2048 .f32) (s : Vec F S512x2048 .bf16) : Vec F S512x2048 .bf16 :=
  if (i 1).val = 0 then k0_pay1 x0 x1 else s

set_option maxHeartbeats 4000000 in
/-- The body's triple at any column step: the inputs are left as they were, the scratch holds the normed row tile, and
    the one output of the step holds its product; the other outputs are as before. -/
theorem kernelRun (c : Dev nD) (i : grid0.Coords)
    (M0 : Memref sig .tc .vmem S512x2048 .f32) (h0 : M0.IsWhole) (M1 : Memref sig .tc .vmem S1x2048 .f32) (h1 : M1.IsWhole)
    (M2 : Memref sig .tc .vmem S2048x1024 .bf16) (h2 : M2.IsWhole) (M3 : Memref sig .tc .vmem S512x1024 .bf16) (h3 : M3.IsWhole)
    (M4 : Memref sig .tc .vmem S512x1024 .f32) (h4 : M4.IsWhole) (M5 : Memref sig .tc .vmem S512x1024 .bf16) (h5 : M5.IsWhole)
    (M6 : Memref sig .tc .vmem S512x1024 .f32) (h6 : M6.IsWhole) (M7 : Memref sig .tc .vmem S512x1024 .bf16) (h7 : M7.IsWhole)
    (M8 : Memref sig .tc .vmem S512x2048 .bf16) (h8 : M8.IsWhole)
    (x0 : Vec F S512x2048 .f32) (x1 : Vec F S1x2048 .f32) (x2 : Vec F S2048x1024 .bf16)
    (y3 : Vec F S512x1024 .bf16) (y4 : Vec F S512x1024 .f32) (y5 : Vec F S512x1024 .bf16) (y6 : Vec F S512x1024 .f32) (y7 : Vec F S512x1024 .bf16)
    (s : Vec F S512x2048 .bf16) (E : Set ℕ) (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare y3 ∗ owns (c : Thread nD τ) M4 fullShare y4 ∗ owns (c : Thread nD τ) M5 fullShare y5
        ∗ owns (c : Thread nD τ) M6 fullShare y6 ∗ owns (c : Thread nD τ) M7 fullShare y7 ∗ owns (c : Thread nD τ) M8 fullShare s
        ∗ (iprop(owns (c : Thread nD τ) M0 fullShare x0 ∗ owns (c : Thread nD τ) M1 fullShare x1 ∗ owns (c : Thread nD τ) M2 fullShare x2
            ∗ owns (c : Thread nD τ) M3 fullShare (if (i 1).val = 0 then k0_pay3 (uAfter i x0 x1 s) x2 else y3)
            ∗ owns (c : Thread nD τ) M4 fullShare (if 1 ≤ (i 1).val ∧ (i 1).val < 3 then k0_pay2 (uAfter i x0 x1 s) x2 else y4)
            ∗ owns (c : Thread nD τ) M5 fullShare (if (i 1).val = 3 then k0_pay4 (uAfter i x0 x1 s) x2 else y5)
            ∗ owns (c : Thread nD τ) M6 fullShare (if 4 ≤ (i 1).val ∧ (i 1).val < 6 then k0_pay2 (uAfter i x0 x1 s) x2 else y6)
            ∗ owns (c : Thread nD τ) M7 fullShare (if 6 ≤ (i 1).val then k0_pay5 (uAfter i x0 x1 s) x2 else y7)
            ∗ owns (c : Thread nD τ) M8 fullShare (uAfter i x0 x1 s)) -∗ K ⟨⟩))
      ⊢ wp frame (wpE (defs₀ (F := F)) Variants.none c none) E (cc0_norm_proj i M0 h0 M1 h1 M2 h2 M3 h3 M4 h4 M5 h5 M6 h6 M7 h7 M8 h8) K := by
  have hc : ((i 1).val = 0) ∨ (1 ≤ (i 1).val ∧ (i 1).val < 3) ∨ ((i 1).val = 3) ∨ (4 ≤ (i 1).val ∧ (i 1).val < 6) ∨ (6 ≤ (i 1).val) := by omega
  have c1 := cond1_iff i
  have c2 := cond2_iff i
  have c3 := cond3_iff i
  have c4 := cond4_iff i
  have c5 := cond5_iff i
  have c6 := cond6_iff i
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h0.eq_unread hf0; obtain rfl := h1.eq_unread hf1; obtain rfl := h2.eq_unread hf2
  obtain rfl := h3.eq_unread hf3; obtain rfl := h4.eq_unread hf4; obtain rfl := h5.eq_unread hf5
  obtain rfl := h6.eq_unread hf6; obtain rfl := h7.eq_unread hf7; obtain rfl := h8.eq_unread hf8
  rcases hc with h | h | h | h | h
  · have d1 := c1.mpr h; have d2 := c2.mpr h; have d3 := mt c3.mp (by omega)
    have d4 := mt c4.mp (by omega); have d5 := mt c5.mp (by omega); have d6 := mt c6.mp (by omega)
    clear c1 c2 c3 c4 c5 c6
    have e : uAfter i x0 x1 s = k0_pay1 x0 x1 := if_pos h
    rw [e, if_pos h, if_neg (show ¬ (1 ≤ (i 1).val ∧ (i 1).val < 3) by omega), if_neg (show ¬ ((i 1).val = 3) by omega), if_neg (show ¬ (4 ≤ (i 1).val ∧ (i 1).val < 6) by omega), if_neg (show ¬ (6 ≤ (i 1).val) by omega)]
    sl_exec
    sl_step
    iapply Hk
    isplitl [H0]
    · iexists _; isplitr; swap
      · iexact H0
      · ipureintro; exact h0.read_unread _
    isplitl [H1]
    · iexists _; isplitr; swap
      · iexact H1
      · ipureintro; exact h1.read_unread _
    isplitl [H2]
    · iexists _; isplitr; swap
      · iexact H2
      · ipureintro; exact h2.read_unread _
    isplitl [H3]
    · iexists _; isplitr; swap
      · iexact H3
      · ipureintro; sl_unfold_run_names; exact (View.read_writes_full _ _ _ _ _).trans (congrArg₂ k0_pay3 ((View.readCov_full _ _ _ _ _).trans (congrArg₂ k0_pay1 ((View.readAt_full _ _ _).trans (h0.read_unread _)) ((View.readAt_full _ _ _).trans (h1.read_unread _)))) ((View.readAt_full _ _ _).trans (h2.read_unread _)))
    isplitl [H4]
    · iexists _; isplitr; swap
      · iexact H4
      · ipureintro; exact h4.read_unread _
    isplitl [H5]
    · iexists _; isplitr; swap
      · iexact H5
      · ipureintro; exact h5.read_unread _
    isplitl [H6]
    · iexists _; isplitr; swap
      · iexact H6
      · ipureintro; exact h6.read_unread _
    isplitl [H7]
    · iexists _; isplitr; swap
      · iexact H7
      · ipureintro; exact h7.read_unread _
    iexists _; isplitr; swap
    · iexact H8
    · ipureintro; exact (View.read_writes_full _ _ _ _ _).trans (congrArg₂ k0_pay1 ((View.readAt_full _ _ _).trans (h0.read_unread _)) ((View.readAt_full _ _ _).trans (h1.read_unread _)))
  · have d1 := mt c1.mp (by omega); have d2 := mt c2.mp (by omega); have d3 := c3.mpr h
    have d4 := mt c4.mp (by omega); have d5 := mt c5.mp (by omega); have d6 := mt c6.mp (by omega)
    clear c1 c2 c3 c4 c5 c6
    have e : uAfter i x0 x1 s = s := if_neg (by omega)
    rw [e, if_neg (show ¬ ((i 1).val = 0) by omega), if_pos h, if_neg (show ¬ ((i 1).val = 3) by omega), if_neg (show ¬ (4 ≤ (i 1).val ∧ (i 1).val < 6) by omega), if_neg (show ¬ (6 ≤ (i 1).val) by omega)]
    sl_exec
    sl_step
    iapply Hk
    isplitl [H0]
    · iexists _; isplitr; swap
      · iexact H0
      · ipureintro; exact h0.read_unread _
    isplitl [H1]
    · iexists _; isplitr; swap
      · iexact H1
      · ipureintro; exact h1.read_unread _
    isplitl [H2]
    · iexists _; isplitr; swap
      · iexact H2
      · ipureintro; exact h2.read_unread _
    isplitl [H3]
    · iexists _; isplitr; swap
      · iexact H3
      · ipureintro; exact h3.read_unread _
    isplitl [H4]
    · iexists _; isplitr; swap
      · iexact H4
      · ipureintro; exact (View.read_writes_full _ _ _ _ _).trans (congrArg₂ k0_pay2 ((View.readAt_full _ _ _).trans (h8.read_unread _)) ((View.readAt_full _ _ _).trans (h2.read_unread _)))
    isplitl [H5]
    · iexists _; isplitr; swap
      · iexact H5
      · ipureintro; exact h5.read_unread _
    isplitl [H6]
    · iexists _; isplitr; swap
      · iexact H6
      · ipureintro; exact h6.read_unread _
    isplitl [H7]
    · iexists _; isplitr; swap
      · iexact H7
      · ipureintro; exact h7.read_unread _
    iexists _; isplitr; swap
    · iexact H8
    · ipureintro; exact h8.read_unread _
  · have d1 := mt c1.mp (by omega); have d2 := mt c2.mp (by omega); have d3 := mt c3.mp (by omega)
    have d4 := c4.mpr h; have d5 := mt c5.mp (by omega); have d6 := mt c6.mp (by omega)
    clear c1 c2 c3 c4 c5 c6
    have e : uAfter i x0 x1 s = s := if_neg (by omega)
    rw [e, if_neg (show ¬ ((i 1).val = 0) by omega), if_neg (show ¬ (1 ≤ (i 1).val ∧ (i 1).val < 3) by omega), if_pos h, if_neg (show ¬ (4 ≤ (i 1).val ∧ (i 1).val < 6) by omega), if_neg (show ¬ (6 ≤ (i 1).val) by omega)]
    sl_exec
    sl_step
    iapply Hk
    isplitl [H0]
    · iexists _; isplitr; swap
      · iexact H0
      · ipureintro; exact h0.read_unread _
    isplitl [H1]
    · iexists _; isplitr; swap
      · iexact H1
      · ipureintro; exact h1.read_unread _
    isplitl [H2]
    · iexists _; isplitr; swap
      · iexact H2
      · ipureintro; exact h2.read_unread _
    isplitl [H3]
    · iexists _; isplitr; swap
      · iexact H3
      · ipureintro; exact h3.read_unread _
    isplitl [H4]
    · iexists _; isplitr; swap
      · iexact H4
      · ipureintro; exact h4.read_unread _
    isplitl [H5]
    · iexists _; isplitr; swap
      · iexact H5
      · ipureintro; exact (View.read_writes_full _ _ _ _ _).trans (congrArg₂ k0_pay4 ((View.readAt_full _ _ _).trans (h8.read_unread _)) ((View.readAt_full _ _ _).trans (h2.read_unread _)))
    isplitl [H6]
    · iexists _; isplitr; swap
      · iexact H6
      · ipureintro; exact h6.read_unread _
    isplitl [H7]
    · iexists _; isplitr; swap
      · iexact H7
      · ipureintro; exact h7.read_unread _
    iexists _; isplitr; swap
    · iexact H8
    · ipureintro; exact h8.read_unread _
  · have d1 := mt c1.mp (by omega); have d2 := mt c2.mp (by omega); have d3 := mt c3.mp (by omega)
    have d4 := mt c4.mp (by omega); have d5 := c5.mpr h; have d6 := mt c6.mp (by omega)
    clear c1 c2 c3 c4 c5 c6
    have e : uAfter i x0 x1 s = s := if_neg (by omega)
    rw [e, if_neg (show ¬ ((i 1).val = 0) by omega), if_neg (show ¬ (1 ≤ (i 1).val ∧ (i 1).val < 3) by omega), if_neg (show ¬ ((i 1).val = 3) by omega), if_pos h, if_neg (show ¬ (6 ≤ (i 1).val) by omega)]
    sl_exec
    sl_step
    iapply Hk
    isplitl [H0]
    · iexists _; isplitr; swap
      · iexact H0
      · ipureintro; exact h0.read_unread _
    isplitl [H1]
    · iexists _; isplitr; swap
      · iexact H1
      · ipureintro; exact h1.read_unread _
    isplitl [H2]
    · iexists _; isplitr; swap
      · iexact H2
      · ipureintro; exact h2.read_unread _
    isplitl [H3]
    · iexists _; isplitr; swap
      · iexact H3
      · ipureintro; exact h3.read_unread _
    isplitl [H4]
    · iexists _; isplitr; swap
      · iexact H4
      · ipureintro; exact h4.read_unread _
    isplitl [H5]
    · iexists _; isplitr; swap
      · iexact H5
      · ipureintro; exact h5.read_unread _
    isplitl [H6]
    · iexists _; isplitr; swap
      · iexact H6
      · ipureintro; exact (View.read_writes_full _ _ _ _ _).trans (congrArg₂ k0_pay2 ((View.readAt_full _ _ _).trans (h8.read_unread _)) ((View.readAt_full _ _ _).trans (h2.read_unread _)))
    isplitl [H7]
    · iexists _; isplitr; swap
      · iexact H7
      · ipureintro; exact h7.read_unread _
    iexists _; isplitr; swap
    · iexact H8
    · ipureintro; exact h8.read_unread _
  · have d1 := mt c1.mp (by omega); have d2 := mt c2.mp (by omega); have d3 := mt c3.mp (by omega)
    have d4 := mt c4.mp (by omega); have d5 := mt c5.mp (by omega); have d6 := c6.mpr h
    clear c1 c2 c3 c4 c5 c6
    have e : uAfter i x0 x1 s = s := if_neg (by omega)
    rw [e, if_neg (show ¬ ((i 1).val = 0) by omega), if_neg (show ¬ (1 ≤ (i 1).val ∧ (i 1).val < 3) by omega), if_neg (show ¬ ((i 1).val = 3) by omega), if_neg (show ¬ (4 ≤ (i 1).val ∧ (i 1).val < 6) by omega), if_pos h]
    sl_exec
    sl_step
    iapply Hk
    isplitl [H0]
    · iexists _; isplitr; swap
      · iexact H0
      · ipureintro; exact h0.read_unread _
    isplitl [H1]
    · iexists _; isplitr; swap
      · iexact H1
      · ipureintro; exact h1.read_unread _
    isplitl [H2]
    · iexists _; isplitr; swap
      · iexact H2
      · ipureintro; exact h2.read_unread _
    isplitl [H3]
    · iexists _; isplitr; swap
      · iexact H3
      · ipureintro; exact h3.read_unread _
    isplitl [H4]
    · iexists _; isplitr; swap
      · iexact H4
      · ipureintro; exact h4.read_unread _
    isplitl [H5]
    · iexists _; isplitr; swap
      · iexact H5
      · ipureintro; exact h5.read_unread _
    isplitl [H6]
    · iexists _; isplitr; swap
      · iexact H6
      · ipureintro; exact h6.read_unread _
    isplitl [H7]
    · iexists _; isplitr; swap
      · iexact H7
      · ipureintro; exact (View.read_writes_full _ _ _ _ _).trans (congrArg₂ k0_pay5 ((View.readAt_full _ _ _).trans (h8.read_unread _)) ((View.readAt_full _ _ _).trans (h2.read_unread _)))
    iexists _; isplitr; swap
    · iexact H8
    · ipureintro; exact h8.read_unread _

end Cert.Proj

end
-- ==== Proof.ProjFrame.lean ====
/-
  The projection's pipeline: what each staged buffer holds at each grid point, the body's obligation at each, the run of
  the whole program, and from it that the arguments end unchanged. All at any number type, so that it serves both the
  program over bit patterns and the program over exact numbers.
-/
module

public import proofs.«01_k».proof.Proof.ProjRun
public import Idealize.ShloMosaic.Lib.Pipeline.Frame
public import Idealize.ShloMosaic.Lib.Claim

@[expose] public section

set_option maxRecDepth 16384

noncomputable section

namespace Cert.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The column step of a grid point. -/
theorem col_eq : ∀ t : Fin grid0.N, (grid0.coords t 1).val = t.val % 10 := by decide +kernel
/-- The second output is written back after its two column tiles. -/
theorem flush4 : ∀ t : Fin grid0.N, win0_4.flush t = true ↔ t.val % 10 = 1 ∨ t.val % 10 = 9 := by decide +kernel
/-- The fifth output is written back after each of its column tiles. -/
theorem flush7 : ∀ t : Fin grid0.N, win0_7.flush t = true ↔ 6 ≤ t.val % 10 := by decide +kernel

theorem lt_N (t : Fin cfg0.N) : t.val < 320 := N_0 ▸ t.isLt

/-- The grid point of a row tile and a column step. -/
def pt (r j : ℕ) : Fin cfg0.N := ⟨(10 * r + j) % 320, by rw [show cfg0.N = 320 from N_0]; exact Nat.mod_lt _ (by decide)⟩

/-- Every point is the point of its row tile and column step. -/
theorem pt_self (t : Fin cfg0.N) (j : ℕ) (h : t.val % 10 = j) : pt (t.val / 10) j = t :=
  Fin.ext (by have := lt_N t; show (10 * (t.val / 10) + j) % 320 = t.val; omega)

/-! ## The buffers' contents -/

/-- The normed row tile, from what the region finds in the arrays. -/
def U (c : Dev nD) (r : ℕ) : Vec F S512x2048 .bf16 := k0_pay1 (iblk m c 0 (pt r 0)) (iblk m c 1 (pt r 0))

/-- What is kept between the points: the scratch, which from the second column step on holds the normed row tile, and
    the generator's register. -/
def Inv (c : Dev nD) (k : ℕ) : sProp 𝕄 :=
  iprop((∃ s, ⌜k % 10 ≠ 0 → s = U m c (k / 10)⌝ ∗ owns (c : Thread nD τ) (Memref.whole cc0_scratch0) fullShare s) ∗ ∃ r, prngReg c r)

/-- The proof data: the arrays as the region finds them, and after each point the inputs' blocks and the outputs'
    products. -/
def dats (_ : Fin 1) (c : Dev nD) : Dat τ (Elt F) Unit ℕ (UR sig nD τ) ℕ cfg0 c where
  A := fun w => V m c (Pipeline.arrRef spec0 w)
  after := fun
    | 0 => iblk m c 0
    | 1 => iblk m c 1
    | 2 => iblk m c 2
    | 3 => fun t => k0_pay3 (U m c (t.val / 10)) (iblk m c 2 (pt (t.val / 10) 0))
    | 4 => fun t => k0_pay2 (U m c (t.val / 10)) (iblk m c 2 (pt (t.val / 10) (min (t.val % 10) 2)))
    | 5 => fun t => k0_pay4 (U m c (t.val / 10)) (iblk m c 2 (pt (t.val / 10) 3))
    | 6 => fun t => k0_pay2 (U m c (t.val / 10)) (iblk m c 2 (pt (t.val / 10) (min (t.val % 10) 5)))
    | 7 => fun t => k0_pay5 (U m c (t.val / 10)) (iblk m c 2 t)
  Φ := fun k => Inv m c k.val
  q := fun _ => fullShare
  owed := fun _ => 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay3 (U m c (t.val / 10)) (iblk m c 2 (pt (t.val / 10) 0)) := by
  dsimp only [dats]
theorem after4 (c : Dev nD) (t : Fin cfg0.N) :
    (dats m 0 c).after 4 t = k0_pay2 (U m c (t.val / 10)) (iblk m c 2 (pt (t.val / 10) (min (t.val % 10) 2))) := by dsimp only [dats]
theorem after5 (c : Dev nD) (t : Fin cfg0.N) : (dats m 0 c).after 5 t = k0_pay4 (U m c (t.val / 10)) (iblk m c 2 (pt (t.val / 10) 3)) := by
  dsimp only [dats]
theorem after6 (c : Dev nD) (t : Fin cfg0.N) :
    (dats m 0 c).after 6 t = k0_pay2 (U m c (t.val / 10)) (iblk m c 2 (pt (t.val / 10) (min (t.val % 10) 5))) := by dsimp only [dats]
theorem after7 (c : Dev nD) (t : Fin cfg0.N) : (dats m 0 c).after 7 t = k0_pay5 (U m c (t.val / 10)) (iblk m c 2 t) := by
  dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The idle points -/

theorem idle_iff {p : BitVec 1} {L : Prop} [Decidable L] (h : p = 1#1 ↔ L) : (!(p == 1#1)) = !decide L := by
  by_cases hL : L
  · rw [decide_eq_true hL, h.mpr hL]; rfl
  · rw [decide_eq_false hL]
    have : p ≠ 1#1 := fun e => hL (h.mp e)
    simp [this]

theorem idle3 (t : Fin cfg0.N) : cfg0.idle 3 (cfg0.grid.coords t) = !decide (t.val % 10 = 0) :=
  idle_iff ((cond2_iff (grid0.coords t)).trans (by rw [col_eq]))
theorem idle4 (t : Fin cfg0.N) : cfg0.idle 4 (cfg0.grid.coords t) = !decide (1 ≤ t.val % 10 ∧ t.val % 10 < 3) :=
  idle_iff ((cond3_iff (grid0.coords t)).trans (by rw [col_eq]))
theorem idle5 (t : Fin cfg0.N) : cfg0.idle 5 (cfg0.grid.coords t) = !decide (t.val % 10 = 3) :=
  idle_iff ((cond4_iff (grid0.coords t)).trans (by rw [col_eq]))
theorem idle6 (t : Fin cfg0.N) : cfg0.idle 6 (cfg0.grid.coords t) = !decide (4 ≤ t.val % 10 ∧ t.val % 10 < 6) :=
  idle_iff ((cond5_iff (grid0.coords t)).trans (by rw [col_eq]))
theorem idle7 (t : Fin cfg0.N) : cfg0.idle 7 (cfg0.grid.coords t) = !decide (6 ≤ t.val % 10) :=
  idle_iff ((cond6_iff (grid0.coords t)).trans (by rw [col_eq]))

/-- A product stays in its staging buffer from the last column step that stores into it to the end of the row tile. -/
theorem carried (c : Dev nD) (w : Fin cfg0.W) (hi : ℕ) (d)
    (hk : ∀ t, (dats m 0 c).kept w t d = (dats m 0 c).after w t)
    (hf : ∀ t, (cfg0.win w).fetch t = false)
    (hlive : ∀ t : Fin cfg0.N, t.val % 10 = hi → cfg0.idle w (cfg0.grid.coords t) = false)
    (hidle : ∀ t : Fin cfg0.N, hi < t.val % 10 → cfg0.idle w (cfg0.grid.coords t) = true)
    (hfl : ∀ t : Fin cfg0.N, hi ≤ t.val % 10 → t.val % 10 < 9 → (cfg0.win w).flush t = false)
    (ha : ∀ t t' : Fin cfg0.N, t.val = t'.val + 1 → hi ≤ t'.val % 10 → t'.val % 10 < 9 → (dats m 0 c).after w t = (dats m 0 c).after w t') :
    ∀ n (t : Fin cfg0.N), t.val = n → hi < n % 10 → (dats m 0 c).before w t d = (dats m 0 c).after w t := by
  intro n
  induction n with
  | zero => intro t _ h; omega
  | succ n ih =>
    intro t ht h
    have hn : n < cfg0.N := by have := t.isLt; omega
    rw [Dat.before_of_pos _ w t (by omega) (hf t)]
    have e : (⟨t.val - 1, Nat.lt_of_le_of_lt (Nat.sub_le _ _) t.isLt⟩ : Fin cfg0.N) = ⟨n, hn⟩ := Fin.ext (by show t.val - 1 = n; omega)
    have h1 : hi ≤ n % 10 := by omega
    have h2 : n % 10 < 9 := by omega
    rw [e, hfl ⟨n, hn⟩ h1 h2, if_neg Bool.false_ne_true, ha t ⟨n, hn⟩ ht h1 h2]
    unfold Dat.left
    rcases Nat.lt_or_eq_of_le h1 with h3 | h3
    · rw [hidle ⟨n, hn⟩ h3]; exact ih ⟨n, hn⟩ rfl h3
    · rw [hlive ⟨n, hn⟩ h3.symm]; exact hk ⟨n, hn⟩

/-- What an output's buffer must hold after the body: the product where one is stored or written back, and else what it
    held. -/
theorem leaves_of (c : Dev nD) (w : Fin cfg0.W) (t : Fin cfg0.N) (L : Prop) [Decidable L] (X : (cfg0.win w).block.Idx → Elt F (cfg0.win w).elt) (d)
    (hi : cfg0.idle w (cfg0.grid.coords t) = !decide L) (hl : L → X = (dats m 0 c).after w t)
    (hc : ¬ L → (cfg0.win w).flush t = true → (dats m 0 c).before w t d = (dats m 0 c).after w t) :
    (dats m 0 c).Leaves w t (if L then X else (dats m 0 c).before w t d) := by
  unfold Dat.Leaves
  by_cases h : L
  · rw [hi, decide_eq_true h, if_pos h]
    exact hl h
  · rw [hi, decide_eq_false h, if_neg h]
    cases hf : (cfg0.win w).flush t
    · exact ⟨d, rfl⟩
    · exact hc h hf

/-- The normed row tile that the body leaves in the scratch. -/
theorem uAfter_eq (c : Dev nD) (t : Fin cfg0.N) (s) (hs : t.val % 10 ≠ 0 → s = U m c (t.val / 10)) :
    uAfter (grid0.coords t) (iblk m c 0 t) (iblk m c 1 t) s = U m c (t.val / 10) := by
  unfold uAfter
  rw [col_eq]
  by_cases h : t.val % 10 = 0
  · rw [if_pos h]; unfold U; rw [pt_self t 0 h]
  · rw [if_neg h]; exact hs h

theorem leaves3 (c : Dev nD) (t : Fin cfg0.N) (d) :
    (dats m 0 c).Leaves 3 t (if t.val % 10 = 0 then k0_pay3 (U m c (t.val / 10)) (iblk m c 2 t) else (dats m 0 c).before 3 t d) :=
  leaves_of m c 3 t _ _ d (idle3 t) (fun h => by rw [after3, pt_self t 0 h])
    (fun h hf => carried m c 3 0 d (fun _ => rfl) (fun _ => rfl) (fun t h => by rw [idle3, decide_eq_true h]; rfl)
      (fun t h => by rw [idle3, decide_eq_false (by omega)]; rfl)
      (fun t h1 h2 => Bool.eq_false_iff.mpr fun e => by have := (flush0_3 t).mp e; omega)
      (fun t t' h h1 h2 => by rw [after3, after3, show t.val / 10 = t'.val / 10 by omega]) t.val t rfl (by omega))

theorem leaves4 (c : Dev nD) (t : Fin cfg0.N) (d) :
    (dats m 0 c).Leaves 4 t (if 1 ≤ t.val % 10 ∧ t.val % 10 < 3 then k0_pay2 (U m c (t.val / 10)) (iblk m c 2 t) else (dats m 0 c).before 4 t d) :=
  leaves_of m c 4 t _ _ d (idle4 t) (fun h => by rw [after4, pt_self t _ (by omega)])
    (fun h hf => carried m c 4 2 d (fun _ => rfl) (fun _ => rfl) (fun t h => by rw [idle4, decide_eq_true (by omega)]; rfl)
      (fun t h => by rw [idle4, decide_eq_false (by omega)]; rfl)
      (fun t h1 h2 => Bool.eq_false_iff.mpr fun e => by have := (flush4 t).mp e; omega)
      (fun t t' h h1 h2 => by
        rw [after4, after4, show t.val / 10 = t'.val / 10 by omega, show min (t.val % 10) 2 = min (t'.val % 10) 2 by omega])
      t.val t rfl (by have := (flush4 t).mp hf; omega))

theorem leaves5 (c : Dev nD) (t : Fin cfg0.N) (d) :
    (dats m 0 c).Leaves 5 t (if t.val % 10 = 3 then k0_pay4 (U m c (t.val / 10)) (iblk m c 2 t) else (dats m 0 c).before 5 t d) :=
  leaves_of m c 5 t _ _ d (idle5 t) (fun h => by rw [after5, pt_self t 3 h])
    (fun h hf => carried m c 5 3 d (fun _ => rfl) (fun _ => rfl) (fun t h => by rw [idle5, decide_eq_true h]; rfl)
      (fun t h => by rw [idle5, decide_eq_false (by omega)]; rfl)
      (fun t h1 h2 => Bool.eq_false_iff.mpr fun e => by have := (flush0_5 t).mp e; omega)
      (fun t t' h h1 h2 => by rw [after5, after5, show t.val / 10 = t'.val / 10 by omega]) t.val t rfl
      (by have := (flush0_5 t).mp hf; omega))

theorem leaves6 (c : Dev nD) (t : Fin cfg0.N) (d) :
    (dats m 0 c).Leaves 6 t (if 4 ≤ t.val % 10 ∧ t.val % 10 < 6 then k0_pay2 (U m c (t.val / 10)) (iblk m c 2 t) else (dats m 0 c).before 6 t d) :=
  leaves_of m c 6 t _ _ d (idle6 t) (fun h => by rw [after6, pt_self t _ (by omega)])
    (fun h hf => carried m c 6 5 d (fun _ => rfl) (fun _ => rfl) (fun t h => by rw [idle6, decide_eq_true (by omega)]; rfl)
      (fun t h => by rw [idle6, decide_eq_false (by omega)]; rfl)
      (fun t h1 h2 => Bool.eq_false_iff.mpr fun e => by have := (flush0_6 t).mp e; omega)
      (fun t t' h h1 h2 => by
        rw [after6, after6, show t.val / 10 = t'.val / 10 by omega, show min (t.val % 10) 5 = min (t'.val % 10) 5 by omega])
      t.val t rfl (by have := (flush0_6 t).mp hf; omega))

theorem leaves7 (c : Dev nD) (t : Fin cfg0.N) (d) :
    (dats m 0 c).Leaves 7 t (if 6 ≤ t.val % 10 then k0_pay5 (U m c (t.val / 10)) (iblk m c 2 t) else (dats m 0 c).before 7 t d) :=
  leaves_of m c 7 t _ _ d (idle7 t) (fun h => by rw [after7]) (fun h hf => absurd ((flush7 t).mp hf) h)

/-! ## The body's obligation -/

/-- What is handed to the body at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What an output's buffer is asked to hold after a point. -/
def outPost (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ outPost m c 3 t ∗ outPost m c 4 t ∗ outPost m c 5 t ∗ outPost m c 6 t ∗ outPost m c 7 t)

/-- The buffer that a point leaves, as the pipeline asks for it. -/
theorem owns_leaves (c : Dev nD) (w : Fin cfg0.W) (t : Fin cfg0.N) (X : (cfg0.win w).block.Idx → Elt F (cfg0.win w).elt)
    (h : (dats m 0 c).Leaves w t X) :
    owns (c : Thread nD τ) ((cfg0.win w).stage (cfg0.slots t w)) fullShare X ⊢ outPost m c w t := by
  unfold Dat.Leaves at h
  unfold outPost
  cases hi : cfg0.idle w (cfg0.grid.coords t)
  · rw [hi] at h; obtain rfl := h; exact .rfl
  · rw [hi] at h
    cases hf : (cfg0.win w).flush t
    · rw [hf] at h; obtain ⟨d, rfl⟩ := h
      iintro H; iexists d; iexact H
    · rw [hf] at h; obtain rfl := h; exact .rfl

/-- The invariant moves on by one point. -/
theorem inv_succ (c : Dev nD) (t : Fin cfg0.N) :
    iprop(owns (c : Thread nD τ) (Memref.whole cc0_scratch0) fullShare (U m c (t.val / 10)) ∗ ∃ r, prngReg c r) ⊢ (dats m 0 c).Φ t.succ := by
  show _ ⊢ Inv m c (t.val + 1)
  unfold Inv
  iintro ⟨H, Hr⟩
  isplitl [H]
  · iexists _; isplitr; swap
    · iexact H
    · ipureintro; intro h; rw [show (t.val + 1) / 10 = t.val / 10 by omega]
  iexact Hr

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.castSucc = Inv m c t.val from rfl,
    show (dats m 0 c).owesAt () t.succ = (dats m 0 c).owesAt () t.castSucc from rfl, after0, after1, after2]
  unfold Inv
  iintro ⟨⟨⟨%s, %hs, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun c (grid0.coords t) _ _ _ _ _ _ _ _ _ _ _ _ _ _ _ _ _ _ (iblk m c 0 t) (iblk m c 1 t) (iblk m c 2 t)
    ((dats m 0 c).before 3 t d3) ((dats m 0 c).before 4 t d4) ((dats m 0 c).before 5 t d5) ((dats m 0 c).before 6 t d6)
    ((dats m 0 c).before 7 t d7) s Set.univ _)
  rw [uAfter_eq m c t s hs, col_eq]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hr]
  · iapply (inv_succ m c t)
    isplitl [HS]; · iexact HS
    iexact Hr
  isplitl [Ho]; · iexact Ho
  isplitl [H0]; · iexact H0
  isplitl [H1]; · iexact H1
  isplitl [H2]; · iexact H2
  isplitl [H3]; · iapply (owns_leaves m c 3 t _ (leaves3 m c t d3)); iexact H3
  isplitl [H4]; · iapply (owns_leaves m c 4 t _ (leaves4 m c t d4)); iexact H4
  isplitl [H5]; · iapply (owns_leaves m c 5 t _ (leaves5 m c t d5)); iexact H5
  isplitl [H6]; · iapply (owns_leaves m c 6 t _ (leaves6 m c t d6)); iexact H6
  iapply (owns_leaves m c 7 t _ (leaves7 m c t d7)); iexact H7

/-- The table's row at a point is the body at it. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The invariant before the first point is what the region finds. -/
theorem inv_in (c : Dev nD) : Pipeline.ΦA spec0 c ⊢ Inv (F := F) m c 0 := by
  unfold Pipeline.ΦA Inv
  rw [scopedRest0_eq]; simp only [owns_whole]
  iintro ⟨⟨%f, H⟩, Hr⟩
  isplitl [H]
  · iexists _; isplitr; swap
    · iexact H
    · ipureintro; intro h; exact absurd rfl h
  iexact Hr

/-- The invariant after the last point gives back what the region found. -/
theorem inv_out (c : Dev nD) : Inv (F := F) m c cfg0.N ⊢ Pipeline.ΦA spec0 c := by
  unfold Pipeline.ΦA Inv
  rw [scopedRest0_eq]; simp only [owns_whole]
  iintro ⟨⟨%s, %hs, H⟩, Hr⟩
  isplitl [H]
  · iexists s; iexact H
  iexact Hr

set_option backward.isDefEq.respectTransparency.types false in
/-- The whole program's run: every array ends at what the proof data says, and no semaphore is left raised. -/
theorem run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => inv_in m c) (hout := fun c => inv_out m c)

/-- The arguments end unchanged, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Proj

end
-- ==== Proof.ProjValue.lean ====
/-
  What the projection leaves in its five results, entry by entry.
-/
module

public import proofs.«01_k».proof.Proof.ProjFrame
public import Idealize.ShloMosaic.Lib.Pipeline.ValueKit
public import Idealize.ShloMosaic.Lib.Pipeline.Value

@[expose] public section

set_option maxRecDepth 16384

noncomputable section

namespace Cert.Proj

open Idealize.ShloMosaic

/-! ## The projection -/

section Layer

variable (x : Fin 8 → Fin 2048 → Fin 2048 → EReal) (g : Fin 2048 → EReal) (w : Fin 2048 → Fin 10240 → EReal)

/-- The normed row of a token. -/
def norm (b : Fin 8) (t k : Fin 2048) : EReal :=
  x b t k * Ideal.rsqrt (Ideal.div (∑ e : Fin 2048, x b t e * x b t e) (Ideal.ofBits .f32 0x45000000#32) + Ideal.ofBits .f32 0x358637BD#32) * g k

/-- An entry of the projection of a token's normed row. -/
def proj (b : Fin 8) (t : Fin 2048) (n : Fin 10240) : EReal := ∑ k : Fin 2048, norm x g b t k * w k n

end Layer

open Cert.Kernel2Ideal Cert.Kernel2Ideal.Gen Idealize.ShloMosaic.TcCoe Idealize.SL.Sem
open Idealize.ShloMosaic.Pipeline (Dat)

theorem pay1_at (x0 : Vec Ideal S512x2048 .f32) (x1 : Vec Ideal S1x2048 .f32) (r : Fin 512) (k : Fin 2048) :
    (k0_pay1 x0 x1 (ix2 r k) : EReal) = x0 (ix2 r k) *
      Ideal.rsqrt (Ideal.div (∑ e : Fin 2048, x0 (ix2 r e) * x0 (ix2 r e)) (Ideal.ofBits .f32 0x45000000#32) + Ideal.ofBits .f32 0x358637BD#32) * x1 (ix2 0 k) := by
  unfold k0_pay1
  pointwise []

theorem pay2_at (u : Vec Ideal S512x2048 .bf16) (w : Vec Ideal S2048x1024 .bf16) (r : Fin 512) (n : Fin 1024) :
    (k0_pay2 u w (ix2 r n) : EReal) = ∑ k : Fin 2048, u (ix2 r k) * w (ix2 k n) := by
  unfold k0_pay2
  pointwise []

theorem pay5_at (u : Vec Ideal S512x2048 .bf16) (w : Vec Ideal S2048x1024 .bf16) (r : Fin 512) (n : Fin 1024) :
    (k0_pay5 u w (ix2 r n) : EReal) = Ideal.logistic (k0_pay2 u w (ix2 r n)) := by
  unfold k0_pay5
  pointwise []

theorem pay3_at (u : Vec Ideal S512x2048 .bf16) (w : Vec Ideal S2048x1024 .bf16) (r : Fin 512) (n : Fin 1024) :
    (k0_pay3 u w (ix2 r n) : EReal) = k0_pay2 u w (ix2 r n) * Ideal.ofBits .f32 0x3DB504F3#32 := by
  unfold k0_pay3
  pointwise []

theorem pay4_at (u : Vec Ideal S512x2048 .bf16) (w : Vec Ideal S2048x1024 .bf16) (r : Fin 512) (n : Fin 1024) :
    (k0_pay4 u w (ix2 r n) : EReal) = k0_pay2 u w (ix2 r n) * Ideal.ofBits .f32 0x3DB504F3#32 := by
  unfold k0_pay4
  pointwise []

variable (m : (ℓ : Loc nD τ sig) → Buf (Elt Ideal) ℓ)

/-- The tokens, the gain and the weights a run is launched on. -/
def X (c : Dev nD) (b : Fin 8) (t k : Fin 2048) : EReal := m ((c : Thread nD τ).loc main_arg0) (ix3 b t k)
def G (c : Dev nD) (k : Fin 2048) : EReal := m ((c : Thread nD τ).loc main_arg1) (ix2 0 k)
def W (c : Dev nD) (k : Fin 2048) (n : Fin 10240) : EReal := m ((c : Thread nD τ).loc main_arg2) (ix3 0 k n)

/-- The projection's entry at a row of the flattened tokens. -/
def projAt (c : Dev nD) (r : Fin 16384) (n : Fin 10240) : EReal :=
  proj (X m c) (G m c) (W m c) ⟨r.val / 2048, by omega⟩ ⟨r.val % 2048, by omega⟩ n

theorem idx : ∀ t : Fin cfg0.N,
    win0_0.index t = ![t.val / 10, 0] ∧ win0_1.index t = ![0, 0] ∧ win0_2.index t = ![0, t.val % 10] ∧
    win0_3.index t = ![t.val / 10, 0] ∧ win0_4.index t = ![t.val / 10, min (t.val % 10 - 1) 1] ∧
    win0_5.index t = ![t.val / 10, 0] ∧ win0_6.index t = ![t.val / 10, min (t.val % 10 - 4) 1] ∧
    win0_7.index t = ![t.val / 10, min (t.val % 10 - 6) 3] :=
  (by decide +kernel : ∀ t : Fin grid0.N, _)

theorem x_at (c : Dev nD) (t : Fin cfg0.N) (r : Fin 512) (k : Fin 2048) :
    (iblk m c 0 t (ix2 r k) : EReal) =
      X m c ⟨(512 * (t.val / 10) + r.val) / 2048, by have := lt_N t; omega⟩ ⟨(512 * (t.val / 10) + r.val) % 2048, by omega⟩ k := by
  unfold X
  blk_point [iblk, V, idx t]

theorem g_at (c : Dev nD) (t : Fin cfg0.N) (k : Fin 2048) : (iblk m c 1 t (ix2 0 k) : EReal) = G m c k := by
  unfold G
  blk_point [iblk, V, idx t]

theorem w_at (c : Dev nD) (t : Fin cfg0.N) (k : Fin 2048) (n : Fin 1024) :
    (iblk m c 2 t (ix2 k n) : EReal) = W m c k ⟨1024 * (t.val % 10) + n.val, by omega⟩ := by
  unfold W
  blk_simp [iblk, idx t]
  entry_read
  pointwise []
  blk_point [iblk, V, idx t]

theorem pt_div (r j : ℕ) (hr : r < 32) (hj : j < 10) : (pt r j).val / 10 = r := by
  show (10 * r + j) % 320 / 10 = r; omega
theorem pt_mod (r j : ℕ) (hr : r < 32) (hj : j < 10) : (pt r j).val % 10 = j := by
  show (10 * r + j) % 320 % 10 = j; omega

/-- The scratch's entries are the normed rows. -/
theorem U_at (c : Dev nD) (q : ℕ) (hq : q < 32) (r : Fin 512) (k : Fin 2048) :
    (U m c q (ix2 r k) : EReal) =
      norm (X m c) (G m c) ⟨(512 * q + r.val) / 2048, by omega⟩ ⟨(512 * q + r.val) % 2048, by omega⟩ k := by
  unfold U norm
  rw [pay1_at]
  simp only [x_at, g_at, pt_div q 0 hq (by omega)]

/-- A product tile's entries are the projection's. -/
theorem tile_at (c : Dev nD) (q j : ℕ) (hq : q < 32) (t : Fin cfg0.N) (ht : t.val % 10 = j) (r : Fin 512) (n : Fin 1024) :
    (k0_pay2 (U m c q) (iblk m c 2 t) (ix2 r n) : EReal) = projAt m c ⟨512 * q + r.val, by omega⟩ ⟨1024 * j + n.val, by omega⟩ := by
  subst ht
  rw [pay2_at]
  unfold projAt proj
  refine Finset.sum_congr (M := EReal) rfl fun k _ => ?_
  rw [U_at m c q hq, w_at]

/-- The five results. -/
def out3 (c : Dev nD) : S16384x1024.Idx → EReal := fun j =>
  projAt m c (j 0) ⟨(j 1).val, by have : (j 1).val < 1024 := (j 1).isLt; omega⟩ * Ideal.ofBits .f32 0x3DB504F3#32
def out4 (c : Dev nD) : S16384x2048.Idx → EReal := fun j =>
  projAt m c (j 0) ⟨1024 + (j 1).val, by have : (j 1).val < 2048 := (j 1).isLt; omega⟩
def out5 (c : Dev nD) : S16384x1024.Idx → EReal := fun j =>
  projAt m c (j 0) ⟨3072 + (j 1).val, by have : (j 1).val < 1024 := (j 1).isLt; omega⟩ * Ideal.ofBits .f32 0x3DB504F3#32
def out6 (c : Dev nD) : S16384x2048.Idx → EReal := fun j =>
  projAt m c (j 0) ⟨4096 + (j 1).val, by have : (j 1).val < 2048 := (j 1).isLt; omega⟩
def out7 (c : Dev nD) : S16384x4096.Idx → EReal := fun j =>
  Ideal.logistic (projAt m c (j 0) ⟨6144 + (j 1).val, by have : (j 1).val < 4096 := (j 1).isLt; omega⟩)

theorem projAt_congr (c : Dev nD) {r r' : Fin 16384} {n n' : Fin 10240} (hr : r.val = r'.val) (hn : n.val = n'.val) :
    projAt m c r n = projAt m c r' n' := by
  rw [Fin.ext hr, Fin.ext hn]

/-! Each result's array, after the run, holds these entries. -/

theorem final3 (c : Dev nD) : (dats m 0 c).arrAt 3 cfg0.N = out3 m c := by
  refine (dats m 0 c).arrAt_eq_of_covers 3 _ (by decide +kernel) fun t hf y => ?_
  have hm := (flush0_3 t).mp hf
  blk_simp
  rw [after3]
  idx_vars y
  have hq : t.val / 10 < 32 := by have := lt_N t; omega
  refine Eq.trans (b := out3 m c (ix2 ⟨512 * (t.val / 10) + y0.val, by omega⟩ ⟨y1.val, by omega⟩)) ?_ (congrArg (out3 m c) ?_)
  · refine (pay3_at _ _ _ _).trans ?_
    rw [tile_at m c _ 0 hq _ (pt_mod _ 0 hq (by omega))]
    exact congrArg (· * Ideal.ofBits .f32 0x3DB504F3#32) (projAt_congr m c rfl (by show 1024 * 0 + y1.val = y1.val; omega))
  · blk_ext [idx t]

theorem final4 (c : Dev nD) : (dats m 0 c).arrAt 4 cfg0.N = out4 m c := by
  refine (dats m 0 c).arrAt_eq_of_covers 4 _ (by decide +kernel) fun t hf y => ?_
  have hm := (flush4 t).mp hf
  blk_simp
  rw [after4]
  idx_vars y
  have hq : t.val / 10 < 32 := by have := lt_N t; omega
  refine Eq.trans (b := out4 m c (ix2 ⟨512 * (t.val / 10) + y0.val, by omega⟩ ⟨1024 * min (t.val % 10 - 1) 1 + y1.val, by omega⟩)) ?_ (congrArg (out4 m c) ?_)
  · show (k0_pay2 (U m c (t.val / 10)) _ (ix2 y0 y1) : EReal) = _
    rw [tile_at m c _ (min (t.val % 10) 2) hq _ (pt_mod _ _ hq (by omega))]
    exact projAt_congr m c rfl (by show 1024 * min (t.val % 10) 2 + y1.val = 1024 + (1024 * min (t.val % 10 - 1) 1 + y1.val); omega)
  · blk_ext [idx t]

theorem final5 (c : Dev nD) : (dats m 0 c).arrAt 5 cfg0.N = out5 m c := by
  refine (dats m 0 c).arrAt_eq_of_covers 5 _ (by decide +kernel) fun t hf y => ?_
  have hm := (flush0_5 t).mp hf
  blk_simp
  rw [after5]
  idx_vars y
  have hq : t.val / 10 < 32 := by have := lt_N t; omega
  refine Eq.trans (b := out5 m c (ix2 ⟨512 * (t.val / 10) + y0.val, by omega⟩ ⟨y1.val, by omega⟩)) ?_ (congrArg (out5 m c) ?_)
  · refine (pay4_at _ _ _ _).trans ?_
    rw [tile_at m c _ 3 hq _ (pt_mod _ 3 hq (by omega))]
    exact congrArg (· * Ideal.ofBits .f32 0x3DB504F3#32) (projAt_congr m c rfl (by show 1024 * 3 + y1.val = 3072 + y1.val; omega))
  · blk_ext [idx t]

theorem final6 (c : Dev nD) : (dats m 0 c).arrAt 6 cfg0.N = out6 m c := by
  refine (dats m 0 c).arrAt_eq_of_covers 6 _ (by decide +kernel) fun t hf y => ?_
  have hm := (flush0_6 t).mp hf
  blk_simp
  rw [after6]
  idx_vars y
  have hq : t.val / 10 < 32 := by have := lt_N t; omega
  refine Eq.trans (b := out6 m c (ix2 ⟨512 * (t.val / 10) + y0.val, by omega⟩ ⟨1024 * min (t.val % 10 - 4) 1 + y1.val, by omega⟩)) ?_ (congrArg (out6 m c) ?_)
  · show (k0_pay2 (U m c (t.val / 10)) _ (ix2 y0 y1) : EReal) = _
    rw [tile_at m c _ (min (t.val % 10) 5) hq _ (pt_mod _ _ hq (by omega))]
    exact projAt_congr m c rfl (by show 1024 * min (t.val % 10) 5 + y1.val = 4096 + (1024 * min (t.val % 10 - 4) 1 + y1.val); omega)
  · blk_ext [idx t]

theorem final7 (c : Dev nD) : (dats m 0 c).arrAt 7 cfg0.N = out7 m c := by
  refine (dats m 0 c).arrAt_eq_of_covers 7 _ (by decide +kernel) fun t hf y => ?_
  have hm := (flush7 t).mp hf
  blk_simp
  rw [after7]
  idx_vars y
  have hq : t.val / 10 < 32 := by have := lt_N t; omega
  refine Eq.trans (b := out7 m c (ix2 ⟨512 * (t.val / 10) + y0.val, by omega⟩ ⟨1024 * min (t.val % 10 - 6) 3 + y1.val, by omega⟩)) ?_ (congrArg (out7 m c) ?_)
  · refine (pay5_at _ _ _ _).trans ?_
    rw [tile_at m c _ _ hq _ rfl]
    exact congrArg Ideal.logistic (projAt_congr m c rfl (by show 1024 * (t.val % 10) + y1.val = 6144 + (1024 * min (t.val % 10 - 6) 3 + y1.val); omega))
  · blk_ext [idx t]

end Cert.Proj

end
-- ==== Proof.ProjRes.lean ====
/-
  The reference's projections, entry by entry.
-/
module

public import proofs.«01_k».proof.Proof.ProjValue
public import proofs.«01_k».proof.Proof.Gen.Reference2Ideal.Run

@[expose] public section

set_option maxRecDepth 16384

noncomputable section

namespace Cert.Proj

section Entries

open Idealize.ShloMosaic Idealize.ShloMosaic.TcCoe Cert.Reference2Ideal Cert.Reference2Ideal.Gen

/-- The reference's product of the normed tokens and the weights. -/
def product (a0 : FVec Ideal S8x2048x2048 .f32) (a1 : FVec Ideal S1x2048 .f32) (a2 : FVec Ideal S1x2048x10240 .f32) : FVec Ideal S8x2048x10240 .f32 :=
  Host.dotGeneral dot_S8x2048x2048_S2048x10240_S8x2048x10240_2_0_01_1_n_n none (mulf (mulf a0 (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf a0 a0) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast S2048 a1 shapeCasts_S1x2048_S2048)))) (shapeCast S2048x10240 a2 shapeCasts_S1x2048x10240_S2048x10240)

/-- Its entries are the projection's. -/
theorem product_at (a0 : FVec Ideal S8x2048x2048 .f32) (a1 : FVec Ideal S1x2048 .f32) (a2 : FVec Ideal S1x2048x10240 .f32)
    (b : Fin 8) (t : Fin 2048) (n : Fin 10240) :
    (product a0 a1 a2 (ix3 b t n) : EReal) =
      proj (fun b t k => a0 (ix3 b t k)) (fun k => a1 (ix2 0 k)) (fun k n => a2 (ix3 0 k n)) b t n := by
  unfold product proj norm
  pointwise []

variable (P : FVec Ideal S8x2048x10240 .f32)

/-- Result 0 of the reference, of its product. -/
def res3 : FVec Ideal S16384x1024 .bf16 :=
  truncf .bf16 (shapeCast S16384x1024 (mulf (extractStridedSlice S8x2048x1024 ![0, 0, 0] P slices_S8x2048x10240_S8x2048x1024_0_0_0) (broadcastInDim S8x2048x1024 ![] bcast_S_S8x2048x1024 (constant S_ .f32 0x3DB504F3#32))) shapeCasts_S8x2048x1024_S16384x1024) bitsLt_bf16_f32

theorem res3_at (r : Fin 16384) (n : Fin 1024) : (res3 P (ix2 r n) : EReal) = P (ix3 ⟨r.val / 2048, by omega⟩ ⟨r.val % 2048, by omega⟩ ⟨0 + n.val, by omega⟩) * Ideal.ofBits .f32 0x3DB504F3#32 := by
  unfold res3
  pointwise []

/-- Result 1 of the reference, of its product. -/
def res4 : FVec Ideal S16384x2048 .f32 :=
  shapeCast S16384x2048 (concatenate S8x2048x2x8x128 2 [⟨S8x2048x1x8x128, (broadcastInDim S8x2048x1x8x128 ![0, 1, 3, 4] bcast_S8x2048x8x128_S8x2048x1x8x128_0_1_3_4 (shapeCast S8x2048x8x128 (extractStridedSlice S8x2048x1024 ![0, 0, 1024] P slices_S8x2048x10240_S8x2048x1024_0_0_1024) shapeCasts_S8x2048x1024_S8x2048x8x128))⟩, ⟨S8x2048x1x8x128, (broadcastInDim S8x2048x1x8x128 ![0, 1, 3, 4] bcast_S8x2048x8x128_S8x2048x1x8x128_0_1_3_4 (shapeCast S8x2048x8x128 (extractStridedSlice S8x2048x1024 ![0, 0, 2048] P slices_S8x2048x10240_S8x2048x1024_0_0_2048) shapeCasts_S8x2048x1024_S8x2048x8x128))⟩] concatenates_S8x2048x1x8x128_S8x2048x1x8x128_S8x2048x2x8x128_d2) shapeCasts_S8x2048x2x8x128_S16384x2048

theorem res4_at (r : Fin 16384) (n : Fin 2048) : (res4 P (ix2 r n) : EReal) = P (ix3 ⟨r.val / 2048, by omega⟩ ⟨r.val % 2048, by omega⟩ ⟨1024 + n.val, by omega⟩) := by
  unfold res4
  pointwise []
  split
  · exact congrArg P (congrArg (ix3 _ _) (Fin.ext (by show _ + _ = _ + _; omega)))
  · exact congrArg P (congrArg (ix3 _ _) (Fin.ext (by show _ + _ = _ + _; omega)))

/-- Result 2 of the reference, of its product. -/
def res5 : FVec Ideal S16384x1024 .bf16 :=
  truncf .bf16 (shapeCast S16384x1024 (mulf (extractStridedSlice S8x2048x1024 ![0, 0, 3072] P slices_S8x2048x10240_S8x2048x1024_0_0_3072) (broadcastInDim S8x2048x1024 ![] bcast_S_S8x2048x1024 (constant S_ .f32 0x3DB504F3#32))) shapeCasts_S8x2048x1024_S16384x1024) bitsLt_bf16_f32

theorem res5_at (r : Fin 16384) (n : Fin 1024) : (res5 P (ix2 r n) : EReal) = P (ix3 ⟨r.val / 2048, by omega⟩ ⟨r.val % 2048, by omega⟩ ⟨3072 + n.val, by omega⟩) * Ideal.ofBits .f32 0x3DB504F3#32 := by
  unfold res5
  pointwise []

/-- Result 3 of the reference, of its product. -/
def res6 : FVec Ideal S16384x2048 .f32 :=
  shapeCast S16384x2048 (concatenate S8x2048x2x4x256 2 [⟨S8x2048x1x4x256, (broadcastInDim S8x2048x1x4x256 ![0, 1, 3, 4] bcast_S8x2048x4x256_S8x2048x1x4x256_0_1_3_4 (shapeCast S8x2048x4x256 (shapeCast S8x2048x4x2x128 (extractStridedSlice S8x2048x1024 ![0, 0, 4096] P slices_S8x2048x10240_S8x2048x1024_0_0_4096) shapeCasts_S8x2048x1024_S8x2048x4x2x128) shapeCasts_S8x2048x4x2x128_S8x2048x4x256))⟩, ⟨S8x2048x1x4x256, (broadcastInDim S8x2048x1x4x256 ![0, 1, 3, 4] bcast_S8x2048x4x256_S8x2048x1x4x256_0_1_3_4 (shapeCast S8x2048x4x256 (extractStridedSlice S8x2048x1024 ![0, 0, 5120] P slices_S8x2048x10240_S8x2048x1024_0_0_5120) shapeCasts_S8x2048x1024_S8x2048x4x256))⟩] concatenates_S8x2048x1x4x256_S8x2048x1x4x256_S8x2048x2x4x256_d2) shapeCasts_S8x2048x2x4x256_S16384x2048

theorem res6_at (r : Fin 16384) (n : Fin 2048) : (res6 P (ix2 r n) : EReal) = P (ix3 ⟨r.val / 2048, by omega⟩ ⟨r.val % 2048, by omega⟩ ⟨4096 + n.val, by omega⟩) := by
  unfold res6
  pointwise []
  split
  · exact congrArg P (congrArg (ix3 _ _) (Fin.ext (by show _ + _ = _ + _; omega)))
  · exact congrArg P (congrArg (ix3 _ _) (Fin.ext (by show _ + _ = _ + _; omega)))

/-- Result 4 of the reference, of its product. -/
def res7 : FVec Ideal S16384x4096 .bf16 :=
  truncf .bf16 (shapeCast S16384x4096 (concatenate S8x2048x4096 2 [⟨S8x2048x2048, (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 6144] P slices_S8x2048x10240_S8x2048x2048_0_0_6144)))))⟩, ⟨S8x2048x2048, (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (extractStridedSlice S8x2048x2048 ![0, 0, 8192] P slices_S8x2048x10240_S8x2048x2048_0_0_8192)))))⟩] concatenates_S8x2048x2048_S8x2048x2048_S8x2048x4096_d2) shapeCasts_S8x2048x4096_S16384x4096) bitsLt_bf16_f32

theorem res7_at (r : Fin 16384) (n : Fin 4096) : (res7 P (ix2 r n) : EReal) = Ideal.logistic (P (ix3 ⟨r.val / 2048, by omega⟩ ⟨r.val % 2048, by omega⟩ ⟨6144 + n.val, by omega⟩)) := by
  unfold res7
  pointwise []
  split
  · rfl
  · exact congrArg (fun i => Ideal.logistic (P (ix3 _ _ i))) (Fin.ext (by show _ + _ = _ + _; omega))

end Entries

end Cert.Proj

end
-- ==== Proof.ProjRef.lean ====
/-
  The reference's projections are the same entries, and so kernel and reference agree on the five results.
-/
module

public import proofs.«01_k».proof.Defs
public import proofs.«01_k».proof.Proof.ProjRes
public import proofs.«01_k».proof.Proof.Gen.Kernel2
public import proofs.«01_k».proof.Proof.Gen.Reference2Ideal.Run
public import Idealize.ShloMosaic.Lib.StableHlo.RunHlo

@[expose] public section

set_option maxRecDepth 16384

noncomputable section

namespace Cert.Proj

open Idealize.ShloMosaic Idealize.ShloMosaic.TcCoe Idealize.SL.Sem

instance : Cert.Kernel2.Facts := Cert.Kernel2.Gen.facts

/-! ## The frames -/

/-- The two programs' body tables are the same text. -/
theorem defs_eq : Cert.Kernel2.defs (F := Bits) = Cert.Kernel2Ideal.defs (F := Bits) := by sl_kernel_rfl

/-- The frame over bit patterns, from the one run. -/
theorem frame_bits : Cert.quiescent_Kernel2 := fun m ρ _ => by
  rw [defs_eq]
  exact frame (F := Bits) m ρ

/-- The frame over exact numbers. -/
theorem frame_ideal : Cert.quiescent_Kernel2Ideal := fun m ρ _ => frame (F := Ideal) m ρ

/-- The reference runs, and leaves its arguments and its counters, of which it has none. -/
theorem frame_ref : Cert.quiescent_Reference2Ideal := fun m ρ _ =>
  (θ_run _ _ _).mono (fun r h => ⟨fun c => (h c).2.2.2.2.2, sem_eq_zero_of_no_sems (by decide) r.2⟩)
    (Cert.Reference2Ideal.Value.run m ρ)

/-! ## The values -/

section Entries

variable (m : (ℓ : Loc Cert.Kernel2Ideal.nD Cert.Kernel2Ideal.τ Cert.Kernel2Ideal.sig) → Buf (Elt Ideal) ℓ) (c : Dev Cert.Kernel2Ideal.nD)
  {a0 : FVec Ideal Cert.Reference2Ideal.S8x2048x2048 .f32} {a1 : FVec Ideal Cert.Reference2Ideal.S1x2048 .f32}
  {a2 : FVec Ideal Cert.Reference2Ideal.S1x2048x10240 .f32}
  (h0 : a0 = m ((c : Thread Cert.Kernel2Ideal.nD Cert.Kernel2Ideal.τ).loc Cert.Kernel2Ideal.main_arg0))
  (h1 : a1 = m ((c : Thread Cert.Kernel2Ideal.nD Cert.Kernel2Ideal.τ).loc Cert.Kernel2Ideal.main_arg1))
  (h2 : a2 = m ((c : Thread Cert.Kernel2Ideal.nD Cert.Kernel2Ideal.τ).loc Cert.Kernel2Ideal.main_arg2))
include h0 h1 h2

theorem ref3 : res3 (product a0 a1 a2) = out3 m c := by
  subst h0 h1 h2
  funext j
  refine (congrArg (res3 _) (eq_ix2 j)).trans ((res3_at _ (j 0) (j 1)).trans ?_)
  rw [product_at]
  simp only [Nat.zero_add]
  rfl

theorem ref4 : res4 (product a0 a1 a2) = out4 m c := by
  subst h0 h1 h2
  funext j
  refine (congrArg (res4 _) (eq_ix2 j)).trans ((res4_at _ (j 0) (j 1)).trans ?_)
  rw [product_at]
  rfl

theorem ref5 : res5 (product a0 a1 a2) = out5 m c := by
  subst h0 h1 h2
  funext j
  refine (congrArg (res5 _) (eq_ix2 j)).trans ((res5_at _ (j 0) (j 1)).trans ?_)
  rw [product_at]
  rfl

theorem ref6 : res6 (product a0 a1 a2) = out6 m c := by
  subst h0 h1 h2
  funext j
  refine (congrArg (res6 _) (eq_ix2 j)).trans ((res6_at _ (j 0) (j 1)).trans ?_)
  rw [product_at]
  rfl

theorem ref7 : res7 (product a0 a1 a2) = out7 m c := by
  subst h0 h1 h2
  funext j
  refine (congrArg (res7 _) (eq_ix2 j)).trans ((res7_at _ (j 0) (j 1)).trans ?_)
  rw [product_at]
  rfl

end Entries

/-- From equal arguments, over exact numbers, kernel and reference leave the same five results. -/
theorem algebraic : Cert.algebraic_Kernel2Ideal_Reference2Ideal := by
  intro m g m' g' hpre hag
  refine ⟨fun c => out3 m c, fun c => out4 m c, fun c => out5 m c, fun c => out6 m c, fun c => out7 m c, ?_, ?_⟩
  · refine (θ_run _ _ _).mono (fun r h c => ?_) (θ_run_and (run m g) (frame m g))
    obtain ⟨⟨h1, _⟩, h2, _⟩ := h
    exact ⟨((h1 c).1 3).trans (final3 m c), ((h1 c).1 4).trans (final4 m c), ((h1 c).1 5).trans (final5 m c),
      ((h1 c).1 6).trans (final6 m c), ((h1 c).1 7).trans (final7 m c), h2 c⟩
  · refine (θ_run _ _ _).mono (fun r h c => ?_) (Cert.Reference2Ideal.Value.run m' g')
    obtain ⟨h0, h1, h2, h3, h4, h5⟩ := h c
    obtain ⟨a0, a1, a2⟩ := hag c
    exact ⟨h0.trans (ref3 m c a0 a1 a2), h1.trans (ref4 m c a0 a1 a2), h2.trans (ref5 m c a0 a1 a2), h3.trans (ref6 m c a0 a1 a2), h4.trans (ref7 m c a0 a1 a2), h5⟩

end Cert.Proj

end
-- ==== Proof.DownRun.lean ====
/-
  The second expert product's body, run once for every grid point: a row block that the routing uses holds the product of
  its rows with its expert's weights plus the bias, laid out chunk by chunk; a row block past the used ones holds zeros.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.VecWindow
public import Idealize.ShloMosaic.Lib.Pipeline.ValueKit
public import Idealize.ShloMosaic.Lib.WordCmp

@[expose] public section

set_option maxRecDepth 16384

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

variable {F : FTy → Type} [FloatOps F]

local notation "𝕄" => MT nD τ sig Unit (Elt F) ℕ (UR sig nD τ) ℕ

/-! ## The two tables -/

/-- The table of the row blocks' experts, as the body is handed it. -/
abbrev beM : Memref sig .tc .smem S288 .i32 := Memref.whole main_v32
/-- The number of used row blocks, as the body is handed it. -/
abbrev nuM : Memref sig .tc .smem S1 .i32 := Memref.whole main_v34
/-- A table's contents on a core. -/
abbrev TabBuf (c : Dev nD) {S : Shape} {e : EltTy} (M : Memref sig .tc .smem S e) : Type := Buf (Elt F) (M.view.loc (c : Thread nD τ))
/-- A table held at half the full share: the body only reads it. -/
abbrev tabPt (c : Dev nD) {S : Shape} {e : EltTy} (M : Memref sig .tc .smem S e) (f : TabBuf (F := F) c M) : sProp 𝕄 :=
  M.view.loc (c : Thread nD τ) ↦{fullShare.right} f

/-! ## The branches -/

/-- A row block is either used or not. -/
theorem cond2_iff (i : grid0.Coords) (w : BitVec 32) : k0_cond2 i w = 1#1 ↔ ¬ k0_cond1 i w = 1#1 := by
  unfold k0_cond1 k0_cond2
  dsimp only
  generalize BitVec.ofNat 32 _ = a
  simp only [Scalar.cmpi, Scalar.extui, WordCmp.cmpi_slt_eq, WordCmp.cmpi_sge_eq]
  by_cases h : a.toInt < w.toInt
  · have h2 : ¬ w.toInt ≤ a.toInt := by omega
    rw [decide_eq_true h, decide_eq_false h2]; decide
  · have h2 : w.toInt ≤ a.toInt := by omega
    rw [decide_eq_false h, decide_eq_true h2]; decide

/-! ## The layout of a used block -/

/-- A used block: row `r`'s chunk `c` of the product is stored row `16 r + c`. -/
def laid (p : FVec F S256x2048 .f32) : Vec F S4096x128 .f32 := fun y =>
  have h0 : (y 0).val < 4096 := (y 0).isLt
  have h1 : (y 1).val < 128 := (y 1).isLt
  p (ValueIdx.ix2 ⟨(y 0).val / 16, by show _ < 256; omega⟩ ⟨128 * ((y 0).val % 16) + (y 1).val, by show _ < 2048; omega⟩)

/-- The rows a chunk is stored into: every sixteenth, from the chunk's own. -/
abbrev chunkRect (k : ℕ)
    (inb : ∀ a, S256x128.size a = 0 ∨ (![k, 0] : Fin 2 → ℕ) a + (![16, 1] : Fin 2 → ℕ) a * (S256x128.size a - 1) < S4096x128.size a)
    (pos : ∀ a, 0 < (![16, 1] : Fin 2 → ℕ) a) : Rect S4096x128 := { off := ![k, 0], size := S256x128.size, stride := ![16, 1], inb := inb, stride_pos := pos }

/-- A chunk's store writes the layout's words. -/
theorem laid_chunk (p : FVec F S256x2048 .f32) (k : ℕ) (hk : k < 16) (inb) (pos) (hs : S256x2048.Slices ![0, 128 * k] S256x128)
    (x : (chunkRect k inb pos).shape.Idx) :
    extractStridedSlice S256x128 ![0, 128 * k] p hs x = laid p ((chunkRect k inb pos).emb x) := by
  have h0 : (x 0).val < 256 := (x 0).isLt
  have h1 : (x 1).val < 128 := (x 1).isLt
  have e0 : ((chunkRect k inb pos).emb x 0).val = k + 16 * (x 0).val := rfl
  have e1 : ((chunkRect k inb pos).emb x 1).val = 0 + 1 * (x 1).val := rfl
  unfold extractStridedSlice laid
  dsimp only
  refine congrArg p (funext fun a => ?_)
  fin_cases a
  · refine Fin.ext ?_
    show 0 + (x 0).val = ((chunkRect k inb pos).emb x 0).val / 16
    omega
  · refine Fin.ext ?_
    show 128 * k + (x 1).val = 128 * (((chunkRect k inb pos).emb x 0).val % 16) + ((chunkRect k inb pos).emb x 1).val
    omega

/-- A word lies in its own chunk's rows. -/
theorem mem_chunk (k : ℕ) (inb) (pos) (y : S4096x128.Idx) (h : (y 0).val % 16 = k) : y ∈ (chunkRect k inb pos).set := by
  have h0 : (y 0).val < 4096 := (y 0).isLt
  have h1 : (y 1).val < 128 := (y 1).isLt
  refine (chunkRect k inb pos).toLoadRect.mem_set.mpr fun a => ?_
  fin_cases a
  · exact ⟨(y 0).val / 16, show _ < 256 by omega, show (y 0).val = k + 16 * ((y 0).val / 16) by omega⟩
  · exact ⟨(y 1).val, h1, show (y 1).val = 0 + 1 * (y 1).val by omega⟩

/-- A chunk's columns lie in the product. -/
theorem chunk_slices (k : ℕ) (hk : k < 16) : S256x2048.Slices ![0, 128 * k] S256x128 :=
  ⟨rfl, fun a => by
    fin_cases a
    · show 0 + 256 ≤ 256; decide
    · show 128 * k + 128 ≤ 2048; omega⟩

/-- A chunk's store: the product's columns from `128 k`, into the chunk's rows. -/
def chunkPiece (p : FVec F S256x2048 .f32) (k : ℕ) (hk : k < 16) : View.Piece (Elt F) S4096x128 .f32 :=
  ⟨chunkRect k
      (by
        intro a
        fin_cases a
        · right; show k + 16 * (256 - 1) < 4096; omega
        · right; show 0 + 1 * (128 - 1) < 128; decide)
      spos_16_1,
    extractStridedSlice S256x128 ![0, 128 * k] p
      (chunk_slices k hk)⟩

/-- The sixteen stores leave the layout, whatever was there. -/
theorem laid_writes {sg : RefSig} {M : Memref sg .tc .vmem S4096x128 .f32} (f : M.view.ty.Contents (Elt F)) (p : FVec F S256x2048 .f32) :
    M.view.read (Elt F) (M.view.writes (Elt F) f
      [chunkPiece p 15 (by decide), chunkPiece p 14 (by decide), chunkPiece p 13 (by decide), chunkPiece p 12 (by decide),
       chunkPiece p 11 (by decide), chunkPiece p 10 (by decide), chunkPiece p 9 (by decide), chunkPiece p 8 (by decide),
       chunkPiece p 7 (by decide), chunkPiece p 6 (by decide), chunkPiece p 5 (by decide), chunkPiece p 4 (by decide),
       chunkPiece p 3 (by decide), chunkPiece p 2 (by decide), chunkPiece p 1 (by decide), chunkPiece p 0 (by decide)])
      = laid p := by
  refine funext fun y => View.read_writes_apply_of_pieces _ _ (laid p) _ ?_ y ?_
  · have hp : ∀ k hk x, (chunkPiece p k hk).2 x = laid p ((chunkPiece p k hk).1.emb x) := fun k hk x => laid_chunk p k hk _ _ (chunk_slices k hk) x
    intro q hq
    simp only [List.mem_cons, List.not_mem_nil, or_false] at hq
    rcases hq with rfl | rfl | rfl | rfl | rfl | rfl | rfl | rfl | rfl | rfl | rfl | rfl | rfl | rfl | rfl | rfl <;> exact hp _ _
  · have hp : ∀ k hk, (y 0).val % 16 = k → y ∈ (chunkPiece p k hk).1.set := fun k hk h => mem_chunk k _ _ y h
    have hy : (y 0).val % 16 < 16 := Nat.mod_lt _ (by decide)
    refine ⟨chunkPiece p ((y 0).val % 16) hy, ?_, hp _ hy rfl⟩
    generalize (y 0).val % 16 = k at hy
    interval_cases k <;> simp

/-- The number of used row blocks, as the body reads it. -/
abbrev nuWord (c : Dev nD) (nu : TabBuf (F := F) c nuM) : BitVec 32 :=
  View.readAt (Elt F) (View.whole main_v34) (Rect.unit ![0] S1.size inb_S1_S1_0).toLoadRect nu (Shape.Idx.first (by decide))

/-- What the body leaves of a row block. -/
def blockOut (i : grid0.Coords) (w : BitVec 32) (x0 : Vec F S256x2048 .bf16) (x1 : Vec F S1x2048x2048 .bf16)
    (x2 : Vec F S1x1x2048 .f32) : Vec F S4096x128 .f32 :=
  if k0_cond1 i w = 1#1 then laid (k0_pay9 x0 x1 x2) else k0_pay8

theorem kernelRun (c : Dev nD) (i : grid0.Coords)
    (M3 : Memref sig .tc .vmem S256x2048 .bf16) (h3 : M3.IsWhole) (M4 : Memref sig .tc .vmem S1x2048x2048 .bf16) (h4 : M4.IsWhole)
    (M5 : Memref sig .tc .vmem S1x1x2048 .f32) (h5 : M5.IsWhole) (M6 : Memref sig .tc .vmem S4096x128 .f32) (h6 : M6.IsWhole)
    (x0 : Vec F S256x2048 .bf16) (x1 : Vec F S1x2048x2048 .bf16) (x2 : Vec F S1x1x2048 .f32)
    (be : TabBuf (F := F) c beM) (nu : TabBuf (F := F) c nuM) (E : Set ℕ) (K : PUnit → sProp 𝕄) :
    iprop(owns (c : Thread nD τ) M3 fullShare x0 ∗ owns (c : Thread nD τ) M4 fullShare x1 ∗ owns (c : Thread nD τ) M5 fullShare x2
        ∗ (∃ d, owns (c : Thread nD τ) M6 fullShare d) ∗ tabPt c beM be ∗ tabPt c nuM nu
        ∗ (iprop(owns (c : Thread nD τ) M3 fullShare x0 ∗ owns (c : Thread nD τ) M4 fullShare x1 ∗ owns (c : Thread nD τ) M5 fullShare x2
            ∗ owns (c : Thread nD τ) M6 fullShare (blockOut i (nuWord c nu) x0 x1 x2)
            ∗ tabPt c beM be ∗ tabPt c nuM nu) -∗ K ⟨⟩))
      ⊢ wp frame (wpE (defs₀ (F := F)) Variants.none c none) E (cc0_moe_down i beM (Memref.isWhole_whole _) nuM (Memref.isWhole_whole _) M3 h3 M4 h4 M5 h5 M6 h6) K := by
  simp only [cc0_moe_down_eq_skeleton]; unfold cc0_moe_down_skel
  unfold owns
  iintro ⟨⟨%f0, %hf0, H0⟩, ⟨%f1, %hf1, H1⟩, ⟨%f2, %hf2, H2⟩, ⟨%d3, %f3, -, H3⟩, HT0, HT1, Hk⟩
  obtain rfl := h3.eq_unread hf0; obtain rfl := h4.eq_unread hf1; obtain rfl := h5.eq_unread hf2
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    sl_unfold_run_names
    unfold blockOut
    by_cases hc : k0_cond1 i (nuWord c nu) = 1#1
    · rw [if_pos hc, dif_neg (fun h2 => (cond2_iff i _).mp h2 hc), dif_pos hc]
      refine (laid_writes f3 (k0_pay9 _ _ _)).trans (congrArg laid ?_)
      rw [(View.readAt_full _ _ _).trans hf0, (View.readAt_full _ _ _).trans hf1, (View.readAt_full _ _ _).trans hf2]
    · rw [if_neg hc, dif_pos ((cond2_iff i _).mpr hc)]
      exact View.read_writes_full _ _ _ _ _
  isplitl [HT0]
  · iexact HT0
  · iexact HT1

end Cert.Down

end
-- ==== Proof.DownFrame.lean ====
/-
  The second expert product's pipeline: the host lines that make its tables, what each staged buffer holds at each row
  block, the body's obligation at each, and the run of the whole program, for any tables that keep the weight and bias
  blocks inside their arrays. All at any number type, so that it serves both programs.
-/
module

public import proofs.«01_k».proof.Proof.DownRun
public import Idealize.ShloMosaic.Lib.Pipeline.Frame
public import Idealize.ShloMosaic.Lib.Claim

@[expose] public section

set_option maxRecDepth 16384

noncomputable section

namespace Cert.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- The stretches of host lines, in order. -/
abbrev stretches : List (List (HloOp τ sig (Elt F))) :=
  [hostOps0, hostOps0_1, hostOps0_2, hostOps0_3, hostOps0_4, hostOps0_5, hostOps0_6, hostOps0_7, hostOps0_8]

/-- What the region finds in a core's buffers. -/
abbrev V (c : Dev nD) (b : Ref sig .tc) : Buf (Elt F) ((c : Thread nD τ).loc b) :=
  StableHlo.after (List.flatten (stretches (F := F))) (fun b => m (c, b)) b

/-- No host line takes fresh memory. -/
theorem no_fresh : (stretches (F := F)).Forall fun ops => ops.Forall fun op => op.fresh = ∅ := by
  simp only [List.Forall]; repeat' constructor

set_option maxHeartbeats 800000 in
/-- The program is the host lines, then the region. -/
theorem to_region (𝒱 : Variants) : Pipeline.HMainP (Ix := Unit) (Name := ℕ) (U := UR sig nD τ) (Lvl := ℕ) pcfgs 0 defs₀ 𝒱 m (main (F := F)) (V m) :=
  Pipeline.hmainP_prefixes pcfgs 0 defs₀ 𝒱 m main stretches
    (by simp only [List.Forall]; exact ⟨hostOps0_sub, hostOps0_1_sub, hostOps0_2_sub, hostOps0_3_sub, hostOps0_4_sub, hostOps0_5_sub, hostOps0_6_sub, hostOps0_7_sub, hostOps0_8_sub⟩)
    no_fresh main_chain

/-- No host line writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [stretches, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [stretches, hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables -/

/-- The tables' contents when the region is entered. -/
def tabs : pre0.Contents (Elt F) := fun j => V m (0 : Dev nD) (pre0.ref j)
/-- Every device finds those contents: there is one device. -/
theorem V_tabs (c : Dev nD) (j : Fin 2) : V m c (pre0.ref j) = tabs m j := by
  obtain rfl : c = 0 := Subsingleton.elim _ _; rfl
/-- The tables keep the blocks inside their arrays. -/
abbrev Fits : Prop := ok0 (F := F) (tabs m)
/-- Tables that do, as the launch takes them. -/
abbrev adm (hO : Fits m) : (pcfg0 (F := F)).Adm := ⟨tabs m, hO⟩

/-- The halves of the tables the region lends the body. -/
theorem lent (pf : pre0.Contents (Elt F)) (c : Dev nD) : (Pipeline.ΦT pre0 pf c : sProp 𝕄) = iprop(tabPt c beM (pf 0) ∗ tabPt c nuM (pf 1)) := by
  unfold Pipeline.ΦT Pipeline.prefHeld
  rw [show (Finset.univ : Finset (Fin 2)) = insert (0 : Fin 2) {(1 : Fin 2)} from by decide,
    bigSep_insert (by decide), bigSep_singleton]
  rfl

section

variable (W : (c : Dev nD) → (b : Ref sig .tc) → Buf (Elt F) ((c : Thread nD τ).loc b)) (a : (pcfg0 (F := F)).Adm)

/-- The result's block is written back at every row block. -/
theorem flush3 : ∀ t : Fin (cfg0 a).N, ((cfg0 a).win 3).flush t = true :=
  (fun t => (Pipeline.Window.flushOf_reads cc0_transform_3 reads0_3 hreads0_3 0 (by decide) (by decide)
      (Pipeline.Window.sep_of_coord cc0_transform_3 0 0 (fun _ => rfl) (by decide)) (P := 1) (m := 0) (by decide) rfl t).mpr (Nat.mod_one _) :
    ∀ t : Fin grid0.N, Pipeline.Window.flushOf grid0 true cc0_transform_3 t = true)

/-! ## The buffers' contents -/

/-- A window's block at a row block, read off its array as the region finds it. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (W c (Pipeline.arrRef spec0 w))

/-- What the body leaves of a row block, from its rows and its expert's weights and bias. -/
def left (c : Dev nD) (t : Fin (cfg0 a).N) : Vec F S4096x128 .f32 :=
  blockOut (grid0.coords t) (nuWord c (a.val 1)) (iblk W a c 0 t) (iblk W a c 1 t) (iblk W a c 2 t)

/-- The run's data: each input's buffer at its block, the result's at what the body leaves. -/
def dats (_ : Fin 1) (c : Dev nD) : Dat τ (Elt F) Unit ℕ (UR sig nD τ) ℕ (cfg0 a) c where
  A w := W c (Pipeline.arrRef spec0 w)
  after w t := match w with
    | ⟨0, _⟩ => iblk W a c 0 t
    | ⟨1, _⟩ => iblk W a c 1 t
    | ⟨2, _⟩ => iblk W a c 2 t
    | ⟨3, _⟩ => left W a c t
  Φ _ := iprop(Pipeline.ΦA spec0 c ∗ Pipeline.ΦT pre0 a.val c)
  q _ := fullShare
  owed _ := 0

/-- The arrays are what the region finds. -/
theorem arr_eq (c : Dev nD) (w : Fin (cfg0 a).W) : (dats W a 0 c).A w = W c (Pipeline.arrRef spec0 w) := by
  dsimp only [dats]
theorem after0 (c : Dev nD) (t : Fin (cfg0 a).N) : (dats W a 0 c).after 0 t = iblk W a c 0 t := by dsimp only [dats]; try rfl
theorem after1 (c : Dev nD) (t : Fin (cfg0 a).N) : (dats W a 0 c).after 1 t = iblk W a c 1 t := by dsimp only [dats]; try rfl
theorem after2 (c : Dev nD) (t : Fin (cfg0 a).N) : (dats W a 0 c).after 2 t = iblk W a c 2 t := by dsimp only [dats]; try rfl
theorem after3 (c : Dev nD) (t : Fin (cfg0 a).N) : (dats W a 0 c).after 3 t = left W a c t := by dsimp only [dats]; try rfl

/-- Input 0's buffer holds its block at every row block. -/
theorem before0 (c : Dev nD) (t : Fin (cfg0 a).N) (d) : (dats W a 0 c).before 0 t d = iblk W a c 0 t :=
  ((dats W a 0 c).before_in_eq_fetched 0 rfl (fun _ => rfl) (fun _ _ _ => rfl)
    (fun t => by rw [after0]; unfold Dat.blockOf iblk; rw [arr_eq]; try rfl) t d).trans
    (by unfold Dat.fetched Dat.blockOf iblk; rw [arr_eq]; try rfl)
/-- Input 1's buffer holds its block at every row block. -/
theorem before1 (c : Dev nD) (t : Fin (cfg0 a).N) (d) : (dats W a 0 c).before 1 t d = iblk W a c 1 t :=
  ((dats W a 0 c).before_in_eq_fetched 1 rfl (fun _ => rfl) (fun _ _ _ => rfl)
    (fun t => by rw [after1]; unfold Dat.blockOf iblk; rw [arr_eq]; try rfl) t d).trans
    (by unfold Dat.fetched Dat.blockOf iblk; rw [arr_eq]; try rfl)
/-- Input 2's buffer holds its block at every row block. -/
theorem before2 (c : Dev nD) (t : Fin (cfg0 a).N) (d) : (dats W a 0 c).before 2 t d = iblk W a c 2 t :=
  ((dats W a 0 c).before_in_eq_fetched 2 rfl (fun _ => rfl) (fun _ _ _ => rfl)
    (fun t => by rw [after2]; unfold Dat.blockOf iblk; rw [arr_eq]; try rfl) t d).trans
    (by unfold Dat.fetched Dat.blockOf iblk; rw [arr_eq]; try rfl)

/-! ## The body's obligation -/

/-- The buffers of a row block, as the pipeline passes them. -/
abbrev buf0 (t : Fin (cfg0 a).N) : Memref sig .tc .vmem S256x2048 .bf16 := spec0_0.stage ((cfg0 a).slots t 0)
theorem buf0_whole (t : Fin (cfg0 a).N) : (buf0 a t).IsWhole := hstage0_0 (((cfg0 a).slots t 0).cast nbuf0_0)
abbrev buf1 (t : Fin (cfg0 a).N) : Memref sig .tc .vmem S1x2048x2048 .bf16 := spec0_1.stage ((cfg0 a).slots t 1)
theorem buf1_whole (t : Fin (cfg0 a).N) : (buf1 a t).IsWhole := hstage0_1 (((cfg0 a).slots t 1).cast nbuf0_1)
abbrev buf2 (t : Fin (cfg0 a).N) : Memref sig .tc .vmem S1x1x2048 .f32 := spec0_2.stage ((cfg0 a).slots t 2)
theorem buf2_whole (t : Fin (cfg0 a).N) : (buf2 a t).IsWhole := hstage0_2 (((cfg0 a).slots t 2).cast nbuf0_2)
abbrev buf3 (t : Fin (cfg0 a).N) : Memref sig .tc .vmem S4096x128 .f32 := spec0_3.stage ((cfg0 a).slots t 3)
theorem buf3_whole (t : Fin (cfg0 a).N) : (buf3 a t).IsWhole := hstage0_3 (((cfg0 a).slots t 3).cast nbuf0_3)

/-- The body at a row block. -/
abbrev bodyAt (t : Fin (cfg0 a).N) : Prog (TpuEff nD τ sig (Elt F) Λ₀ .tc) PUnit :=
  cc0_moe_down (grid0.coords t) beM (Memref.isWhole_whole _) nuM (Memref.isWhole_whole _) (buf0 a t) (buf0_whole a t)
    (buf1 a t) (buf1_whole a t) (buf2 a t) (buf2_whole a t) (buf3 a t) (buf3_whole a t)

/-- What the body is called with, -/
def bodyPre (c : Dev nD) (t : Fin (cfg0 a).N) : sProp 𝕄 :=
  iprop((dats W a 0 c).Φ t.castSucc ∗ (dats W a 0 c).owesAt () t.castSucc
    ∗ (∃ d, owns (c : Thread nD τ) (buf0 a t) fullShare ((dats W a 0 c).before 0 t d))
    ∗ (∃ d, owns (c : Thread nD τ) (buf1 a t) fullShare ((dats W a 0 c).before 1 t d))
    ∗ (∃ d, owns (c : Thread nD τ) (buf2 a t) fullShare ((dats W a 0 c).before 2 t d))
    ∗ (∃ d, owns (c : Thread nD τ) (buf3 a t) fullShare ((dats W a 0 c).before 3 t d)))

/-- What a window's buffer is asked to hold after a point. -/
def asked {cfg : Pipeline.Cfg sig Λ₀} {c : Dev nD} (d : Dat τ (Elt F) Unit ℕ (UR sig nD τ) ℕ cfg c) (w : Fin cfg.W) (t : Fin cfg.N) : sProp 𝕄 :=
  match cfg.idle w (cfg.grid.coords t) with
  | true =>
    match (cfg.win w).flush t with
    | false => iprop(∃ x, owns (c : Thread nD τ) ((cfg.win w).stage (cfg.slots t w)) fullShare (d.before w t x))
    | true => owns (c : Thread nD τ) ((cfg.win w).stage (cfg.slots t w)) fullShare (d.after w t)
  | false => owns (c : Thread nD τ) ((cfg.win w).stage (cfg.slots t w)) fullShare (d.after w t)

/-- A buffer written back after the point meets that at what the body leaves. -/
theorem owns_asked {cfg : Pipeline.Cfg sig Λ₀} {c : Dev nD} (d : Dat τ (Elt F) Unit ℕ (UR sig nD τ) ℕ cfg c) (w : Fin cfg.W) (t : Fin cfg.N)
    (hf : (cfg.win w).flush t = true) :
    owns (c : Thread nD τ) ((cfg.win w).stage (cfg.slots t w)) fullShare (d.after w t) ⊢ asked d w t := by
  unfold asked
  cases cfg.idle w (cfg.grid.coords t)
  · exact .rfl
  · rw [hf]

/-- and what it returns. -/
def bodyPost (c : Dev nD) (t : Fin (cfg0 a).N) : sProp 𝕄 :=
  iprop((dats W a 0 c).Φ t.succ ∗ (dats W a 0 c).owesAt () t.succ
    ∗ owns (c : Thread nD τ) (buf0 a t) fullShare ((dats W a 0 c).after 0 t)
    ∗ owns (c : Thread nD τ) (buf1 a t) fullShare ((dats W a 0 c).after 1 t)
    ∗ owns (c : Thread nD τ) (buf2 a t) fullShare ((dats W a 0 c).after 2 t)
    ∗ asked (dats W a 0 c) 3 t)

/-- The body meets it at every row block. -/
theorem sound_body (c : Dev nD) (t : Fin (cfg0 a).N) :
    bodyPre W a c t ⊢ wp frame (wpE (defs₀ (F := F)) Variants.none c none) Set.univ (bodyAt a t) (fun _ => bodyPost W a c t) := by
  unfold bodyPre bodyPost bodyAt
  simp only [before0, before1, before2]
  rw [show (dats W a 0 c).Φ t.succ = (dats W a 0 c).Φ t.castSucc from rfl,
    show (dats W a 0 c).owesAt () t.succ = (dats W a 0 c).owesAt () t.castSucc from rfl, after0, after1, after2]
  rw [show (dats W a 0 c).Φ t.castSucc = iprop(Pipeline.ΦA spec0 c ∗ Pipeline.ΦT pre0 a.val c) from rfl, lent a.val c]
  iintro ⟨⟨HΦ, ⟨HT0, HT1⟩⟩, Ho, ⟨%d0, H0⟩, ⟨%d1, H1⟩, ⟨%d2, H2⟩, ⟨%d3, H3⟩⟩
  iapply (kernelRun c (grid0.coords t) _ _ _ _ _ _ _ _ (iblk W a c 0 t) (iblk W a c 1 t) (iblk W a c 2 t) (a.val 0) (a.val 1) Set.univ _)
  isplitl [H0]
  · iexact H0
  isplitl [H1]
  · iexact H1
  isplitl [H2]
  · iexact H2
  isplitl [H3]
  · iexists _; iexact H3
  isplitl [HT0]
  · iexact HT0
  isplitl [HT1]
  · iexact HT1
  iintro ⟨H0, H1, H2, H3, HT0, HT1⟩
  isplitl [HΦ HT0 HT1]
  · isplitl [HΦ]
    · iexact HΦ
    isplitl [HT0]
    · iexact HT0
    · iexact HT1
  isplitl [Ho]
  · iexact Ho
  isplitl [H0]
  · iexact H0
  isplitl [H1]
  · iexact H1
  isplitl [H2]
  · iexact H2
  · iapply (owns_asked (dats W a 0 c) 3 t (flush3 a t))
    rw [after3]
    unfold left
    iexact H3

/-- The pipeline's call at a row block is the body. -/
theorem call_eq (t : Fin (cfg0 a).N) :
    defs₀ (F := F) .tc (cfg0 a).body ((cfg0 a).bodyArgs t ((cfg0 a).slots t)) = bodyAt a t := by
  unfold defs₀; rw [Defs.onTc_tc]

/-- The obligation at every row block. -/
theorem obligation (c : Dev nD) : BodyObligation (dats W a 0 c) (defs₀ (F := F)) Variants.none () Set.univ := fun t => by
  rw [bigSep_W0, bigSep_W0, call_eq a]
  exact triple_restated (sound_body W a c t) rfl .rfl fun _ => .rfl

end

/-! ## The run -/

set_option backward.isDefEq.respectTransparency.types false in
/-- Every run ends, each array at what the data say, every other buffer as the region found it, no counter raised. -/
theorem run (hO : Fits m) : θ_run defs (onTc (τ := τ) (main (F := F))) (s₀ m ρ)
    (fun r => (Pipeline.FramePost (Pipeline.pin pcfgs fun _ => adm m hO) (dats (V m) (adm m hO)) 0 (V m)) r ∧ r.2.sem = fun _ => 0) :=
  Pipeline.θ_run_frameP (Q' := _) pcfgs (fun _ => adm m hO) (dats (V m) (adm m hO)) (0 : Fin 1) launch0 defs₀ Variants.none m ρ main
    (hbody := fun c => (obligation (V m) (adm m hO) c).loose) (hshare := fun c => (dats (V m) (adm m hO) 0 c).share_full fun _ => rfl)
    (howed := fun _ _ => rfl) (V := V m) (hmain := to_region m Variants.none) (hA := arr_eq (V m) (adm m hO)) (hpf := V_tabs m)
    (hΦ := fun _ _ => rfl)

/-- The arguments end unchanged and no counter is raised. -/
theorem frame_fits (hO : Fits m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (by decide : main_arg0 ∈ Pipeline.restRefs sig spec0)).trans (V_arg0 m c),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c)⟩, h.2⟩) (run m ρ hO)

end Cert.Down

end
-- ==== Proof.DownRoute.lean ====
/-
  The tables of the second expert product as the host lines make them from the routing ids, word for word: the counts of
  the experts, the ends of their padded groups, the expert of each row block, the number of used blocks. The expert words
  are at most 31, so the blocks they pick lie inside the weights and biases, whatever the ids.
-/
module

public import proofs.«01_k».proof.Proof.DownFrame
public import Idealize.ShloMosaic.Lib.StableHlo.RunRead
public import Idealize.ShloMosaic.Lib.Routing.OpsOne

@[expose] public section

set_option maxRecDepth 16384

noncomputable section

namespace Cert.Down

open Cert.Kernel3Ideal Cert.Kernel3Ideal.Gen
open Idealize.ShloMosaic Idealize.ShloMosaic.TcCoe Idealize.ShloMosaic.Tactic

/-! ## The words of the tables -/

/-- One in the column of the expert a row is routed to. -/
def hits (ids : IVec S16384x4 32) : IVec S65536x32 32 :=
  extui 32 (cmpi .eq (broadcastInDim S65536x32 ![0, 1] bcast_S65536x1_S65536x32_0_1 (broadcastInDim S65536x1 ![0] bcast_S65536_S65536x1_0 (shapeCast S65536 ids shapeCasts_S16384x4_S65536))) (broadcastInDim S65536x32 ![0, 1] bcast_S1x32_S65536x32_0_1 (broadcastInDim S1x32 ![1] bcast_S32_S1x32_1 (iotaInDim S32 32 0)))) natLt_1_32

/-- The experts' counts: the last row of the running sums. -/
def counts (ids : IVec S16384x4 32) : IVec S32 32 :=
  shapeCast S32 (extractStridedSlice S1x32 ![65535, 0] (Host.reduceWindow IntOp.addi ![65536, 1] ![1, 1] ![65535, 0] ![0, 0] (hits ids) (broadcastInDim S_ ![] bcast_S_S_ (constantI S_ 32 0#32)) reduceWindows_S65536x32_S65536x32_w65536s1p65535_0_w1s1p0_0 h_S_) slices_S65536x32_S1x32_65535_0) shapeCasts_S1x32_S32

/-- A count raised by 255. -/
def raised (cnt : IVec S32 32) : IVec S32 32 :=
  subi (addi cnt (broadcastInDim S32 ![] bcast_S_S32 (constantI S_ 32 256#32))) (broadcastInDim S32 ![] bcast_S_S32 (constantI S_ 32 1#32))

/-- The quotients by 256, rounded down. -/
def quot (x : IVec S32 32) : IVec S32 32 :=
  select (andi (cmpi .ne (signi x) (broadcastInDim S32 ![] bcast_S_S32 (signi (id (constantI S_ 32 256#32))))) (cmpi .ne (Host.remsi x (broadcastInDim S32 ![] bcast_S_S32 (id (constantI S_ 32 256#32)))) (broadcastInDim S32 ![] bcast_S_S32 (constantI S_ 32 0#32)))) (subi (Host.divsi x (broadcastInDim S32 ![] bcast_S_S32 (id (constantI S_ 32 256#32)))) (broadcastInDim S32 ![] bcast_S_S32 (constantI S_ 32 1#32))) (Host.divsi x (broadcastInDim S32 ![] bcast_S_S32 (id (constantI S_ 32 256#32))))

/-- The ends of the experts' groups, each padded to whole blocks. -/
def padEnds (cnt : IVec S32 32) : IVec S32 32 :=
  Host.reduceWindow IntOp.addi ![32] ![1] ![31] ![0] (muli (quot (raised cnt)) (broadcastInDim S32 ![] bcast_S_S32 (constantI S_ 32 256#32))) (broadcastInDim S_ ![] bcast_S_S_ (constantI S_ 32 0#32)) reduceWindows_S32_S32_w32s1p31_0 h_S_

/-- One where an expert's group ends at or before a block's first row. -/
def past (pe : IVec S32 32) : IVec S288x32 1 :=
  cmpi .sle (broadcastInDim S288x32 ![0, 1] bcast_S1x32_S288x32_0_1 (broadcastInDim S1x32 ![1] bcast_S32_S1x32_1 pe)) (broadcastInDim S288x32 ![0, 1] bcast_S288x1_S288x32_0_1 (broadcastInDim S288x1 ![0] bcast_S288_S288x1_0 (addi (broadcastInDim S288 ![] bcast_S_S288 (constantI S_ 32 0#32)) (muli (broadcastInDim S288 ![] bcast_S_S288 (constantI S_ 32 256#32)) (iotaInDim S288 32 0)))))

/-- The expert of each block. -/
def blockE (pe : IVec S32 32) : IVec S288 32 :=
  minsi (Host.reduce IntOp.addi (extui 32 (past pe) natLt_1_32) (constantI S_ 32 0#32) reducesTo_S288x32_S288_d1 h_S_) (broadcastInDim S288 ![] bcast_S_S288 (constantI S_ 32 31#32))

/-- The last group's end, as an array of one word. -/
def lastEnd (pe : IVec S32 32) : IVec S1 32 := extractStridedSlice S1 ![31] pe slices_S32_S1_31

/-- The number of used blocks. -/
def nUsed (pe : IVec S32 32) : IVec S1 32 :=
  select (andi (cmpi .ne (signi (lastEnd pe)) (broadcastInDim S1 ![] bcast_S_S1 (signi (id (constantI S_ 32 256#32))))) (cmpi .ne (Host.remsi (lastEnd pe) (broadcastInDim S1 ![] bcast_S_S1 (id (constantI S_ 32 256#32)))) (broadcastInDim S1 ![] bcast_S_S1 (constantI S_ 32 0#32)))) (subi (Host.divsi (lastEnd pe) (broadcastInDim S1 ![] bcast_S_S1 (id (constantI S_ 32 256#32)))) (broadcastInDim S1 ![] bcast_S_S1 (constantI S_ 32 1#32))) (Host.divsi (lastEnd pe) (broadcastInDim S1 ![] bcast_S_S1 (id (constantI S_ 32 256#32))))

/-! ## An expert's word is at most 31 -/

/-- The sum of a row of bits is small. -/
theorem sum_small {ι : Type} (l : List ι) (g : ι → BitVec 32) (hg : ∀ a ∈ l, (g a).toNat ≤ 1) (n : ℕ) (hn : n + l.length < 2 ^ 31)
    (z : BitVec 32) (hz : z.toNat ≤ n) : (l.foldl (fun r a => IntOp.addi r (g a)) z).toNat ≤ n + l.length := by
  induction l generalizing z n with
  | nil => simpa using hz
  | cons a l ih =>
    rw [List.foldl_cons]
    have h1 := hg a List.mem_cons_self
    rw [List.length_cons] at hn ⊢
    have h2 : (IntOp.addi z (g a)).toNat ≤ n + 1 := by
      show (z + g a).toNat ≤ _
      rw [BitVec.toNat_add]
      exact (Nat.mod_le _ _).trans (by omega)
    have := ih (fun b hb => hg b (List.mem_cons_of_mem _ hb)) (n + 1) (by omega) _ h2
    omega

theorem blockE_le (pe : IVec S32 32) (j : S288.Idx) : (blockE pe j).toNat ≤ 31 := by
  have hs : (Host.reduce IntOp.addi (extui 32 (past pe) natLt_1_32) (constantI S_ 32 0#32) reducesTo_S288x32_S288_d1 h_S_ j).toNat < 2 ^ 31 := by
    have h1 : ((List.finRange S288x32.numel).filter fun n => reducesTo_S288x32_S288_d1.drop (S288x32.rowMajor.symm n) = j).length ≤ 9216 :=
      (List.length_filter_le _ _).trans (le_of_eq ((List.length_finRange).trans (show S288x32.numel = 9216 from by decide +kernel)))
    unfold Host.reduce
    refine (sum_small _ _ (fun a _ => ?_) 0 (by omega) _ (le_refl _)).trans_lt (by omega)
    show (BitVec.setWidth 32 (past pe _)).toNat ≤ 1
    rw [BitVec.toNat_setWidth]
    have := (past pe (S288x32.rowMajor.symm a)).isLt
    exact (Nat.mod_le _ _).trans (by omega)
  show (IntOp.minsi _ 31#32).toNat ≤ 31
  generalize Host.reduce IntOp.addi (extui 32 (past pe) natLt_1_32) (constantI S_ 32 0#32) reducesTo_S288x32_S288_d1 h_S_ j = w at hs ⊢
  unfold IntOp.minsi
  split
  · next h =>
    rw [BitVec.slt_iff_toInt_lt, BitVec.toInt_eq_toNat_of_lt (by omega), BitVec.toInt_eq_toNat_of_lt (by decide)] at h
    have : (31#32 : BitVec 32).toNat = 31 := rfl
    omega
  · exact le_refl _

/-! ## What the host lines leave -/

variable {F : FTy → Type} [FloatOps F]
variable (m : (ℓ : Loc nD τ sig) → Buf (Elt F) ℓ)

/-- The routing ids. -/
abbrev ids (c : Dev nD) : IVec S16384x4 32 := m ((c : Thread nD τ).loc main_arg0)

set_option maxHeartbeats 4000000 in
theorem V_expert (c : Dev nD) : V m c main_v32 = blockE (padEnds (counts (ids m c))) := by
  show StableHlo.after _ _ _ = _
  simp only [stretches, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_used (c : Dev nD) : V m c main_v34 = nUsed (padEnds (counts (ids m c))) := by
  show StableHlo.after _ _ _ = _
  simp only [stretches, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

theorem V_rows (c : Dev nD) : V m c main_v35 = truncf .bf16 (m ((c : Thread nD τ).loc main_arg1) : FVec F S73728x2048 .f32) bitsLt_bf16_f32 := by
  show StableHlo.after _ _ _ = _
  simp only [stretches, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

theorem V_weights (c : Dev nD) : V m c main_v37 = truncf .bf16 (shapeCast S32x2048x2048 (m ((c : Thread nD τ).loc main_arg2) : FVec F S1x32x2048x2048 .f32) shapeCasts_S1x32x2048x2048_S32x2048x2048) bitsLt_bf16_f32 := by
  show StableHlo.after _ _ _ = _
  simp only [stretches, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

theorem V_bias (c : Dev nD) : V m c main_v39 = shapeCast S32x1x2048 (shapeCast S32x2048 (m ((c : Thread nD τ).loc main_arg3) : FVec F S1x32x2048 .f32) shapeCasts_S1x32x2048_S32x2048) shapeCasts_S32x2048_S32x1x2048 := by
  show StableHlo.after _ _ _ = _
  simp only [stretches, hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

/-! ## The tables fit -/

/-- The table of the blocks' experts, as an array of words. -/
abbrev expertTab (pf : pre0.Contents (Elt F)) : IVec S288 32 := pf 0

/-- The word the block maps read at a row block: the expert of that block. -/
theorem expert_word (pf : pre0.Contents (Elt F)) (i : grid0.Coords) :
    pf.at 0 (Rect.unit (s := S288) ![(Scalar.indexCast (BitVec.ofNat 32 (i 0).val)).toNat] S1.size (k0_off1_inb i)) numel1_S1
      = expertTab pf (ValueIdx.ix1 (i 0)) := by
  refine congrArg (expertTab pf) (funext fun a => Fin.ext ?_)
  match a with
  | ⟨0, _⟩ =>
    have := (i 0).isLt
    change (i 0).val < 288 at this
    show (Scalar.indexCast (BitVec.ofNat 32 (i 0).val)).toNat + 1 * 0 = (i 0).val
    show (BitVec.ofNat 32 (i 0).val).toNat + 0 = _
    rw [BitVec.toNat_ofNat, Nat.mod_eq_of_lt (by omega), Nat.add_zero]

theorem map1 (pf : pre0.Contents (Elt F)) (i : grid0.Coords) :
    cc0_transform_1 k0_off1_inb numel1_S1 pf i = ![(expertTab pf (ValueIdx.ix1 (i 0))).toNat, 0, 0] := by
  rw [← expert_word pf i]; rfl

theorem map2 (pf : pre0.Contents (Elt F)) (i : grid0.Coords) :
    cc0_transform_2 k0_off1_inb numel1_S1 pf i = ![(expertTab pf (ValueIdx.ix1 (i 0))).toNat, 0, 0] := by
  rw [← expert_word pf i]; rfl

/-- Words of at most 31 keep the blocks inside. -/
theorem ok_of_le (pf : pre0.Contents (Elt F)) (h : ∀ j, (expertTab pf j).toNat ≤ 31) : ok0 pf := by
  refine ⟨fun i => ?_, fun i => ?_⟩
  · rw [map1]
    have := h (ValueIdx.ix1 (i 0))
    refine ⟨fun a => ?_, .inr (.inr ⟨by decide, rfl, rfl, rfl⟩)⟩
    match a with
    | ⟨0, _⟩ => show ((expertTab pf (ValueIdx.ix1 (i 0))).toNat + 1) * 1 ≤ 32; omega
    | ⟨1, _⟩ => exact le_refl 2048
    | ⟨2, _⟩ => exact le_refl 2048
  · rw [map2]
    have := h (ValueIdx.ix1 (i 0))
    refine ⟨fun a => ?_, .inl rfl⟩
    match a with
    | ⟨0, _⟩ => show ((expertTab pf (ValueIdx.ix1 (i 0))).toNat + 1) * 1 ≤ 32; omega
    | ⟨1, _⟩ => exact le_refl 1
    | ⟨2, _⟩ => exact le_refl 2048

/-- The experts the launch finds in its table. -/
theorem tab_expert : expertTab (tabs m) = blockE (padEnds (counts (ids m 0))) := V_expert m 0

/-- The tables the host lines make fit. -/
theorem fits : Fits m := ok_of_le _ fun j => by rw [tab_expert]; exact blockE_le _ j

/-- The arguments end unchanged and no counter is raised. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := frame_fits m ρ (fits m)

end Cert.Down

end
-- ==== Proof.DownCount.lean ====
/-
  The experts' counts are the same words summed as running sums, of which the last row is kept, and summed column by
  column.
-/
module

public import proofs.«01_k».proof.Proof.DownRoute
public import Idealize.ShloMosaic.Lib.Pipeline.Value

@[expose] public section

set_option maxRecDepth 16384

noncomputable section

namespace Cert.Down

open Cert.Kernel3Ideal Cert.Kernel3Ideal.Gen
open Idealize.ShloMosaic

/-- The kept row, at an expert. -/
theorem last_row (v : IVec S65536x32 32) (e : Fin 32) :
    shapeCast S32 (extractStridedSlice S1x32 ![65535, 0] v slices_S65536x32_S1x32_65535_0) shapeCasts_S1x32_S32 (ValueIdx.ix1 e) = v (ValueIdx.ix2 ⟨65535, by decide⟩ e) := by
  pointwise []
  rfl

/-- A column's sum. -/
theorem column_sum (v : IVec S65536x32 32) (h : S65536x32.ReducesTo [0] S32) (hu : 0 < S_.numel) (e : Fin 32) :
    Host.reduce IntOp.addi v (constantI S_ 32 0#32) h hu (ValueIdx.ix1 e) = ∑ w : Fin 65536, v (ValueIdx.ix2 w e) := by
  have hr : S65536x32.Reduces [0] S32 := by decide
  rw [Host.reduce_eq_fold_single IntOp.addi v _ h hr hu]
  refine Eq.trans ?_ (Finset.sum_eq_fold (s := Finset.univ) (f := fun w : Fin 65536 => v (ValueIdx.ix2 w e))).symm
  refine congrArg (fun f : Fin 65536 → BitVec 32 => Finset.univ.fold (fun a b : BitVec 32 => a + b) 0#32 f) (funext fun w => congrArg v (funext fun b => Fin.ext ?_))
  match b with
  | ⟨0, _⟩ => rfl
  | ⟨1, _⟩ => rfl

theorem counts_eq (ids : IVec S16384x4 32) (h : S65536x32.ReducesTo [0] S32) (hu : 0 < S_.numel) :
    Host.reduce IntOp.addi (hits ids) (constantI S_ 32 0#32) h hu = counts ids := by
  funext j
  refine (congrArg (Host.reduce IntOp.addi (hits ids) (constantI S_ 32 0#32) h hu) (ValueIdx.eq_ix1 j)).trans ((column_sum (hits ids) h hu (j 0)).trans ?_)
  refine Eq.trans ?_ (congrArg (counts ids) (ValueIdx.eq_ix1 j)).symm
  refine Eq.trans ?_ (last_row _ (j 0)).symm
  refine Eq.trans ?_ (Routing.cumsum_rows_sum (A := 65536) (Am1 := 65535) (N := 32) rfl (hits ids) (broadcastInDim S_ ![] bcast_S_S_ (constantI S_ 32 0#32)) rfl _ h_S_ ⟨65535, by decide⟩ (j 0)).symm
  refine Finset.sum_congr rfl fun w _ => ?_
  rw [if_pos (Fin.le_def.mpr (Nat.lt_succ_iff.mp w.isLt))]

end Cert.Down

end
-- ==== Proof.DownValue.lean ====
/-
  What the second expert product leaves in its result, entry by entry: a used row block's product with its expert's
  weights, plus its expert's bias; zero in the blocks past the used ones.
-/
module

public import proofs.«01_k».proof.Proof.DownRoute
public import Idealize.ShloMosaic.Lib.Pipeline.ValueKit
public import Idealize.ShloMosaic.Lib.Pipeline.Value

@[expose] public section

set_option maxRecDepth 16384

noncomputable section

namespace Cert.Down

open Idealize.ShloMosaic

/-! ## The layer -/

/-- An entry of a row block's product: the rows, the experts' weights and biases, the blocks' experts and the number of
    used blocks are given. -/
def down (x : Fin 73728 → Fin 2048 → EReal) (w : Fin 32 → Fin 2048 → Fin 2048 → EReal) (b : Fin 32 → Fin 2048 → EReal)
    (e : Fin 288 → Fin 32) (nu : BitVec 32) (t : Fin 288) (r : Fin 256) (n : Fin 2048) : EReal :=
  if (BitVec.ofNat 32 t.val).slt nu then
    (∑ k : Fin 2048, x ⟨256 * t.val + r.val, by omega⟩ k * w (e t) k n) + b (e t) n
  else 0

theorem down_congr {x x' : Fin 73728 → Fin 2048 → EReal} {w w' : Fin 32 → Fin 2048 → Fin 2048 → EReal} {b b' : Fin 32 → Fin 2048 → EReal}
    {e : Fin 288 → Fin 32} {nu nu' : BitVec 32} (hx : ∀ r k, x r k = x' r k) (hw : ∀ e k n, w e k n = w' e k n) (hb : ∀ e n, b e n = b' e n)
    (hn : nu = nu') (t : Fin 288) (r : Fin 256) (n : Fin 2048) : down x w b e nu t r n = down x' w' b' e nu' t r n := by
  obtain rfl : x = x' := funext fun r => funext fun k => hx r k
  obtain rfl : w = w' := funext fun e => funext fun k => funext fun n => hw e k n
  obtain rfl : b = b' := funext fun e => funext fun n => hb e n
  rw [hn]

open Cert.Kernel3Ideal Cert.Kernel3Ideal.Gen Idealize.ShloMosaic.TcCoe Idealize.SL.Sem
open Idealize.ShloMosaic.Pipeline (Dat)

/-! ## The block's entries -/

theorem pay9_at (x0 : Vec Ideal S256x2048 .bf16) (x1 : Vec Ideal S1x2048x2048 .bf16) (x2 : Vec Ideal S1x1x2048 .f32) (r : Fin 256) (n : Fin 2048) :
    (k0_pay9 x0 x1 x2 (ix2 r n) : EReal) = (∑ k : Fin 2048, x0 (ix2 r k) * x1 (ix3 0 k n)) + x2 (ix3 0 0 n) := by
  unfold k0_pay9
  pointwise []

theorem pay8_at (y : S4096x128.Idx) : (k0_pay8 (F := Ideal) y : EReal) = 0 := by
  unfold k0_pay8
  pointwise []

theorem coords_val : ∀ t : Fin grid0.N, (grid0.coords t 0).val = t.val := by decide +kernel

theorem cond1_iff (i : grid0.Coords) (w : BitVec 32) : k0_cond1 i w = 1#1 ↔ (BitVec.ofNat 32 (i 0).val).slt w = true := by
  unfold k0_cond1
  dsimp only
  rcases hs : (BitVec.ofNat 32 (i 0).val).slt w <;> simp [Scalar.cmpi, IntOp.cmpi, hs, Scalar.extui]

/-- What the body leaves of a row block, at an entry. -/
theorem blockOut_at (i : grid0.Coords) (w : BitVec 32) (x0 : Vec Ideal S256x2048 .bf16) (x1 : Vec Ideal S1x2048x2048 .bf16)
    (x2 : Vec Ideal S1x1x2048 .f32) (y : S4096x128.Idx) :
    (blockOut i w x0 x1 x2 y : EReal) = if (BitVec.ofNat 32 (i 0).val).slt w then
      (∑ k : Fin 2048, x0 (ix2 ⟨(y 0).val / 16, by have : (y 0).val < 4096 := (y 0).isLt; omega⟩ k)
        * x1 (ix3 0 k ⟨128 * ((y 0).val % 16) + (y 1).val, by have : (y 1).val < 128 := (y 1).isLt; omega⟩))
        + x2 (ix3 0 0 ⟨128 * ((y 0).val % 16) + (y 1).val, by have : (y 1).val < 128 := (y 1).isLt; omega⟩)
    else 0 := by
  unfold blockOut
  by_cases h : (BitVec.ofNat 32 (i 0).val).slt w = true
  · rw [if_pos ((cond1_iff i w).mpr h), if_pos h]
    exact pay9_at x0 x1 x2 _ _
  · rw [if_neg (fun q => h ((cond1_iff i w).mp q)), if_neg h]
    exact pay8_at y

section

variable (W : (c : Dev nD) → (b : Ref sig .tc) → Buf (Elt Ideal) ((c : Thread nD τ).loc b)) (a : (pcfg0 (F := Ideal)).Adm)

/-- The block's number. -/
abbrev num (t : Fin (cfg0 a).N) : Fin 288 := grid0.coords t 0

theorem blk0_at (c : Dev nD) (t : Fin (cfg0 a).N) (r : Fin 256) (k : Fin 2048) :
    (iblk W a c 0 t (ix2 r k) : EReal) = (W c main_v35 : S73728x2048.Idx → EReal) (ix2 ⟨256 * (num a t).val + r.val, by omega⟩ k) := by
  refine congrArg (W c main_v35 : S73728x2048.Idx → EReal) (funext fun b => Fin.ext ?_)
  match b with
  | ⟨0, _⟩ =>
    show (BitVec.ofNat 32 (num a t).val).toNat * 256 + 1 * r.val = 256 * (num a t).val + r.val
    rw [BitVec.toNat_ofNat, Nat.mod_eq_of_lt (by omega)]; omega
  | ⟨1, _⟩ => show 0 * 2048 + 1 * k.val = k.val; omega

theorem blk1_at (c : Dev nD) (t : Fin (cfg0 a).N) (e : Fin 32) (he : e.val = (expertTab a.val (ix1 (num a t))).toNat) (k n : Fin 2048) :
    (iblk W a c 1 t (ix3 0 k n) : EReal) = (W c main_v37 : S32x2048x2048.Idx → EReal) (ix3 e k n) := by
  have hm := map1 a.val (grid0.coords t)
  refine congrArg (W c main_v37 : S32x2048x2048.Idx → EReal) (funext fun b => Fin.ext ?_)
  match b with
  | ⟨0, _⟩ =>
    show cc0_transform_1 k0_off1_inb numel1_S1 a.val (grid0.coords t) 0 * 1 + 1 * 0 = e.val
    rw [hm, he]; show (expertTab a.val (ix1 (num a t))).toNat * 1 + 1 * 0 = _; omega
  | ⟨1, _⟩ => show 0 * 2048 + 1 * k.val = k.val; omega
  | ⟨2, _⟩ => show 0 * 2048 + 1 * n.val = n.val; omega

theorem blk2_at (c : Dev nD) (t : Fin (cfg0 a).N) (e : Fin 32) (he : e.val = (expertTab a.val (ix1 (num a t))).toNat) (n : Fin 2048) :
    (iblk W a c 2 t (ix3 0 0 n) : EReal) = (W c main_v39 : S32x1x2048.Idx → EReal) (ix3 e 0 n) := by
  have hm := map2 a.val (grid0.coords t)
  refine congrArg (W c main_v39 : S32x1x2048.Idx → EReal) (funext fun b => Fin.ext ?_)
  match b with
  | ⟨0, _⟩ =>
    show cc0_transform_2 k0_off1_inb numel1_S1 a.val (grid0.coords t) 0 * 1 + 1 * 0 = e.val
    rw [hm, he]; show (expertTab a.val (ix1 (num a t))).toNat * 1 + 1 * 0 = _; omega
  | ⟨1, _⟩ => show 0 * 1 + 1 * 0 = 0; omega
  | ⟨2, _⟩ => show 0 * 2048 + 1 * n.val = n.val; omega

variable (E : Fin 288 → Fin 32) (hE : ∀ t, (E t).val = (expertTab a.val (ix1 t)).toNat)

/-- The result's entries, from what the region finds. -/
def outW (c : Dev nD) : S1179648x128.Idx → EReal := fun j =>
  down (fun r k => (W c main_v35 : S73728x2048.Idx → EReal) (ix2 r k)) (fun e k n => (W c main_v37 : S32x2048x2048.Idx → EReal) (ix3 e k n))
    (fun e n => (W c main_v39 : S32x1x2048.Idx → EReal) (ix3 e 0 n)) E (nuWord c (a.val 1))
    ⟨(j 0).val / 4096, by have : (j 0).val < 1179648 := (j 0).isLt; omega⟩ ⟨(j 0).val % 4096 / 16, by omega⟩
    ⟨128 * ((j 0).val % 16) + (j 1).val, by have : (j 1).val < 128 := (j 1).isLt; omega⟩

include hE in
theorem left_at (c : Dev nD) (t : Fin (cfg0 a).N) (y : S4096x128.Idx) :
    (left W a c t y : EReal) = outW W a E c (ix2 ⟨4096 * (num a t).val + (y 0).val, by
      have := (num a t).isLt; have : (y 0).val < 4096 := (y 0).isLt; omega⟩ (y 1)) := by
  have h0 : (y 0).val < 4096 := (y 0).isLt
  have h1 : (y 1).val < 128 := (y 1).isLt
  unfold left outW down
  refine (blockOut_at _ _ _ _ _ y).trans ?_
  have et : (⟨(4096 * (num a t).val + (y 0).val) / 4096, by omega⟩ : Fin 288) = num a t := Fin.ext (by show _ / 4096 = _; omega)
  have er : (⟨(4096 * (num a t).val + (y 0).val) % 4096 / 16, by omega⟩ : Fin 256) = ⟨(y 0).val / 16, by omega⟩ := Fin.ext (by show (4096 * (num a t).val + (y 0).val) % 4096 / 16 = (y 0).val / 16; omega)
  have en : (⟨128 * ((4096 * (num a t).val + (y 0).val) % 16) + (y 1).val, by omega⟩ : Fin 2048) = ⟨128 * ((y 0).val % 16) + (y 1).val, by omega⟩ :=
    Fin.ext (by show 128 * ((4096 * (num a t).val + (y 0).val) % 16) + (y 1).val = 128 * ((y 0).val % 16) + (y 1).val; omega)
  have hx : ∀ k, (iblk W a c 0 t (ix2 ⟨(y 0).val / 16, by omega⟩ k) : EReal) = _ := fun k => blk0_at W a c t _ k
  have hw : ∀ k, (iblk W a c 1 t (ix3 0 k ⟨128 * ((y 0).val % 16) + (y 1).val, by omega⟩) : EReal) = _ := fun k => blk1_at W a c t (E (num a t)) (hE _) k _
  have hb : (iblk W a c 2 t (ix3 0 0 ⟨128 * ((y 0).val % 16) + (y 1).val, by omega⟩) : EReal) = _ := blk2_at W a c t (E (num a t)) (hE _) _
  show _ = if (BitVec.ofNat 32 ((4096 * (num a t).val + (y 0).val) / 4096)).slt (nuWord c (a.val 1)) then _ else _
  rw [show (4096 * (num a t).val + (y 0).val) / 4096 = (num a t).val by omega]
  refine if_congr Iff.rfl ?_ rfl
  refine congrArg₂ (fun p q : EReal => p + q) (Finset.sum_congr (M := EReal) rfl fun k _ => congrArg₂ (fun p q : EReal => p * q) ((hx k).trans ?_) ((hw k).trans ?_)) (hb.trans ?_)
  · refine congrArg (W c main_v35 : S73728x2048.Idx → EReal) (congrArg (fun r => ix2 r k) (Fin.ext ?_))
    show 256 * (num a t).val + (y 0).val / 16 = 256 * ((4096 * (num a t).val + (y 0).val) / 4096) + (4096 * (num a t).val + (y 0).val) % 4096 / 16
    omega
  · exact congrArg (W c main_v37 : S32x2048x2048.Idx → EReal) (congrArg₂ (fun e n => ix3 e k n) (congrArg E et.symm) en.symm)
  · exact congrArg (W c main_v39 : S32x1x2048.Idx → EReal) (congrArg₂ (fun e n => ix3 e 0 n) (congrArg E et.symm) en.symm)

/-- The place a row block's entry has in the result. -/
theorem place (t : Fin (cfg0 a).N) (y : S4096x128.Idx) (h) :
    (((cfg0 a).win 3).blk t).view.emb y = (ix2 ⟨4096 * (num a t).val + (y 0).val, h⟩ (y 1) : S1179648x128.Idx) := by
  have := (num a t).isLt
  refine funext fun b => Fin.ext ?_
  match b with
  | ⟨0, _⟩ =>
    show (BitVec.ofNat 32 (num a t).val).toNat * 4096 + 1 * (y 0).val = 4096 * (num a t).val + (y 0).val
    rw [BitVec.toNat_ofNat, Nat.mod_eq_of_lt (by omega)]; omega
  | ⟨1, _⟩ => show 0 * 128 + 1 * (y 1).val = (y 1).val; omega

/-- Every entry of the result lies in some row block's place. -/
theorem cover (i : S1179648x128.Idx) : ∃ t : Fin (cfg0 a).N, ((cfg0 a).win 3).flush t = true ∧ i ∈ (((cfg0 a).win 3).blk t).view.set := by
  have h0 : (i 0).val < 1179648 := (i 0).isLt
  have hN : (i 0).val / 4096 < (cfg0 a).N := (by omega : (i 0).val / 4096 < 288).trans_eq (by decide : 288 = grid0.N)
  refine ⟨⟨(i 0).val / 4096, hN⟩, flush3 a _, ?_⟩
  have hc : (num a ⟨(i 0).val / 4096, hN⟩).val = (i 0).val / 4096 := coords_val ⟨(i 0).val / 4096, hN⟩
  have hp := place a ⟨(i 0).val / 4096, hN⟩ (ix2 ⟨(i 0).val % 4096, by omega⟩ (i 1)) (by rw [hc]; show 4096 * ((i 0).val / 4096) + (i 0).val % 4096 < _; omega)
  have he : (((cfg0 a).win 3).blk ⟨(i 0).val / 4096, hN⟩).view.emb (ix2 ⟨(i 0).val % 4096, by omega⟩ (i 1) : S4096x128.Idx) = i := by
    refine hp.trans (funext fun b => Fin.ext ?_)
    match b with
    | ⟨0, _⟩ =>
      show 4096 * (num a _).val + (i 0).val % 4096 = (i 0).val
      rw [hc]; omega
    | ⟨1, _⟩ => rfl
  have hm := (((cfg0 a).win 3).blk ⟨(i 0).val / 4096, hN⟩).view.emb_mem_set (ix2 ⟨(i 0).val % 4096, by omega⟩ (i 1) : S4096x128.Idx)
  exact Eq.mp (congrArg (fun q : S1179648x128.Idx => q ∈ (((cfg0 a).win 3).blk ⟨(i 0).val / 4096, hN⟩).view.set) he) hm

include hE in
theorem final_of (c : Dev nD) : (dats W a 0 c).arrAt 3 (cfg0 a).N = outW W a E c := by
  refine (dats W a 0 c).arrAt_eq_of_emb 3 _ (fun t hf y => ?_) (cover a)
  rw [after3]
  exact (left_at W a E hE c t y).trans (congrArg (outW W a E c) (place a t y _).symm)

end

/-! ## The result, from the arguments -/

theorem nuWord_eq (c : Dev nD) (nu : IVec S1 32) : nuWord (F := Ideal) c nu = nu (ix1 0) := by
  refine congrArg nu (funext fun b => Fin.ext ?_)
  match b with
  | ⟨0, _⟩ => rfl

/-- The blocks' experts, from the experts' counts. -/
def expertsOf (cnt : IVec S32 32) (t : Fin 288) : Fin 32 :=
  ⟨(blockE (padEnds cnt) (ix1 t)).toNat, Nat.lt_succ_of_le (blockE_le _ _)⟩

/-- The result's entries, from the experts' counts and the other arguments. -/
def outOf (cnt : IVec S32 32) (a1 : FVec Ideal S73728x2048 .f32) (a2 : FVec Ideal S1x32x2048x2048 .f32) (a3 : FVec Ideal S1x32x2048 .f32) :
    S1179648x128.Idx → EReal := fun j =>
  down (fun r k => a1 (ix2 r k)) (fun e k n => a2 (ix4 0 e k n)) (fun e n => a3 (ix3 0 e n)) (expertsOf cnt) (nUsed (padEnds cnt) (ix1 0))
    ⟨(j 0).val / 4096, by have : (j 0).val < 1179648 := (j 0).isLt; omega⟩ ⟨(j 0).val % 4096 / 16, by omega⟩
    ⟨128 * ((j 0).val % 16) + (j 1).val, by have : (j 1).val < 128 := (j 1).isLt; omega⟩

variable (m : (ℓ : Loc nD τ sig) → Buf (Elt Ideal) ℓ)

theorem rows_at (c : Dev nD) (r : Fin 73728) (k : Fin 2048) :
    ((V m c main_v35 : S73728x2048.Idx → EReal) (ix2 r k)) = (m ((c : Thread nD τ).loc main_arg1) : S73728x2048.Idx → EReal) (ix2 r k) :=
  congrFun (V_rows m c) (ix2 r k)

theorem cast_weights (v : FVec Ideal S1x32x2048x2048 .f32) (e : Fin 32) (k n : Fin 2048) :
    (truncf .bf16 (shapeCast S32x2048x2048 v shapeCasts_S1x32x2048x2048_S32x2048x2048) bitsLt_bf16_f32 (ix3 e k n) : EReal) = v (ix4 0 e k n) := by
  pointwise []

theorem cast_bias (v : FVec Ideal S1x32x2048 .f32) (e : Fin 32) (n : Fin 2048) :
    (shapeCast S32x1x2048 (shapeCast S32x2048 v shapeCasts_S1x32x2048_S32x2048) shapeCasts_S32x2048_S32x1x2048 (ix3 e 0 n) : EReal) = v (ix3 0 e n) := by
  pointwise []

theorem weights_at (c : Dev nD) (e : Fin 32) (k n : Fin 2048) :
    ((V m c main_v37 : S32x2048x2048.Idx → EReal) (ix3 e k n)) = (m ((c : Thread nD τ).loc main_arg2) : S1x32x2048x2048.Idx → EReal) (ix4 0 e k n) :=
  (congrFun (V_weights m c) (ix3 e k n)).trans (cast_weights _ e k n)

theorem bias_at (c : Dev nD) (e : Fin 32) (n : Fin 2048) :
    ((V m c main_v39 : S32x1x2048.Idx → EReal) (ix3 e 0 n)) = (m ((c : Thread nD τ).loc main_arg3) : S1x32x2048.Idx → EReal) (ix3 0 e n) :=
  (congrFun (V_bias m c) (ix3 e 0 n)).trans (cast_bias _ e n)

/-- The array of the result, after the run. -/
theorem final (c : Dev nD) : (dats (V m) (adm m (fits m)) 0 c).arrAt 3 (cfg0 (adm m (fits m))).N =
    outOf (counts (ids m c)) (m ((c : Thread nD τ).loc main_arg1)) (m ((c : Thread nD τ).loc main_arg2)) (m ((c : Thread nD τ).loc main_arg3)) := by
  obtain rfl : c = 0 := Subsingleton.elim _ _
  refine (final_of (V m) (adm m (fits m)) (expertsOf (counts (ids m 0))) (fun t => ?_) 0).trans ?_
  · exact (congrArg (fun v : IVec S288 32 => (v (ix1 t)).toNat) (tab_expert m)).symm
  · funext j
    unfold outW outOf
    have hn : nuWord (F := Ideal) 0 ((adm m (fits m)).val 1) = nUsed (padEnds (counts (ids m 0))) (ix1 0) :=
      (nuWord_eq 0 _).trans (congrFun (V_used m 0) (ix1 0))
    exact down_congr (fun r k => rows_at m 0 r k) (fun e k n => weights_at m 0 e k n) (fun e n => bias_at m 0 e n) hn _ _ _

end Cert.Down

end
-- ==== Proof.DownRef.lean ====
/-
  The reference's expert products, entry by entry, and so kernel and reference agree.
-/
module

public import proofs.«01_k».proof.Defs
public import proofs.«01_k».proof.Proof.DownCount
public import proofs.«01_k».proof.Proof.DownValue
public import proofs.«01_k».proof.Proof.Gen.Kernel3
public import proofs.«01_k».proof.Proof.Gen.Reference3Ideal.Run
public import Idealize.ShloMosaic.Lib.StableHlo.RunHlo

@[expose] public section

set_option maxRecDepth 16384

noncomputable section

namespace Cert.Down

open Idealize.ShloMosaic Idealize.ShloMosaic.TcCoe Idealize.SL.Sem

section Entries

open Cert.Reference3Ideal Cert.Reference3Ideal.Gen

/-- The last group's end, as one word. -/
def lastWord (pe : IVec S32 32) : IVec S_ 32 := shapeCast S_ (extractStridedSlice S1 ![31] pe slices_S32_S1_31) shapeCasts_S1_S_

/-- The number of used blocks, as the reference divides it out. -/
def usedWord (pe : IVec S32 32) : IVec S_ 32 :=
  select (andi (cmpi .ne (signi (lastWord pe)) (signi (id (constantI S_ 32 256#32)))) (cmpi .ne (Host.remsi (lastWord pe) (id (constantI S_ 32 256#32))) (constantI S_ 32 0#32))) (subi (Host.divsi (lastWord pe) (id (constantI S_ 32 256#32))) (constantI S_ 32 1#32)) (Host.divsi (lastWord pe) (id (constantI S_ 32 256#32)))

/-- The column of experts the reference picks with. -/
def picks (be : IVec S288 32) : IVec S288x1 32 :=
  broadcastInDim S288x1 ![0] bcast_S288_S288x1_0 (select (cmpi .slt be (broadcastInDim S288 ![] bcast_S_S288 (constantI S_ 32 0#32))) (addi be (broadcastInDim S288 ![] bcast_S_S288 (constantI S_ 32 32#32))) be)

/-- The reference's result, of the picked weights and biases and the number of used blocks. -/
def refOf (nu : IVec S_ 32) (a1 : FVec Ideal S73728x2048 .f32) (w : FVec Ideal S288x2048x2048 .f32) (b : FVec Ideal S288x2048 .f32) : FVec Ideal S1179648x128 .f32 :=
  shapeCast S1179648x128 (select (broadcastInDim S288x256x2048 ![0, 1, 2] bcast_S288x1x1_S288x256x2048_0_1_2 (broadcastInDim S288x1x1 ![0] bcast_S288_S288x1x1_0 (cmpi .slt (iotaInDim S288 32 0) (broadcastInDim S288 ![] bcast_S_S288 nu)))) (addf (Host.dotGeneral dot_S288x256x2048_S288x2048x2048_S288x256x2048_2_1_1_2_0_0 none (shapeCast S288x256x2048 a1 shapeCasts_S73728x2048_S288x256x2048) w) (broadcastInDim S288x256x2048 ![0, 1, 2] bcast_S288x1x2048_S288x256x2048_0_1_2 (broadcastInDim S288x1x2048 ![0, 2] bcast_S288x2048_S288x1x2048_0_2 b))) (broadcastInDim S288x256x2048 ![] bcast_S_S288x256x2048 (id (constant S_ .f32 0x00000000#32)))) shapeCasts_S288x256x2048_S1179648x128

/-- The picked weights. -/
def pickW (be : IVec S288 32) (a2 : FVec Ideal S1x32x2048x2048 .f32) : FVec Ideal S288x2048x2048 .f32 :=
  Host.gather gather_S32x2048x2048_S288x1_S288x2048x2048_12_0_n_n_0_1_120482048 (shapeCast S32x2048x2048 a2 shapeCasts_S1x32x2048x2048_S32x2048x2048) (picks be)

/-- The picked biases. -/
def pickB (be : IVec S288 32) (a3 : FVec Ideal S1x32x2048 .f32) : FVec Ideal S288x2048 .f32 :=
  Host.gather gather_S32x2048_S288x1_S288x2048_1_0_n_n_0_1_12048 (shapeCast S32x2048 a3 shapeCasts_S1x32x2048_S32x2048) (picks be)

/-- A word of at most 31 is picked as it is. -/
theorem picks_at (be : IVec S288 32) (t : Fin 288) (h : (be (ValueIdx.ix1 t)).toNat ≤ 31) : picks be (ValueIdx.ix2 t 0) = be (ValueIdx.ix1 t) := by
  have h1 : picks be (ValueIdx.ix2 t 0) = if BitVec.ofBool ((be (ValueIdx.ix1 t)).slt 0#32) = 1#1 then be (ValueIdx.ix1 t) + 32#32 else be (ValueIdx.ix1 t) := by
    unfold picks
    pointwise []
    rfl
  rw [h1]
  have h2 : (be (ValueIdx.ix1 t)).slt 0#32 = false := by
    rw [BitVec.slt_eq_decide, BitVec.toInt_eq_toNat_of_lt (by omega)]
    exact decide_eq_false (by rw [show (0#32 : BitVec 32).toInt = 0 from rfl]; omega)
  rw [h2]
  rfl

theorem pickW_at (be : IVec S288 32) (a2 : FVec Ideal S1x32x2048x2048 .f32) (t : Fin 288) (e : Fin 32) (he : e.val = (be (ValueIdx.ix1 t)).toNat)
    (k n : Fin 2048) : (pickW be a2 (ValueIdx.ix3 t k n) : EReal) = a2 (ValueIdx.ix4 0 e k n) := by
  have hp := picks_at be t (by omega)
  have h1 : pickW be a2 (ValueIdx.ix3 t k n) = shapeCast S32x2048x2048 a2 shapeCasts_S1x32x2048x2048_S32x2048x2048 (ValueIdx.ix3 e k n) := by
    unfold pickW Host.gather
    refine congrArg (shapeCast S32x2048x2048 a2 shapeCasts_S1x32x2048x2048_S32x2048x2048) (funext fun b => Fin.ext ?_)
    match b with
    | ⟨0, _⟩ =>
      show min (picks be _).toInt.toNat 31 + 0 + 0 = e.val
      have hi : ∀ i : S288x1.Idx, i = ValueIdx.ix2 t 0 → min (picks be i).toInt.toNat 31 + 0 + 0 = e.val := by
        rintro _ rfl
        rw [hp, BitVec.toInt_eq_toNat_of_lt (by omega)]
        omega
      refine hi _ (funext fun b' => Fin.ext ?_)
      match b' with
      | ⟨0, _⟩ => rfl
      | ⟨1, _⟩ => rfl
    | ⟨1, _⟩ => show 0 + 0 + k.val = k.val; omega
    | ⟨2, _⟩ => show 0 + 0 + n.val = n.val; omega
  refine (congrArg (fun v : Ideal .f32 => (v : EReal)) h1).trans ?_
  pointwise []
  rfl

theorem pickB_at (be : IVec S288 32) (a3 : FVec Ideal S1x32x2048 .f32) (t : Fin 288) (e : Fin 32) (he : e.val = (be (ValueIdx.ix1 t)).toNat)
    (n : Fin 2048) : (pickB be a3 (ValueIdx.ix2 t n) : EReal) = a3 (ValueIdx.ix3 0 e n) := by
  have hp := picks_at be t (by omega)
  have h1 : pickB be a3 (ValueIdx.ix2 t n) = shapeCast S32x2048 a3 shapeCasts_S1x32x2048_S32x2048 (ValueIdx.ix2 e n) :=
    Routing.gather_row _ rfl rfl rfl rfl rfl _ (picks be) t n e (hp.trans (by rw [he, BitVec.ofNat_toNat, BitVec.setWidth_eq])) (by decide)
  refine (congrArg (fun v : Ideal .f32 => (v : EReal)) h1).trans ?_
  pointwise []
  rfl

theorem refOf_at (nu : IVec S_ 32) (a1 : FVec Ideal S73728x2048 .f32) (w : FVec Ideal S288x2048x2048 .f32) (b : FVec Ideal S288x2048 .f32)
    (j0 : Fin 1179648) (j1 : Fin 128) :
    (refOf nu a1 w b (ValueIdx.ix2 j0 j1) : EReal) = if (BitVec.ofNat 32 (j0.val / 4096)).slt (nu ValueIdx.ix0) then
      (∑ k : Fin 2048, a1 (ValueIdx.ix2 ⟨256 * (j0.val / 4096) + j0.val % 4096 / 16, by omega⟩ k)
        * w (ValueIdx.ix3 ⟨j0.val / 4096, by omega⟩ k ⟨128 * (j0.val % 16) + j1.val, by omega⟩))
        + b (ValueIdx.ix2 ⟨j0.val / 4096, by omega⟩ ⟨128 * (j0.val % 16) + j1.val, by omega⟩)
    else 0 := by
  unfold refOf
  pointwise []
  have hs : ∀ (x y : BitVec 32) (A B : EReal), Scalar.select (IntOp.cmpi CmpIPredicate.slt x y) A B = if x.slt y then A else B := by
    intro x y A B
    show (if BitVec.ofBool (x.slt y) = 1#1 then A else B) = _
    cases x.slt y <;> rfl
  refine (hs _ _ _ _).trans (if_congr Iff.rfl ?_ Ideal.ofBits_zero_f32)
  have h1 : j0.val / 4096 * 256 + j0.val / 16 % 256 = 256 * (j0.val / 4096) + j0.val % 4096 / 16 := by omega
  have h2 : j0.val % 16 * 128 + j1.val = 128 * (j0.val % 16) + j1.val := by omega
  refine congrArg₂ (· + ·) (Finset.sum_congr rfl fun k _ => congrArg₂ (· * ·) (congrArg (fun i => a1 (ValueIdx.ix2 i k)) (Fin.ext h1))
    (congrArg (fun i => w (ValueIdx.ix3 _ k i)) (Fin.ext h2))) (congrArg (fun i => b (ValueIdx.ix2 _ i)) (Fin.ext h2))

theorem usedWord_eq (pe : IVec S32 32) : usedWord pe ValueIdx.ix0 = nUsed pe (ValueIdx.ix1 0) := by
  have h : lastWord pe ValueIdx.ix0 = lastEnd pe (ValueIdx.ix1 0) := by
    unfold lastWord lastEnd
    pointwise []
  unfold usedWord nUsed
  pointwise []
  rw [h]
  rfl

theorem refOf_eq (cnt : IVec S32 32) (a1 : FVec Ideal S73728x2048 .f32) (a2 : FVec Ideal S1x32x2048x2048 .f32) (a3 : FVec Ideal S1x32x2048 .f32) :
    refOf (usedWord (padEnds cnt)) a1 (pickW (blockE (padEnds cnt)) a2) (pickB (blockE (padEnds cnt)) a3) = outOf cnt a1 a2 a3 := by
  funext j
  obtain ⟨j0, j1, rfl⟩ : ∃ (j0 : Fin 1179648) (j1 : Fin 128), j = ValueIdx.ix2 j0 j1 := ⟨j 0, j 1, ValueIdx.eq_ix2 j⟩
  refine (refOf_at _ _ _ _ j0 j1).trans ?_
  show _ = if _ then _ else _
  rw [usedWord_eq]
  refine if_congr Iff.rfl (congrArg₂ (· + ·) (Finset.sum_congr rfl fun k _ => congrArg₂ (· * ·) rfl (pickW_at _ a2 _ (expertsOf cnt _) rfl k _))
    (pickB_at _ a3 _ (expertsOf cnt _) rfl _)) rfl

set_option maxRecDepth 100000 in
set_option maxHeartbeats 4000000 in
/-- The reference's composed term is this one. -/
theorem res_eq (m : (ℓ : Loc nD τ sig) → Buf (Elt Ideal) ℓ) (c : Dev nD) :
    Value.res_main_v60 m c = outOf (counts (m ((c.tc : Thread nD τ).loc main_arg0)))
      (m ((c.tc : Thread nD τ).loc main_arg1)) (m ((c.tc : Thread nD τ).loc main_arg2)) (m ((c.tc : Thread nD τ).loc main_arg3)) := by
  refine Eq.trans ?_ (refOf_eq _ _ _ _)
  rw [← counts_eq _ reducesTo_S65536x32_S32_d0 h_S_]
  unfold Value.res_main_v60
  rfl

end Entries

instance : Cert.Kernel3.Facts := Cert.Kernel3.Gen.facts

/-! ## The frames -/

set_option maxHeartbeats 4000000 in
/-- The two programs' body tables are the same text. -/
theorem defs_eq : Cert.Kernel3.defs (F := Bits) = Cert.Kernel3Ideal.defs (F := Bits) := by sl_kernel_rfl

set_option maxHeartbeats 4000000 in
/-- The two programs are the same text. -/
theorem main_eq : Cert.Kernel3.main (F := Bits) = Cert.Kernel3Ideal.main (F := Bits) := by sl_kernel_rfl

set_option maxHeartbeats 4000000 in
/-- The frame over bit patterns, from the one run. -/
theorem frame_bits : Cert.quiescent_Kernel3 := fun m ρ _ => by
  rw [defs_eq, main_eq]
  exact frame (F := Bits) m ρ

/-- The frame over exact numbers. -/
theorem frame_ideal : Cert.quiescent_Kernel3Ideal := fun m ρ _ => frame (F := Ideal) m ρ

/-- The reference runs, and leaves its arguments and its counters, of which it has none. -/
theorem frame_ref : Cert.quiescent_Reference3Ideal := fun m ρ _ =>
  (θ_run _ _ _).mono (fun r h => ⟨fun c => (h c).2, sem_eq_zero_of_no_sems (by decide) r.2⟩) (Cert.Reference3Ideal.Value.run m ρ)

/-! ## The values -/

/-- From equal arguments, over exact numbers, kernel and reference leave the same products. -/
theorem algebraic : Cert.algebraic_Kernel3Ideal_Reference3Ideal := by
  intro m g m' g' hpre hag
  refine ⟨fun c => outOf (counts (ids m c)) (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3)), ?_, ?_⟩
  · refine (θ_run _ _ _).mono (fun r h c => ?_) (θ_run_and (run m g (fits m)) (frame m g))
    obtain ⟨⟨h1, _⟩, h2, _⟩ := h
    exact ⟨((h1 c).1 3).trans (final m c), h2 c⟩
  · refine (θ_run _ _ _).mono (fun r h c => ?_) (Cert.Reference3Ideal.Value.run m' g')
    obtain ⟨a0, a1, a2, a3⟩ := hag c
    have hr := res_eq m' c
    rw [a0, a1, a2, a3] at hr
    exact ⟨(h c).1.trans hr, (h c).2⟩

end Cert.Down

end
-- ==== Proof.PostRun.lean ====
/-
  The body after attention, run once for every row tile: the gated sum of the two branches through the output weights
  and onto the stream, its norm laid out chunk by chunk, and the router's choices.
-/
module

public import proofs.«01_k».proof.Proof.Gen.Kernel4Ideal.Frame
public import proofs.«01_k».proof.Proof.Gen.Kernel4Ideal.Skeleton
public import proofs.«01_k».proof.Proof.DownRun
public import Idealize.ShloMosaic.Lib.Tactic
public import Idealize.ShloMosaic.Lib.VecWindow

@[expose] public section

set_option maxRecDepth 16384

noncomputable section

namespace Cert.Post

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-! ## What a tile's results hold -/

section Tile

variable (x0 x1 : Vec F S256x1024 .bf16) (x2 : Vec F S256x4096 .bf16) (x3 : Vec F S256x2048 .f32) (x4 x5 : Vec F S1024x2048 .bf16)
  (x6 : Vec F S2048x2048 .bf16) (x7 : Vec F S1x2048 .f32) (x8 : Vec F S2048x32 .f32) (x9 : Vec F S1x32 .f32)

/-- The stream's tile, the gated branches added. -/
def streamOf : Vec F S256x2048 .f32 := k0_pay4 x0 x4 x1 x5 x2 x3 x6

/-- Its norm. -/
def normOf : FVec F S256x2048 .f32 := k0_pay7 (k0_pay5 x7) (k0_pay6 x0 x4 x1 x5 x2 x3 x6)

/-- The experts' columns and the choices' columns. -/
def cols : IVec S256x32 32 := iota .tc S256x32 32 [1] iota_S256x32_d1_w32
def slots : IVec S256x128 32 := iota .tc S256x128 32 [1] iota_S256x128_d1_w32

/-- The scores left once the first choice is taken, and once the next two are. -/
def scores1 (u : FVec F S256x2048 .f32) : FVec F S256x32 .f32 := k0_pay30 u x8 x9
def scores2 (u : FVec F S256x2048 .f32) : FVec F S256x32 .f32 := k0_pay41 cols (scores1 x8 x9 u)

/-- The chosen experts of a normed tile. -/
def choicesOf (u : FVec F S256x2048 .f32) : Vec F S256x128 .i32 :=
  k0_pay2 cols slots (k0_pay37 cols slots k0_pay25 (k0_pay29 u x8 x9) (scores1 x8 x9 u)) (k0_pay40 cols (scores1 x8 x9 u)) (scores2 x8 x9 u)

/-- Their weights. -/
def weightsOf (u : FVec F S256x2048 .f32) : Vec F S256x128 .f32 :=
  k0_pay3 slots (k0_pay28 u x8 x9)
    (k0_pay36 (k0_pay27 (F := F)) (k0_pay28 u x8 x9) (scores1 x8 x9 u) (k0_pay31 u x8 x9))
    (k0_pay38 slots (k0_pay26 (F := F)) (k0_pay28 u x8 x9) (scores1 x8 x9 u) (k0_pay31 u x8 x9))
    (k0_pay39 cols (scores1 x8 x9 u)) (scores2 x8 x9 u)

end Tile

/-! ## The run -/

set_option maxHeartbeats 4000000 in
theorem kernelRun (c : Dev nD) (i : grid0.Coords)
    (M0 : Memref sig .tc .vmem S256x1024 .bf16) (h0 : M0.IsWhole)
    (M1 : Memref sig .tc .vmem S256x1024 .bf16) (h1 : M1.IsWhole)
    (M2 : Memref sig .tc .vmem S256x4096 .bf16) (h2 : M2.IsWhole)
    (M3 : Memref sig .tc .vmem S256x2048 .f32) (h3 : M3.IsWhole)
    (M4 : Memref sig .tc .vmem S1024x2048 .bf16) (h4 : M4.IsWhole)
    (M5 : Memref sig .tc .vmem S1024x2048 .bf16) (h5 : M5.IsWhole)
    (M6 : Memref sig .tc .vmem S2048x2048 .bf16) (h6 : M6.IsWhole)
    (M7 : Memref sig .tc .vmem S1x2048 .f32) (h7 : M7.IsWhole)
    (M8 : Memref sig .tc .vmem S2048x32 .f32) (h8 : M8.IsWhole)
    (M9 : Memref sig .tc .vmem S1x32 .f32) (h9 : M9.IsWhole)
    (M10 : Memref sig .tc .vmem S256x2048 .f32) (h10 : M10.IsWhole)
    (M11 : Memref sig .tc .vmem S4096x128 .f32) (h11 : M11.IsWhole)
    (M12 : Memref sig .tc .vmem S256x128 .i32) (h12 : M12.IsWhole)
    (M13 : Memref sig .tc .vmem S256x128 .f32) (h13 : M13.IsWhole)
    (x0 : Vec F S256x1024 .bf16) (x1 : Vec F S256x1024 .bf16) (x2 : Vec F S256x4096 .bf16) (x3 : Vec F S256x2048 .f32) (x4 : Vec F S1024x2048 .bf16) (x5 : Vec F S1024x2048 .bf16) (x6 : Vec F S2048x2048 .bf16) (x7 : Vec F S1x2048 .f32) (x8 : Vec F S2048x32 .f32) (x9 : Vec F S1x32 .f32)
    (E : Set ℕ) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9
        ∗ (∃ d, owns (c : Thread nD τ) M10 fullShare d) ∗ (∃ d, owns (c : Thread nD τ) M11 fullShare d) ∗ (∃ d, owns (c : Thread nD τ) M12 fullShare d) ∗ (∃ d, owns (c : Thread nD τ) M13 fullShare d)
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9
            ∗ owns (c : Thread nD τ) M10 fullShare (streamOf x0 x1 x2 x3 x4 x5 x6)
            ∗ owns (c : Thread nD τ) M11 fullShare (Down.laid (normOf x0 x1 x2 x3 x4 x5 x6 x7))
            ∗ owns (c : Thread nD τ) M12 fullShare (choicesOf x8 x9 (normOf x0 x1 x2 x3 x4 x5 x6 x7))
            ∗ owns (c : Thread nD τ) M13 fullShare (weightsOf x8 x9 (normOf x0 x1 x2 x3 x4 x5 x6 x7))) -∗ K ⟨⟩))
      ⊢ wp frame (wpE (defs₀ (F := F)) Variants.none c none) E (cc0_post_attn i M0 h0 M1 h1 M2 h2 M3 h3 M4 h4 M5 h5 M6 h6 M7 h7 M8 h8 M9 h9 M10 h10 M11 h11 M12 h12 M13 h13) K := by
  simp only [cc0_post_attn_eq_skeleton]; unfold cc0_post_attn_skel
  sl_open_parts
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro
    sl_unfold_run_names
    rw [(View.readAt_full _ _ _).trans hf0, (View.readAt_full _ _ _).trans hf4, (View.readAt_full _ _ _).trans hf1, (View.readAt_full _ _ _).trans hf5, (View.readAt_full _ _ _).trans hf2, (View.readAt_full _ _ _).trans hf3, (View.readAt_full _ _ _).trans hf6]
    exact View.read_writes_full _ _ _ _ _
  isplitl [H11]
  · iexists _; isplitr; swap; · iexact H11
    ipureintro
    sl_unfold_run_names
    rw [(View.readAt_full _ _ _).trans hf0, (View.readAt_full _ _ _).trans hf4, (View.readAt_full _ _ _).trans hf1, (View.readAt_full _ _ _).trans hf5, (View.readAt_full _ _ _).trans hf2, (View.readAt_full _ _ _).trans hf3, (View.readAt_full _ _ _).trans hf6, (View.readAt_full _ _ _).trans hf7]
    exact Down.laid_writes f11 (normOf x0 x1 x2 x3 x4 x5 x6 x7)
  isplitl [H12]
  · iexists _; isplitr; swap; · iexact H12
    ipureintro
    sl_unfold_run_names
    rw [(View.readAt_full _ _ _).trans hf0, (View.readAt_full _ _ _).trans hf4, (View.readAt_full _ _ _).trans hf1, (View.readAt_full _ _ _).trans hf5, (View.readAt_full _ _ _).trans hf2, (View.readAt_full _ _ _).trans hf3, (View.readAt_full _ _ _).trans hf6, (View.readAt_full _ _ _).trans hf7, (View.readAt_full _ _ _).trans hf8, (View.readAt_full _ _ _).trans hf9]
    exact View.read_writes_full _ _ _ _ _
  · iexists _; isplitr; swap; · iexact H13
    ipureintro
    sl_unfold_run_names
    rw [(View.readAt_full _ _ _).trans hf0, (View.readAt_full _ _ _).trans hf4, (View.readAt_full _ _ _).trans hf1, (View.readAt_full _ _ _).trans hf5, (View.readAt_full _ _ _).trans hf2, (View.readAt_full _ _ _).trans hf3, (View.readAt_full _ _ _).trans hf6, (View.readAt_full _ _ _).trans hf7, (View.readAt_full _ _ _).trans hf8, (View.readAt_full _ _ _).trans hf9]
    exact View.read_writes_full _ _ _ _ _

end Cert.Post

end
-- ==== Proof.PostFrame.lean ====
/-
  The pipeline after attention: what each staged buffer holds at each row tile, the body's obligation at each, the run
  of the whole program, and from it that the arguments end unchanged. All at any number type, so that it serves both the
  program over bit patterns and the program over exact numbers.
-/
module

public import proofs.«01_k».proof.Proof.PostRun
public import Idealize.ShloMosaic.Lib.Pipeline.Frame
public import Idealize.ShloMosaic.Lib.Claim

@[expose] public section

set_option maxRecDepth 16384

noncomputable section

namespace Cert.Post

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents -/

/-- The stream's tile after the branches, from what the region finds in the arrays. -/
def stream (c : Dev nD) (t : Fin cfg0.N) : Vec F S256x2048 .f32 :=
  streamOf (iblk m c 0 t) (iblk m c 1 t) (iblk m c 2 t) (iblk m c 3 t) (iblk m c 4 t) (iblk m c 5 t) (iblk m c 6 t)

/-- Its norm. -/
def normed (c : Dev nD) (t : Fin cfg0.N) : FVec F S256x2048 .f32 :=
  normOf (iblk m c 0 t) (iblk m c 1 t) (iblk m c 2 t) (iblk m c 3 t) (iblk m c 4 t) (iblk m c 5 t) (iblk m c 6 t) (iblk m c 7 t)

/-- The proof data: the arrays as the region finds them; after each tile the inputs' blocks, and the four results. -/
def dats (_ : Fin 1) (c : Dev nD) : Dat τ (Elt F) Unit ℕ (UR sig nD τ) ℕ cfg0 c where
  A := fun w => V m c (Pipeline.arrRef spec0 w)
  after := fun
    | 0 => iblk m c 0
    | 1 => iblk m c 1
    | 2 => iblk m c 2
    | 3 => iblk m c 3
    | 4 => iblk m c 4
    | 5 => iblk m c 5
    | 6 => iblk m c 6
    | 7 => iblk m c 7
    | 8 => iblk m c 8
    | 9 => iblk m c 9
    | 10 => stream m c
    | 11 => fun t => Down.laid (normed m c t)
    | 12 => fun t => choicesOf (iblk m c 8 t) (iblk m c 9 t) (normed m c t)
    | 13 => fun t => weightsOf (iblk m c 8 t) (iblk m c 9 t) (normed m c t)
  Φ := fun _ => Pipeline.ΦA spec0 c
  q := fun _ => fullShare
  owed := fun _ => 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = stream m c t := by dsimp only [dats]
theorem after11 (c : Dev nD) (t : Fin cfg0.N) : (dats m 0 c).after 11 t = Down.laid (normed m c t) := by dsimp only [dats]
theorem after12 (c : Dev nD) (t : Fin cfg0.N) : (dats m 0 c).after 12 t = choicesOf (iblk m c 8 t) (iblk m c 9 t) (normed m c t) := by dsimp only [dats]
theorem after13 (c : Dev nD) (t : Fin cfg0.N) : (dats m 0 c).after 13 t = weightsOf (iblk m c 8 t) (iblk m c 9 t) (normed m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-! ## The body's obligation -/

/-- What is handed to the body at a tile. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- The body at any tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl, after0, after1, after2, after3, after4, after5, after6, after7, after8, after9, after10, after11, after12, after13]
  unfold stream normed
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (kernelRun c (grid0.coords t) _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The table's row at a tile is the body at it. -/
theorem defs₀_row (t : Fin cfg0.N) : defs₀ (F := F) .tc cfg0.body (cfg0.bodyArgs t (cfg0.slots t)) = bodyAt0 t := by
  unfold defs₀; rw [Defs.onTc_tc]

/-- The body's obligation at every tile. -/
theorem obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The whole program's run: every array ends at what the proof data says, and no semaphore is left raised. -/
theorem run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun _ => .rfl) (hout := fun _ => .rfl)

/-- The arguments end unchanged, and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Post

end
-- ==== Proof.PostValue.lean ====
/-
  What the body after attention leaves in its first two results, entry by entry: the stream with the gated branches
  added, and its norm in chunks of 128 columns.
-/
module

public import proofs.«01_k».proof.Proof.PostFrame
public import Idealize.ShloMosaic.Lib.Pipeline.ValueKit
public import Idealize.ShloMosaic.Lib.Pipeline.Value

@[expose] public section

set_option maxRecDepth 16384

noncomputable section

namespace Cert.Post

open Idealize.ShloMosaic

/-! ## The layer -/

section Layer

variable {R : Type} (o1 o2 : R → Fin 1024 → EReal) (g : R → Fin 4096 → EReal) (x : R → Fin 2048 → EReal)
  (w1 w2 : Fin 1024 → Fin 2048 → EReal) (w : Fin 2048 → Fin 2048 → EReal) (gain : Fin 2048 → EReal)

/-- The two branches, each through its weights and its gate, added. -/
def merged (r : R) (k : Fin 2048) : EReal :=
  g r ⟨k.val, by omega⟩ * (∑ e : Fin 1024, o1 r e * w1 e k) + g r ⟨2048 + k.val, by omega⟩ * (∑ e : Fin 1024, o2 r e * w2 e k)

/-- The stream with the merged branches added, through the output weights. -/
def hid (r : R) (n : Fin 2048) : EReal := x r n + ∑ k : Fin 2048, merged o1 o2 g w1 w2 r k * w k n

/-- The norm of a row. -/
def rowNorm (h : R → Fin 2048 → EReal) (r : R) (n : Fin 2048) : EReal :=
  h r n * Ideal.rsqrt (Ideal.div (∑ e : Fin 2048, h r e * h r e) (Ideal.ofBits .f32 0x45000000#32) + Ideal.ofBits .f32 0x358637BD#32) * gain n

end Layer

open Cert.Kernel4Ideal Cert.Kernel4Ideal.Gen Idealize.ShloMosaic.TcCoe Idealize.SL.Sem
open Idealize.ShloMosaic.Pipeline (Dat)

/-! ## A tile's entries -/

section Tile

variable (x0 x1 : Vec Ideal S256x1024 .bf16) (x2 : Vec Ideal S256x4096 .bf16) (x3 : Vec Ideal S256x2048 .f32) (x4 x5 : Vec Ideal S1024x2048 .bf16)
  (x6 : Vec Ideal S2048x2048 .bf16) (x7 : Vec Ideal S1x2048 .f32)

theorem streamOf_at (r : Fin 256) (n : Fin 2048) :
    (streamOf x0 x1 x2 x3 x4 x5 x6 (ix2 r n) : EReal) =
      hid (fun r k => x0 (ix2 r k)) (fun r k => x1 (ix2 r k)) (fun r k => x2 (ix2 r k)) (fun r k => x3 (ix2 r k))
        (fun e k => x4 (ix2 e k)) (fun e k => x5 (ix2 e k)) (fun k n => x6 (ix2 k n)) r n := by
  unfold streamOf k0_pay4 hid merged
  pointwise []

theorem normOf_at (r : Fin 256) (n : Fin 2048) :
    (normOf x0 x1 x2 x3 x4 x5 x6 x7 (ix2 r n) : EReal) =
      rowNorm (fun n => x7 (ix2 0 n)) (fun (r : Fin 256) n => streamOf x0 x1 x2 x3 x4 x5 x6 (ix2 r n)) r n := by
  unfold normOf k0_pay7 k0_pay6 k0_pay5 rowNorm streamOf
  generalize k0_pay4 x0 x4 x1 x5 x2 x3 x6 = h
  pointwise []

end Tile

/-! ## The blocks -/

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0] ∧
    win0_4.index t = ![0, 0] ∧ win0_5.index t = ![0, 0] ∧ win0_6.index t = ![0, 0] ∧ win0_7.index t = ![0, 0] ∧
    win0_10.index t = ![t.val, 0] ∧ win0_11.index t = ![t.val, 0] :=
  (by decide +kernel : ∀ t : Fin grid0.N, _)

theorem lt_N (t : Fin cfg0.N) : t.val < 64 := N_0 ▸ t.isLt

/-- What a run is launched on: the two branches, the gates, the stream, the three weights and the gain. -/
def O1 (c : Dev nD) (r : Fin 16384) (k : Fin 1024) : EReal := m ((c : Thread nD τ).loc main_arg0) (ix2 r k)
def O2 (c : Dev nD) (r : Fin 16384) (k : Fin 1024) : EReal := m ((c : Thread nD τ).loc main_arg1) (ix2 r k)
def G (c : Dev nD) (r : Fin 16384) (k : Fin 4096) : EReal := m ((c : Thread nD τ).loc main_arg2) (ix2 r k)
def X (c : Dev nD) (r : Fin 16384) (k : Fin 2048) : EReal := m ((c : Thread nD τ).loc main_arg3) (ix2 r k)
def W1 (c : Dev nD) (e : Fin 1024) (k : Fin 2048) : EReal := m ((c : Thread nD τ).loc main_arg4) (ix3 0 e k)
def W2 (c : Dev nD) (e : Fin 1024) (k : Fin 2048) : EReal := m ((c : Thread nD τ).loc main_arg5) (ix3 0 e k)
def W (c : Dev nD) (k n : Fin 2048) : EReal := m ((c : Thread nD τ).loc main_arg6) (ix3 0 k n)
def N (c : Dev nD) (n : Fin 2048) : EReal := m ((c : Thread nD τ).loc main_arg7) (ix2 0 n)

/-- A row of a tile, among the tokens. -/
abbrev row (t : Fin cfg0.N) (r : Fin 256) : Fin 16384 := ⟨256 * t.val + r.val, by have := lt_N t; omega⟩

theorem o1_at (c : Dev nD) (t : Fin cfg0.N) (r : Fin 256) (k : Fin 1024) : (iblk m c 0 t (ix2 r k) : EReal) = O1 m c (row t r) k := by
  unfold O1
  blk_point [iblk, V, idx t]
theorem o2_at (c : Dev nD) (t : Fin cfg0.N) (r : Fin 256) (k : Fin 1024) : (iblk m c 1 t (ix2 r k) : EReal) = O2 m c (row t r) k := by
  unfold O2
  blk_point [iblk, V, idx t]
theorem g_at (c : Dev nD) (t : Fin cfg0.N) (r : Fin 256) (k : Fin 4096) : (iblk m c 2 t (ix2 r k) : EReal) = G m c (row t r) k := by
  unfold G
  blk_point [iblk, V, idx t]
theorem x_at (c : Dev nD) (t : Fin cfg0.N) (r : Fin 256) (k : Fin 2048) : (iblk m c 3 t (ix2 r k) : EReal) = X m c (row t r) k := by
  unfold X
  blk_point [iblk, V, idx t]
theorem w1_at (c : Dev nD) (t : Fin cfg0.N) (e : Fin 1024) (k : Fin 2048) : (iblk m c 4 t (ix2 e k) : EReal) = W1 m c e k := by
  unfold W1
  blk_simp [iblk, idx t]
  entry_read
  pointwise []
  blk_point [iblk, V, idx t]
theorem w2_at (c : Dev nD) (t : Fin cfg0.N) (e : Fin 1024) (k : Fin 2048) : (iblk m c 5 t (ix2 e k) : EReal) = W2 m c e k := by
  unfold W2
  blk_simp [iblk, idx t]
  entry_read
  pointwise []
  blk_point [iblk, V, idx t]
theorem w_at (c : Dev nD) (t : Fin cfg0.N) (k n : Fin 2048) : (iblk m c 6 t (ix2 k n) : EReal) = W m c k n := by
  unfold W
  blk_simp [iblk, idx t]
  entry_read
  pointwise []
  blk_point [iblk, V, idx t]
theorem n_at (c : Dev nD) (t : Fin cfg0.N) (n : Fin 2048) : (iblk m c 7 t (ix2 0 n) : EReal) = N m c n := by
  unfold N
  blk_simp [iblk, idx t]
  entry_read
  pointwise []
  blk_point [iblk, V, idx t]

/-! ## The results -/

/-- The stream after the branches, of every token. -/
def hidAt (c : Dev nD) (r : Fin 16384) (n : Fin 2048) : EReal :=
  hid (O1 m c) (O2 m c) (G m c) (X m c) (W1 m c) (W2 m c) (W m c) r n

theorem stream_at (c : Dev nD) (t : Fin cfg0.N) (r : Fin 256) (n : Fin 2048) : (stream m c t (ix2 r n) : EReal) = hidAt m c (row t r) n := by
  unfold stream
  rw [streamOf_at]
  unfold hidAt hid merged
  simp only [o1_at, o2_at, g_at, x_at, w1_at, w2_at, w_at]

theorem normed_at (c : Dev nD) (t : Fin cfg0.N) (r : Fin 256) (n : Fin 2048) :
    (normed m c t (ix2 r n) : EReal) = rowNorm (N m c) (hidAt m c) (row t r) n := by
  unfold normed
  rw [normOf_at]
  have h : ∀ n, (streamOf (iblk m c 0 t) (iblk m c 1 t) (iblk m c 2 t) (iblk m c 3 t) (iblk m c 4 t) (iblk m c 5 t) (iblk m c 6 t) (ix2 r n) : EReal) =
      hidAt m c (row t r) n := stream_at m c t r
  unfold rowNorm
  simp only [h, n_at]

/-- The two results. -/
def out10 (c : Dev nD) : S16384x2048.Idx → EReal := fun j => hidAt m c (j 0) (j 1)
def out11 (c : Dev nD) : S262144x128.Idx → EReal := fun j =>
  rowNorm (N m c) (hidAt m c) ⟨(j 0).val / 16, by have : (j 0).val < 262144 := (j 0).isLt; omega⟩
    ⟨128 * ((j 0).val % 16) + (j 1).val, by have : (j 1).val < 128 := (j 1).isLt; omega⟩

theorem final10 (c : Dev nD) : (dats m 0 c).arrAt 10 cfg0.N = out10 m c := by
  refine (dats m 0 c).arrAt_eq_of_covers 10 _ (by decide +kernel) fun t hf y => ?_
  blk_simp
  rw [after10]
  idx_vars y
  refine Eq.trans (b := out10 m c (ix2 (row t y0) y1)) ?_ (congrArg (out10 m c) ?_)
  · exact stream_at m c t y0 y1
  · blk_ext [idx t]

theorem final11 (c : Dev nD) : (dats m 0 c).arrAt 11 cfg0.N = out11 m c := by
  refine (dats m 0 c).arrAt_eq_of_covers 11 _ (by decide +kernel) fun t hf y => ?_
  have ht := lt_N t
  blk_simp
  rw [after11]
  idx_vars y
  have h0 : y0.val < 4096 := y0.isLt
  have h1 : y1.val < 128 := y1.isLt
  refine Eq.trans (b := out11 m c (ix2 ⟨4096 * t.val + y0.val, by omega⟩ y1)) ?_ (congrArg (out11 m c) ?_)
  · refine (normed_at m c t _ _).trans ?_
    refine congrArg₂ (rowNorm (N m c) (hidAt m c)) (Fin.ext ?_) (Fin.ext ?_)
    · show 256 * t.val + y0.val / 16 = (4096 * t.val + y0.val) / 16
      omega
    · show 128 * (y0.val % 16) + y1.val = 128 * ((4096 * t.val + y0.val) % 16) + y1.val
      omega
  · blk_ext [idx t]

end Cert.Post

end
-- ==== Proof.PostRef.lean ====
/-
  The reference's stream and norm after attention are the same entries, and so kernel and reference agree on the two
  results.
-/
module

public import proofs.«01_k».proof.Defs
public import proofs.«01_k».proof.Proof.PostValue
public import proofs.«01_k».proof.Proof.Gen.Kernel4
public import proofs.«01_k».proof.Proof.Gen.Reference4Ideal.Run
public import Idealize.ShloMosaic.Lib.StableHlo.RunHlo

@[expose] public section

set_option maxRecDepth 16384

noncomputable section

namespace Cert.Post

open Idealize.ShloMosaic Idealize.ShloMosaic.TcCoe Idealize.SL.Sem

instance : Cert.Kernel4.Facts := Cert.Kernel4.Gen.facts

/-! ## The frames -/

set_option maxHeartbeats 4000000 in
/-- The two programs' body tables are the same text. -/
theorem defs_eq : Cert.Kernel4.defs (F := Bits) = Cert.Kernel4Ideal.defs (F := Bits) := by sl_kernel_rfl

set_option maxHeartbeats 4000000 in
/-- The two programs' main functions are the same text. -/
theorem main_eq : Cert.Kernel4.main (F := Bits) = Cert.Kernel4Ideal.main (F := Bits) := by sl_kernel_rfl

/-- The frame over bit patterns, from the one run. -/
theorem frame_bits : Cert.quiescent_Kernel4 := fun m ρ _ => by
  rw [defs_eq, main_eq]
  exact frame (F := Bits) m ρ

/-- The frame over exact numbers. -/
theorem frame_ideal : Cert.quiescent_Kernel4Ideal := fun m ρ _ => frame (F := Ideal) m ρ

/-- The reference runs, and leaves its arguments and its counters, of which it has none. -/
theorem frame_ref : Cert.quiescent_Reference4Ideal := fun m ρ _ =>
  (θ_run _ _ _).mono (fun r h => ⟨fun c => (h c).2.2, sem_eq_zero_of_no_sems (by decide) r.2⟩)
    (Cert.Reference4Ideal.Value.run m ρ)

/-! ## The reference's entries -/

section Entries

open Cert.Reference4Ideal Cert.Reference4Ideal.Gen

/-- The reference's stream after the branches. -/
def refHid (a0 : FVec Ideal S16384x1024 .bf16) (a1 : FVec Ideal S16384x1024 .bf16) (a2 : FVec Ideal S16384x4096 .bf16) (a3 : FVec Ideal S16384x2048 .f32) (a4 : FVec Ideal S1x1024x2048 .f32) (a5 : FVec Ideal S1x1024x2048 .f32) (a6 : FVec Ideal S1x2048x2048 .f32) : FVec Ideal S16384x2048 .f32 :=
  addf a3 (Host.dotGeneral dot_S16384x2048_S2048x2048_S16384x2048_1_0_0_1_n_n none (addf (mulf (extractStridedSlice S16384x2048 ![0, 0] (extf .f32 a2 bitsLt_bf16_f32) slices_S16384x4096_S16384x2048_0_0) (Host.dotGeneral dot_S16384x1024_S1024x2048_S16384x2048_1_0_0_1_n_n none (extf .f32 a0 bitsLt_bf16_f32) (shapeCast S1024x2048 a4 shapeCasts_S1x1024x2048_S1024x2048))) (mulf (extractStridedSlice S16384x2048 ![0, 2048] (extf .f32 a2 bitsLt_bf16_f32) slices_S16384x4096_S16384x2048_0_2048) (Host.dotGeneral dot_S16384x1024_S1024x2048_S16384x2048_1_0_0_1_n_n none (extf .f32 a1 bitsLt_bf16_f32) (shapeCast S1024x2048 a5 shapeCasts_S1x1024x2048_S1024x2048)))) (shapeCast S2048x2048 a6 shapeCasts_S1x2048x2048_S2048x2048))

/-- Its entries are the layer's. -/
theorem refHid_at (a0 : FVec Ideal S16384x1024 .bf16) (a1 : FVec Ideal S16384x1024 .bf16) (a2 : FVec Ideal S16384x4096 .bf16) (a3 : FVec Ideal S16384x2048 .f32) (a4 : FVec Ideal S1x1024x2048 .f32) (a5 : FVec Ideal S1x1024x2048 .f32) (a6 : FVec Ideal S1x2048x2048 .f32) (r : Fin 16384) (n : Fin 2048) :
    (refHid a0 a1 a2 a3 a4 a5 a6 (ix2 r n) : EReal) =
      hid (fun r k => a0 (ix2 r k)) (fun r k => a1 (ix2 r k)) (fun r k => a2 (ix2 r k)) (fun r k => a3 (ix2 r k))
        (fun e k => a4 (ix3 0 e k)) (fun e k => a5 (ix3 0 e k)) (fun k n => a6 (ix3 0 k n)) r n := by
  unfold refHid hid merged
  pointwise []

/-- The reference's norm of a stream, in chunks. -/
def refNorm (h : FVec Ideal S16384x2048 .f32) (a7 : FVec Ideal S1x2048 .f32) : FVec Ideal S262144x128 .f32 :=
  shapeCast S262144x128 (mulf (mulf h (broadcastInDim S16384x2048 ![0, 1] bcast_S16384x1_S16384x2048_0_1 (Host.rsqrt (addf (Host.divf (broadcastInDim S16384x1 ![0] bcast_S16384_S16384x1_0 (Host.reduceAdd (mulf h h) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast S2048 a7 shapeCasts_S1x2048_S2048)))) shapeCasts_S16384x2048_S262144x128

theorem refNorm_at (h : FVec Ideal S16384x2048 .f32) (a7 : FVec Ideal S1x2048 .f32) (q : Fin 262144) (l : Fin 128) :
    (refNorm h a7 (ix2 q l) : EReal) =
      rowNorm (fun n => a7 (ix2 0 n)) (fun (r : Fin 16384) n => h (ix2 r n)) ⟨q.val / 16, by omega⟩ ⟨128 * (q.val % 16) + l.val, by omega⟩ := by
  rw [show (⟨128 * (q.val % 16) + l.val, by omega⟩ : Fin 2048) = ⟨q.val % 16 * 128 + l.val, by omega⟩ from Fin.ext (by show _ + _ = _ + _; omega)]
  unfold refNorm rowNorm
  pointwise []

end Entries

/-! ## The values -/

section Values

variable (m : (ℓ : Loc Cert.Kernel4Ideal.nD Cert.Kernel4Ideal.τ Cert.Kernel4Ideal.sig) → Buf (Elt Ideal) ℓ) (c : Dev Cert.Kernel4Ideal.nD)
  {a0 : FVec Ideal Cert.Reference4Ideal.S16384x1024 .bf16}
  {a1 : FVec Ideal Cert.Reference4Ideal.S16384x1024 .bf16}
  {a2 : FVec Ideal Cert.Reference4Ideal.S16384x4096 .bf16}
  {a3 : FVec Ideal Cert.Reference4Ideal.S16384x2048 .f32}
  {a4 : FVec Ideal Cert.Reference4Ideal.S1x1024x2048 .f32}
  {a5 : FVec Ideal Cert.Reference4Ideal.S1x1024x2048 .f32}
  {a6 : FVec Ideal Cert.Reference4Ideal.S1x2048x2048 .f32}
  {a7 : FVec Ideal Cert.Reference4Ideal.S1x2048 .f32}
  (h0 : a0 = m ((c : Thread Cert.Kernel4Ideal.nD Cert.Kernel4Ideal.τ).loc Cert.Kernel4Ideal.main_arg0))
  (h1 : a1 = m ((c : Thread Cert.Kernel4Ideal.nD Cert.Kernel4Ideal.τ).loc Cert.Kernel4Ideal.main_arg1))
  (h2 : a2 = m ((c : Thread Cert.Kernel4Ideal.nD Cert.Kernel4Ideal.τ).loc Cert.Kernel4Ideal.main_arg2))
  (h3 : a3 = m ((c : Thread Cert.Kernel4Ideal.nD Cert.Kernel4Ideal.τ).loc Cert.Kernel4Ideal.main_arg3))
  (h4 : a4 = m ((c : Thread Cert.Kernel4Ideal.nD Cert.Kernel4Ideal.τ).loc Cert.Kernel4Ideal.main_arg4))
  (h5 : a5 = m ((c : Thread Cert.Kernel4Ideal.nD Cert.Kernel4Ideal.τ).loc Cert.Kernel4Ideal.main_arg5))
  (h6 : a6 = m ((c : Thread Cert.Kernel4Ideal.nD Cert.Kernel4Ideal.τ).loc Cert.Kernel4Ideal.main_arg6))
  (h7 : a7 = m ((c : Thread Cert.Kernel4Ideal.nD Cert.Kernel4Ideal.τ).loc Cert.Kernel4Ideal.main_arg7))
include h0 h1 h2 h3 h4 h5 h6

theorem ref10 : refHid a0 a1 a2 a3 a4 a5 a6 = out10 m c := by
  subst h0 h1 h2 h3 h4 h5 h6
  funext j
  refine (congrArg (refHid _ _ _ _ _ _ _) (eq_ix2 j)).trans ((refHid_at _ _ _ _ _ _ _ (j 0) (j 1)).trans ?_)
  rfl

include h7

theorem ref11 : refNorm (refHid a0 a1 a2 a3 a4 a5 a6) a7 = out11 m c := by
  rw [ref10 m c h0 h1 h2 h3 h4 h5 h6]
  subst h7
  funext j
  refine (congrArg (refNorm _ _) (eq_ix2 j)).trans ((refNorm_at _ _ (j 0) (j 1)).trans ?_)
  rfl

end Values

/-- From equal arguments, over exact numbers, kernel and reference leave the same two results. -/
theorem algebraic : Cert.algebraic_Kernel4Ideal_Reference4Ideal := by
  intro m g m' g' hpre hag
  refine ⟨fun c => out10 m c, fun c => out11 m c, ?_, ?_⟩
  · refine (θ_run _ _ _).mono (fun r h c => ?_) (θ_run_and (run m g) (frame m g))
    obtain ⟨⟨h1, _⟩, h2, _⟩ := h
    exact ⟨((h1 c).1 10).trans (final10 m c), ((h1 c).1 11).trans (final11 m c), h2 c⟩
  · refine (θ_run _ _ _).mono (fun r h c => ?_) (Cert.Reference4Ideal.Value.run m' g')
    obtain ⟨h0, h1, h2⟩ := h c
    obtain ⟨a0, a1, a2, a3, a4, a5, a6, a7, _⟩ := hag c
    exact ⟨h0.trans (ref10 m c a0 a1 a2 a3 a4 a5 a6), h1.trans (ref11 m c a0 a1 a2 a3 a4 a5 a6 a7), h2⟩

end Cert.Post

end
-- ==== Proof.DfMath.lean ====
module

public import proofs.«01_k».proof.Proof.StickMath

@[expose] public section

noncomputable section

/-!
# The arithmetic of softmax attention for one query, taken tile by tile

One query at position `t` meets real scores `Z s` and real values `W s`, and its attention is the mean of the values
over the keys up to `t`, each weighed by `exp (Z s)`. The kernel meets the keys of the query's own tile first and then
the tiles before it, and carries the greatest score so far, the sum of the weights and the weighted sums, both scaled
down by the exponential of that score.
-/

namespace Cert.Df

open Idealize.ShloMosaic Cert.Stick

/-- The sum over the keys met so far: those before `n`, and those from `p` on up to the query. -/
def part (f : ℕ → ℝ) (n p t : ℕ) : ℝ := ∑ j ∈ Finset.range n, f j + ∑ j ∈ Finset.Ico p (t + 1), f j

theorem part_tile (f : ℕ → ℝ) (n p t : ℕ) : part f n p t + ∑ x : Fin 256, f (n + x) = part f (n + 256) p t := by
  unfold part
  rw [Finset.sum_range_add, Finset.sum_range (fun x => f (n + x))]
  ring

theorem part_diag (f : ℕ → ℝ) (p : ℕ) (r : Fin 256) :
    ∑ x : Fin 256, (if x ≤ r then f (p + x) else 0) = part f 0 p (p + r) := by
  unfold part
  rw [Finset.range_zero, Finset.sum_empty, zero_add]
  have h := Finset.sum_range (n := 256) (fun x : ℕ => (if x ≤ (r : ℕ) then f (p + x) else (0 : ℝ)))
  simp only [Fin.le_def]
  rw [← h, ← Finset.sum_filter, Finset.sum_Ico_eq_sum_range]
  refine Finset.sum_congr ?_ fun _ _ => rfl
  ext a
  have := r.isLt
  simp only [Finset.mem_range, Finset.mem_filter]
  omega

theorem part_all (f : ℕ → ℝ) {p t : ℕ} (h : p ≤ t) : part f p p t = ∑ j ∈ Finset.range (t + 1), f j := by
  unfold part
  rw [Finset.range_eq_Ico, Finset.sum_Ico_consecutive f (Nat.zero_le p) (by omega), ← Finset.range_eq_Ico]

/-- The mean of the values over the keys up to the query. -/
def mean (Z W : ℕ → ℝ) (t : ℕ) : ℝ :=
  (∑ j ∈ Finset.range (t + 1), Real.exp (Z j) * W j) / ∑ j ∈ Finset.range (t + 1), Real.exp (Z j)

theorem den_pos (Z : ℕ → ℝ) (t : ℕ) : 0 < ∑ j ∈ Finset.range (t + 1), Real.exp (Z j) :=
  Finset.sum_pos (fun _ _ => Real.exp_pos _) ⟨0, Finset.mem_range.2 (by omega)⟩

/-- What the carried values hold of one query row when the keys before `n` and those from `p` on have been met. -/
def Held (Z : ℕ → ℝ) (W : Fin 256 → ℕ → ℝ) (n p t : ℕ) (m l : EReal) (a : Fin 256 → EReal) : Prop :=
  ∃ M : ℝ, m = M ∧ l = ((Real.exp (-M) * part (fun s => Real.exp (Z s)) n p t : ℝ) : EReal) ∧
    ∀ d, a d = ((Real.exp (-M) * part (fun s => Real.exp (Z s) * W d s) n p t : ℝ) : EReal)

section Fold

variable {ι : Type*} [Fintype ι] {z : ι → EReal}

theorem sup_ne_top (h : ∀ x, z x ≠ ⊤) : Finset.univ.sup z ≠ ⊤ := by
  refine ne_of_lt ((Finset.sup_lt_iff (by decide)).2 fun x _ => lt_top_iff_ne_top.2 (h x))

/-- The greatest of values that are real or −∞, one of them real, is real. -/
theorem sup_real (h : ∀ x, z x ≠ ⊤) (x : ι) {y : ℝ} (hx : z x = y) : ∃ M : ℝ, Finset.univ.sup z = M := by
  have hb : Finset.univ.sup z ≠ ⊥ := by
    intro hb
    have := Finset.le_sup (f := z) (Finset.mem_univ x)
    rw [hb, hx] at this
    exact EReal.coe_ne_bot _ (le_bot_iff.1 this)
  exact ⟨_, (EReal.coe_toReal (sup_ne_top h) hb).symm⟩

end Fold

section Row

variable {Z : ℕ → ℝ} {W : Fin 256 → ℕ → ℝ} {n p t : ℕ} {m l m' l' : EReal} {a a' z : Fin 256 → EReal}
  {w : Fin 256 → Fin 256 → EReal}

theorem Held.max (h : Held Z W n p t m l a) (hz : ∀ x, z x = (Z (n + x) : ℝ)) :
    ∃ M : ℝ, Max.max m (Finset.univ.sup z) = M := by
  obtain ⟨M, rfl, -⟩ := h
  obtain ⟨N, hN⟩ := sup_real (z := z) (fun x => by rw [hz]; exact EReal.coe_ne_top _) 0 (hz 0)
  exact ⟨_, by rw [hN, coe_max]⟩

/-- One tile before the query. -/
theorem Held.tile (h : Held Z W n p t m l a) (hz : ∀ x, z x = (Z (n + x) : ℝ))
    (hw : ∀ x d, w x d = (W d (n + x) : ℝ)) (hm : ∃ M : ℝ, m' = M)
    (hl : l' = Ideal.exp (m - m') * l + ∑ x, Ideal.exp (z x - m'))
    (ha : ∀ d, a' d = Ideal.exp (m - m') * a d + ∑ x, Ideal.exp (z x - m') * w x d) :
    Held Z W (n + 256) p t m' l' a' := by
  obtain ⟨M, rfl, rfl, h⟩ := h
  obtain ⟨N, rfl⟩ := hm
  have hx : ∀ x, Ideal.exp (z x - (N : EReal)) = ((Real.exp (-N) * Real.exp (Z (n + x)) : ℝ) : EReal) := fun x => by
    rw [hz, ← EReal.coe_sub, Ideal.exp_coe, ← Real.exp_add]; congr 2; ring
  have he : Real.exp (M - N) * Real.exp (-M) = Real.exp (-N) := by rw [← Real.exp_add]; congr 1; ring
  refine ⟨N, rfl, ?_, fun d => ?_⟩
  · rw [hl, ← EReal.coe_sub, Ideal.exp_coe, ← part_tile]
    simp only [hx]
    rw [← coe_sum, ← EReal.coe_mul, ← EReal.coe_add, ← mul_assoc, he, mul_add, Finset.mul_sum]
  · rw [ha, h, ← EReal.coe_sub, Ideal.exp_coe, ← part_tile]
    simp only [hx, hw, ← EReal.coe_mul]
    rw [← coe_sum, ← EReal.coe_add, ← mul_assoc, he, mul_add, Finset.mul_sum]
    simp only [mul_assoc]

/-- The query's own tile, met first: keys after the query are at −∞. -/
theorem held_diag (r : Fin 256) (hz : ∀ x, z x = if x ≤ r then ((Z (p + x) : ℝ) : EReal) else ⊥)
    (hw : ∀ x d, w x d = (W d (p + x) : ℝ)) (hm : m' = Max.max ⊥ (Finset.univ.sup z))
    (hl : l' = Ideal.exp (⊥ - m') * 0 + ∑ x, Ideal.exp (z x - m'))
    (ha : ∀ d, a' d = Ideal.exp (⊥ - m') * 0 + ∑ x, Ideal.exp (z x - m') * w x d) :
    Held Z W 0 p (p + r) m' l' a' := by
  obtain ⟨N, hN⟩ := sup_real (z := z) (fun x => by rw [hz]; split <;> simp) r (y := Z (p + r)) (by rw [hz, if_pos le_rfl])
  obtain rfl : m' = (N : EReal) := by rw [hm, hN, bot_sup_eq]
  have hx : ∀ x, Ideal.exp (z x - (N : EReal)) =
      ((Real.exp (-N) * (if x ≤ r then Real.exp (Z (p + x)) else 0) : ℝ) : EReal) := fun x => by
    rw [hz]
    split
    · rw [← EReal.coe_sub, Ideal.exp_coe, ← Real.exp_add]; congr 2; ring
    · rw [mul_zero, EReal.coe_zero, EReal.bot_sub]
      rfl
  refine ⟨N, rfl, ?_, fun d => ?_⟩
  · rw [hl, mul_zero, zero_add, ← part_diag]
    simp only [hx]
    rw [← coe_sum, Finset.mul_sum]
  · rw [ha, mul_zero, zero_add, ← part_diag]
    simp only [hx, hw, ← EReal.coe_mul]
    rw [← coe_sum, Finset.mul_sum]
    congr 1
    refine Finset.sum_congr rfl fun x _ => ?_
    split <;> ring

/-- When every key up to the query has been met, the quotient is the mean. -/
theorem Held.mean (h : Held Z W p p t m l a) (ht : p ≤ t) (d : Fin 256) :
    Ideal.div (a d) l = ((Df.mean Z (W d) t : ℝ) : EReal) := by
  obtain ⟨M, rfl, rfl, h⟩ := h
  have h1 := Real.exp_pos (-M)
  have h2 := den_pos Z t
  rw [h, part_all _ ht, part_all _ ht, Ideal.div_coe (mul_pos h1 h2).ne', ← EReal.coe_mul, Df.mean]
  congr 1
  field_simp

end Row

section Direct

variable {Z : ℕ → ℝ} {t : ℕ} {z : Fin 2048 → EReal}

/-- The share of key `s`. -/
def share (Z : ℕ → ℝ) (t s : ℕ) : ℝ :=
  if s ≤ t then Real.exp (Z s) / ∑ j ∈ Finset.range (t + 1), Real.exp (Z j) else 0

theorem sum_le (f : ℕ → ℝ) (ht : t < 2048) :
    ∑ s : Fin 2048, (if s.val ≤ t then f s else 0) = ∑ j ∈ Finset.range (t + 1), f j := by
  rw [← Finset.sum_range (fun s => if s ≤ t then f s else 0), ← Finset.sum_filter]
  refine Finset.sum_congr ?_ fun _ _ => rfl
  ext a
  simp only [Finset.mem_range, Finset.mem_filter]
  omega

/-- The softmax over all keys at once, those after the query at −∞. -/
theorem softmax_coe (ht : t < 2048) (hz : ∀ s, z s = if s.val ≤ t then ((Z s : ℝ) : EReal) else ⊥) (s : Fin 2048) :
    Ideal.div (Ideal.exp (z s - Finset.univ.sup z)) (∑ j, Ideal.exp (z j - Finset.univ.sup z)) = ((share Z t s : ℝ) : EReal) := by
  obtain ⟨N, hN⟩ := sup_real (z := z) (fun x => by rw [hz]; split <;> simp) ⟨t, ht⟩ (y := Z t) (by rw [hz, if_pos le_rfl])
  rw [hN]
  have hx : ∀ x, Ideal.exp (z x - (N : EReal)) =
      ((Real.exp (-N) * (if x.val ≤ t then Real.exp (Z x) else 0) : ℝ) : EReal) := fun x => by
    rw [hz]
    split
    · rw [← EReal.coe_sub, Ideal.exp_coe, ← Real.exp_add]; congr 2; ring
    · rw [mul_zero, EReal.coe_zero, EReal.bot_sub]
      rfl
  simp only [hx]
  have h1 := Real.exp_pos (-N)
  have h2 := den_pos Z t
  rw [← coe_sum, ← Finset.mul_sum, sum_le (fun s => Real.exp (Z s)) ht, Ideal.div_coe (mul_pos h1 h2).ne', ← EReal.coe_mul, share]
  congr 1
  split
  · field_simp
  · simp

theorem mean_eq (Z W : ℕ → ℝ) (ht : t < 2048) : mean Z W t = ∑ s : Fin 2048, share Z t s * W s := by
  unfold mean share
  rw [← sum_le (fun s => Real.exp (Z s) * W s) ht, Finset.sum_div]
  refine Finset.sum_congr rfl fun s _ => ?_
  split
  · ring
  · simp

end Direct

end Cert.Df
-- ==== Proof.DfTile.lean ====
module

public import proofs.«01_k».proof.Proof.Gen.Kernel5Ideal.Skeleton
public import proofs.«01_k».proof.Proof.DfMath
public import Idealize.ShloMosaic.Lib.WordCmp

@[expose] public section

set_option maxRecDepth 16384

noncomputable section

/-!
# What one tile of keys does to a query's carried values

The kernel holds, for each of the two maps of a head, a column of greatest scores, a column of weight sums and a block
of weighted values. The lemmas read one row of each after a tile of 256 keys, first for the query's own tile (keys
masked by position) and then for a tile that lies wholly before the query; the last reads the normed result.
-/

namespace Cert.Df

open Idealize.ShloMosaic

theorem neg_inf : Ideal.ofBits .f32 0xFF800000#32 = (⊥ : EReal) := by
  rw [Ideal.ofBits, Ideal.ieee, if_pos (by decide), if_pos (by decide), if_pos (by decide)]

theorem fold_max {ι : Type*} [Fintype ι] (f : ι → EReal) :
    Finset.fold max (Ideal.ofBits .f32 0xFF800000#32) f Finset.univ = Finset.univ.sup f := by rw [neg_inf]; rfl

/-- The score of the key at `s` for the query at `t`: their product, less the slope times their distance. -/
def scored (q : Fin 128 → ℝ) (k : ℕ → Fin 128 → ℝ) (sl : ℝ) (t s : ℕ) : ℝ :=
  ∑ e, q e * k s e - sl * ((t : ℝ) - (s : ℝ))

/-- A column of the first map's half, and of the second's. -/
def lo (e : Fin 128) : Fin 256 := ⟨e, by omega⟩
def hi (e : Fin 128) : Fin 256 := ⟨128 + e, by omega⟩

/-- The scores of the first map, and of the second. -/
def scoreLo (sl : ℝ) (q : Fin 256 → ℝ) (kf : ℕ → Fin 256 → ℝ) (t s : ℕ) : ℝ :=
  scored (fun e => q (lo e)) (fun s e => kf s (lo e)) sl t s
def scoreHi (sl : ℝ) (q : Fin 256 → ℝ) (kf : ℕ → Fin 256 → ℝ) (t s : ℕ) : ℝ :=
  scored (fun e => q (hi e)) (fun s e => kf s (hi e)) sl t s

/-- The two maps' difference, normed. -/
def normed (o g : Fin 256 → EReal) (d : Fin 256) : EReal :=
  o d * Ideal.rsqrt (Ideal.div (∑ x, o x * o x) (Ideal.ofBits .f32 0x43800000#32) + Ideal.ofBits .f32 0x358637BD#32) *
    g d * Ideal.ofBits .f32 0x3F4CCCCD#32

/-- The weight of the second map. -/
def mixing (l : Fin 4 → Fin 128 → EReal) : EReal :=
  Ideal.exp (∑ e, l 0 e * l 1 e) - Ideal.exp (∑ e, l 2 e * l 3 e) + Ideal.ofBits .f32 0x3E4CCCCD#32

/-- The difference of two small positions, as a word, is their difference. -/
theorem sub_word (a b : ℕ) (ha : a < 4096) (hb : b < 4096) :
    (IntOp.subi (BitVec.ofNat 32 a) (BitVec.ofNat 32 b)).toInt = (a : ℤ) - b := by
  show (BitVec.ofNat 32 a - BitVec.ofNat 32 b).toInt = _
  rw [BitVec.toInt_sub]
  simp only [BitVec.toInt_eq_toNat_bmod, BitVec.toNat_ofNat, Int.bmod_def]
  omega

theorem sitofp_sub (a b : ℕ) (ha : a < 4096) (hb : b < 4096) :
    (FloatOps.sitofp (F := Ideal) FTy.f32 (IntOp.subi (BitVec.ofNat 32 a) (BitVec.ofNat 32 b)) : EReal) =
      (((a : ℝ) - (b : ℝ) : ℝ) : EReal) := by
  show (((IntOp.subi (BitVec.ofNat 32 a) (BitVec.ofNat 32 b)).toInt : ℝ) : EReal) = _
  rw [sub_word a b ha hb]
  push_cast
  rfl

end Cert.Df

namespace Cert.Kernel5Ideal.Df

open Cert.Kernel5Ideal Cert.Kernel5Ideal.Gen Idealize.ShloMosaic Idealize.ShloMosaic.TcCoe Idealize.SL.Sem Cert.Stick Cert.Df

theorem mask_value : Named.named (F := Ideal) κ "mask" (φ := .f32) 0xF149F2CA#32 = ⊥ :=
  IdealRules.named_const.ideal_named_scalar _ _ _ _ rfl

theorem mask_at (r x : Fin 256) {α : Type} (a b : α) :
    Scalar.select (k0_pay30 (ix2 r x)) a b = if x ≤ r then a else b := by
  pointwise [k0_pay30]
  by_cases h : x ≤ r
  · rw [show IntOp.cmpi CmpIPredicate.sle (BitVec.ofNat 32 ↑x) (BitVec.ofNat 32 ↑r) = 1#1 by word_cmp, if_pos h]
    rfl
  · rw [show IntOp.cmpi CmpIPredicate.sle (BitVec.ofNat 32 ↑x) (BitVec.ofNat 32 ↑r) = 0#1 by word_cmp, if_neg h]
    rfl

theorem before_word (i k : Fin 8) : (Scalar.muli (Scalar.subi (BitVec.ofNat 32 i.val) (Scf.iv 0#32 1#32 k.val)) 256#32).toInt =
    256 * ((i.val : ℤ) - k.val) := by revert i k; decide

theorem same_word (i : Fin 8) : (Scalar.muli (Scalar.subi (BitVec.ofNat 32 i.val) (BitVec.ofNat 32 i.val)) 256#32).toInt = 0 := by
  revert i; decide

variable {q : Fin 128 → ℝ} {kf : ℕ → Fin 128 → ℝ} {sl : ℝ} {r : Fin 256} {Z : ℕ → ℝ} {W : Fin 256 → ℕ → ℝ} {p t n : ℕ}
  {qv : FVec Ideal S256x128 .bf16} {v9 : Ideal .f32} {kt : Vec Ideal S1x256x128 .f32} {vt : Vec Ideal S1x256x256 .f32}

section Scores

variable (hs : v9 = (sl : EReal)) (hq : ∀ e, qv (ix2 r e) = (q e : EReal))
include hs hq

theorem dot_at (hk : ∀ x e, kt (ix3 0 x e) = (kf (n + x) e : EReal)) (x : Fin 256) (b w : ℝ) (hb : b + w = (t : ℝ) - ((n + x : ℕ) : ℝ)) :
    ∑ e : Fin 128, qv (ix2 r e) * kt (ix3 0 x e) - (v9 * (b : EReal) + v9 * (w : EReal)) = (scored q kf sl t (n + x) : ℝ) := by
  simp only [hs, hq, hk, ← EReal.coe_mul]
  rw [← coe_sum, ← EReal.coe_add, ← EReal.coe_sub, scored, ← hb, mul_add]

theorem score_lo (i : grid0.Coords) (k : Fin (k0_t1_loop i).trips) (hk8 : k.val < 8)
    (hk : ∀ x e, kt (ix3 0 x e) = (kf (256 * k + x) e : EReal)) (x : Fin 256) :
    k0_pay4 (F := Ideal) i (BitVec.ofNat 32 (i 2).val) qv v9 (k0_pay27 v9) 0#32 1#32 k kt (ix2 r x) =
      (scored q kf sl (256 * (i 2).val + r) (256 * k + x) : ℝ) := by
  pointwise [k0_pay4, k0_pay3, k0_pay27]
  rw [sitofp_sub _ _ (by omega) (by omega), show (Scalar.muli (Scalar.subi (BitVec.ofNat 32 (i 2).val) (Scf.iv 0#32 1#32 k.val)) 256#32).toInt = _
    from before_word (i 2) ⟨k, hk8⟩]
  exact dot_at hs hq hk x _ _ (by push_cast; ring)

theorem score_hi (i : grid0.Coords) (k : Fin (k0_t1_loop i).trips) (hk8 : k.val < 8)
    (hk : ∀ x e, kt (ix3 0 x e) = (kf (256 * k + x) e : EReal)) (x : Fin 256) :
    k0_pay10 (F := Ideal) i (BitVec.ofNat 32 (i 2).val) qv v9 (k0_pay27 v9) 0#32 1#32 k kt (ix2 r x) =
      (scored q kf sl (256 * (i 2).val + r) (256 * k + x) : ℝ) := by
  pointwise [k0_pay10, k0_pay3, k0_pay27]
  rw [sitofp_sub _ _ (by omega) (by omega), show (Scalar.muli (Scalar.subi (BitVec.ofNat 32 (i 2).val) (Scf.iv 0#32 1#32 k.val)) 256#32).toInt = _
    from before_word (i 2) ⟨k, hk8⟩]
  exact dot_at hs hq hk x _ _ (by push_cast; ring)

theorem score_diag_lo (i : Fin 8) (hk : ∀ x e, kt (ix3 0 x e) = (kf (256 * i + x) e : EReal)) (x : Fin 256) :
    k0_pay37 (F := Ideal) (BitVec.ofNat 32 i.val) qv v9 (k0_pay27 v9) k0_pay30 (k0_pay33 kt) (ix2 r x) =
      if x ≤ r then ((scored q kf sl (256 * i + r) (256 * i + x) : ℝ) : EReal) else ⊥ := by
  pointwise [k0_pay37, k0_pay36, k0_pay27, k0_pay33]
  rw [mask_at, mask_value, sitofp_sub _ _ (by omega) (by omega), same_word]
  exact if_congr Iff.rfl (dot_at hs hq hk x _ _ (by push_cast; ring)) rfl

theorem score_diag_hi (i : Fin 8) (hk : ∀ x e, kt (ix3 0 x e) = (kf (256 * i + x) e : EReal)) (x : Fin 256) :
    k0_pay43 (F := Ideal) (BitVec.ofNat 32 i.val) qv v9 (k0_pay27 v9) k0_pay30 (k0_pay34 kt) (ix2 r x) =
      if x ≤ r then ((scored q kf sl (256 * i + r) (256 * i + x) : ℝ) : EReal) else ⊥ := by
  pointwise [k0_pay43, k0_pay36, k0_pay27, k0_pay34]
  rw [mask_at, mask_value, sitofp_sub _ _ (by omega) (by omega), same_word]
  exact if_congr Iff.rfl (dot_at hs hq hk x _ _ (by push_cast; ring)) rfl

end Scores

section Before

variable {i : grid0.Coords} {k : Fin (k0_t1_loop i).trips} {b : BitVec 32} {v15 a : FVec Ideal S256x256 .f32}
  {m l : FVec Ideal S256x1 .f32} (h : Held Z W n p t (m (ix2 r 0)) (l (ix2 r 0)) fun d => a (ix2 r d))
  (hv : ∀ x d, vt (ix3 0 x d) = (W d (n + x) : EReal))
include h hv

theorem held_lo (hz : ∀ x, k0_pay4 (F := Ideal) i b qv v9 v15 0#32 1#32 k kt (ix2 r x) = (Z (n + x) : ℝ)) :
    Held Z W (n + 256) p t (k0_pay5 (F := Ideal) i b qv v9 v15 0#32 1#32 k m kt (ix2 r 0))
      (k0_pay8 (F := Ideal) i b qv v9 v15 0#32 1#32 k m l kt (ix2 r 0))
      fun d => k0_pay9 (F := Ideal) i b qv v9 v15 0#32 1#32 k m a kt vt (ix2 r d) := by
  refine h.tile hz hv ?_ ?_ fun d => ?_
  · pointwise [k0_pay5]
    rw [fold_max]
    exact h.max hz
  · pointwise [k0_pay8, k0_pay6, k0_pay7]
  · pointwise [k0_pay9, k0_pay6, k0_pay7, k0_pay2]

theorem held_hi (hz : ∀ x, k0_pay10 (F := Ideal) i b qv v9 v15 0#32 1#32 k kt (ix2 r x) = (Z (n + x) : ℝ)) :
    Held Z W (n + 256) p t (k0_pay11 (F := Ideal) i b qv v9 v15 0#32 1#32 k m kt (ix2 r 0))
      (k0_pay53 (F := Ideal) l (k0_pay10 i b qv v9 v15 0#32 1#32 k kt) (k0_pay11 i b qv v9 v15 0#32 1#32 k m kt)
        (k0_pay12 i b qv v9 v15 0#32 1#32 k m kt) (ix2 r 0))
      fun d => k0_pay54 (F := Ideal) a (k0_pay2 vt) (k0_pay10 i b qv v9 v15 0#32 1#32 k kt)
        (k0_pay11 i b qv v9 v15 0#32 1#32 k m kt) (k0_pay12 i b qv v9 v15 0#32 1#32 k m kt) (ix2 r d) := by
  refine h.tile hz hv ?_ ?_ fun d => ?_
  · pointwise [k0_pay11]
    rw [fold_max]
    exact h.max hz
  · pointwise [k0_pay53, k0_pay51, k0_pay52, k0_pay12]
  · pointwise [k0_pay54, k0_pay51, k0_pay52, k0_pay12, k0_pay2]

end Before

section Diagonal

variable {b : BitVec 32} {v15 : FVec Ideal S256x256 .f32} (hv : ∀ x d, vt (ix3 0 x d) = (W d (p + x) : EReal))
include hv

theorem held_diag_lo (hz : ∀ x, k0_pay37 (F := Ideal) b qv v9 v15 k0_pay30 (k0_pay33 kt) (ix2 r x) =
      if x ≤ r then ((Z (p + x) : ℝ) : EReal) else ⊥) :
    Held Z W 0 p (p + r) (k0_pay38 (F := Ideal) b qv v9 v15 k0_pay30 k0_pay31 (k0_pay33 kt) (ix2 r 0))
      (k0_pay41 (F := Ideal) b qv v9 v15 k0_pay28 k0_pay30 k0_pay31 (k0_pay33 kt) (ix2 r 0))
      fun d => k0_pay42 (F := Ideal) b qv v9 v15 k0_pay29 k0_pay30 k0_pay31 (k0_pay33 kt) vt (ix2 r d) := by
  refine held_diag r hz hv ?_ ?_ fun d => ?_
  · pointwise [k0_pay38, k0_pay31, k0_pay28]
    rw [fold_max, mask_value]
  · pointwise [k0_pay41, k0_pay39, k0_pay40, k0_pay31, k0_pay28]
    rw [mask_value]
  · pointwise [k0_pay42, k0_pay39, k0_pay40, k0_pay31, k0_pay28, k0_pay29, k0_pay35]
    rw [mask_value]

theorem held_diag_hi (hz : ∀ x, k0_pay43 (F := Ideal) b qv v9 v15 k0_pay30 (k0_pay34 kt) (ix2 r x) =
      if x ≤ r then ((Z (p + x) : ℝ) : EReal) else ⊥) :
    Held Z W 0 p (p + r) (k0_pay44 (F := Ideal) b qv v9 v15 k0_pay30 k0_pay32 (k0_pay34 kt) (ix2 r 0))
      (k0_pay47 (F := Ideal) b qv v9 v15 k0_pay28 k0_pay30 k0_pay32 (k0_pay34 kt) (ix2 r 0))
      fun d => k0_pay50 (F := Ideal) (k0_pay35 vt) (k0_pay48 b qv v9 v15 k0_pay29 k0_pay30 k0_pay32 (k0_pay34 kt))
        (k0_pay49 b qv v9 v15 k0_pay30 k0_pay32 (k0_pay34 kt)) (constant S256x256 .f32 0#32) (ix2 r d) := by
  refine held_diag r hz hv ?_ ?_ fun d => ?_
  · pointwise [k0_pay44, k0_pay32, k0_pay28]
    rw [fold_max, mask_value]
  · pointwise [k0_pay47, k0_pay45, k0_pay46, k0_pay32, k0_pay28]
    rw [mask_value]
  · pointwise [k0_pay50, k0_pay48, k0_pay49, k0_pay45, k0_pay46, k0_pay32, k0_pay28, k0_pay29, k0_pay35]
    rw [mask_value]

end Diagonal

/-- The entry of the result: the difference of the two means, normed. -/
theorem result_at {g : Vec Ideal S1x256 .f32} {l1 l2 : FVec Ideal S256x1 .f32} {a1 a2 : FVec Ideal S256x256 .f32}
    {w : Fin 4 → Vec Ideal S1x128 .f32} {o : Fin 256 → EReal}
    (ho : ∀ d, Ideal.div (a1 (ix2 r d)) (l1 (ix2 r 0)) -
      mixing (fun j e => w j (ix2 0 e)) * Ideal.div (a2 (ix2 r d)) (l2 (ix2 r 0)) = o d) (d : Fin 256) :
    k0_pay1 (F := Ideal) (k0_pay59 g) (k0_pay60 l1 a1 l2 a2 (w 0) (w 1) (w 2) (w 3)) (k0_pay61 l1 a1 l2 a2 (w 0) (w 1) (w 2) (w 3))
      k0_pay62 (ix3 0 r d) = normed o (fun d => g (ix2 0 d)) d := by
  have h : ∀ d, k0_pay60 (F := Ideal) l1 a1 l2 a2 (w 0) (w 1) (w 2) (w 3) (ix2 r d) = o d := fun d => by
    rw [← ho]
    unfold mixing
    pointwise [k0_pay60]
  unfold normed
  pointwise [k0_pay1, k0_pay59, k0_pay61, k0_pay62]
  simp only [h]

end Cert.Kernel5Ideal.Df
-- ==== Proof.DfBody.lean ====
module

public import proofs.«01_k».proof.Proof.Gen.Kernel5Ideal.Value
public import proofs.«01_k».proof.Proof.DfTile
public import Idealize.ShloMosaic.Lib.Pipeline.ValueKit

@[expose] public section

set_option maxRecDepth 16384

noncomputable section

/-!
# What one step of the kernel leaves

A step takes 256 queries of one head against the keys before and among them. One row of its result is the normed
difference of two means.
-/

namespace Cert.Kernel5Ideal.Df

open Cert.Kernel5Ideal Cert.Kernel5Ideal.Gen Idealize.ShloMosaic Idealize.ShloMosaic.TcCoe Idealize.SL.Sem Cert.Df

/-- 128 columns from column `o` on of the 256 key rows from row `n` on. -/
def ktile (x : Vec Ideal S1x2048x256 .f32) (o n : ℕ) : Vec Ideal S1x256x128 .f32 :=
  fun j => if h : n + (j 1).val < 2048 ∧ o + (j 2).val < 256 then x (ix3 0 ⟨n + (j 1).val, h.1⟩ ⟨o + (j 2).val, h.2⟩) else 0

/-- The 256 value rows from row `n` on. -/
def vtile (x : Vec Ideal S1x2048x256 .f32) (n : ℕ) : Vec Ideal S1x256x256 .f32 :=
  fun j => if h : n + (j 1).val < 2048 then x (ix3 0 ⟨n + (j 1).val, h⟩ (j 2)) else 0

/-- 128 columns from column `o` on of the query rows. -/
def qhalf (x : Vec Ideal S1x256x256 .bf16) (o : ℕ) : Vec Ideal S1x256x128 .bf16 :=
  fun j => if h : o + (j 2).val < 256 then x (ix3 0 (j 1) ⟨o + (j 2).val, h⟩) else 0

theorem ld_ktile (x : Vec Ideal S1x2048x256 .f32) (o n a : ℕ) (ha : a = n)
    (h : ∀ b, (![0, a, o] : Fin 3 → ℕ) b + (![1, 256, 128] : Fin 3 → ℕ) b ≤ S1x2048x256.size b) :
    (View.ld x (Rect.unit (s := S1x2048x256) ![0, a, o] ![1, 256, 128] h) : Vec Ideal S1x256x128 .f32) = ktile x o n := by
  subst ha
  have h1 : a + 256 ≤ 2048 := h 1
  have h2 : o + 128 ≤ 256 := h 2
  funext j
  idx_vars j
  unfold ktile
  pointwise []
  rw [dif_pos (show a + j1.val < 2048 ∧ o + j2.val < 256 by omega)]

theorem ld_vtile (x : Vec Ideal S1x2048x256 .f32) (n a : ℕ) (ha : a = n)
    (h : ∀ b, (![0, a, 0] : Fin 3 → ℕ) b + (![1, 256, 256] : Fin 3 → ℕ) b ≤ S1x2048x256.size b) :
    (View.ld x (Rect.unit (s := S1x2048x256) ![0, a, 0] ![1, 256, 256] h) : Vec Ideal S1x256x256 .f32) = vtile x n := by
  subst ha
  have h1 : a + 256 ≤ 2048 := h 1
  funext j
  idx_vars j
  unfold vtile
  pointwise []
  rw [dif_pos (show a + j1.val < 2048 by omega)]

theorem ld_qhalf (x : Vec Ideal S1x256x256 .bf16) (o : ℕ)
    (h : ∀ b, (![0, 0, o] : Fin 3 → ℕ) b + (![1, 256, 128] : Fin 3 → ℕ) b ≤ S1x256x256.size b) :
    (View.ld x (Rect.unit (s := S1x256x256) ![0, 0, o] ![1, 256, 128] h) : Vec Ideal S1x256x128 .bf16) = qhalf x o := by
  have h2 : o + 128 ≤ 256 := h 2
  funext j
  idx_vars j
  unfold qhalf
  pointwise []
  rw [dif_pos (show o + j2.val < 256 by omega)]

theorem ld_row (x : Vec Ideal S4x128 .f32) (a : ℕ) (ha : a < 4)
    (h : ∀ b, (![a, 0] : Fin 2 → ℕ) b + (![1, 128] : Fin 2 → ℕ) b ≤ S4x128.size b) :
    (View.ld x (Rect.unit (s := S4x128) ![a, 0] ![1, 128] h) : Vec Ideal S1x128 .f32) = fun j => x (ix2 ⟨a, ha⟩ (j 1)) := by
  funext j
  idx_vars j
  pointwise []

theorem ld_slope (x : Vec Ideal S1x4 .f32) (a : ℕ) (y : Fin 4) (ha : a = y.val)
    (h : ∀ b, (![0, a] : Fin 2 → ℕ) b + (![1, 1] : Fin 2 → ℕ) b ≤ S1x4.size b)
    (hp : 0 < S1x1.numel) :
    (View.ld x (Rect.unit (s := S1x4) ![0, a] ![1, 1] h) (Shape.Idx.first hp) : Ideal .f32) = x (ix2 0 y) := by
  subst ha
  refine congrArg x (funext fun b => ?_)
  fin_cases b <;> rfl

theorem trips_eq (i : grid0.Coords) : (k0_t1_loop i).trips = (i 2).val := by
  have h : ∀ n : Fin 8, Scf.trips 0#32 (Scalar.addi 0#32 (Scalar.muli (Scalar.divsi (Scalar.subi (BitVec.ofNat 32 n.val) 0#32) 1#32) 1#32)) 1#32 = n.val := by decide
  exact h (i 2)

/-- The second loop runs no trip. -/
theorem trips2_eq (i : grid0.Coords) : (k0_t2_loop i).trips = 0 := by
  have h : ∀ n : Fin 8, Scf.trips (Scalar.addi 0#32 (Scalar.muli (Scalar.divsi (Scalar.subi (BitVec.ofNat 32 n.val) 0#32) 1#32) 1#32))
    (Scalar.addi 0#32 (Scalar.subi (BitVec.ofNat 32 n.val) 0#32)) 1#32 = 0 := by decide
  exact h (i 2)

theorem off_diag (i : grid0.Coords) :
    (Scalar.indexCast (Scalar.muli (BitVec.ofNat 32 (i 2).val) 256#32)).toNat = 256 * (i 2).val := by
  have h : ∀ n : Fin 8, (Scalar.indexCast (Scalar.muli (BitVec.ofNat 32 n.val) 256#32)).toNat = 256 * n.val := by decide
  exact h (i 2)

theorem off_trip (i : grid0.Coords) (k : Fin (k0_t1_loop i).trips) :
    (Scalar.indexCast (Scalar.muli (Scf.iv 0#32 1#32 k) 256#32)).toNat = 256 * k := by
  have h : ∀ k : Fin 8, (Scalar.indexCast (Scalar.muli (Scf.iv 0#32 1#32 k) 256#32)).toNat = 256 * k.val := by decide
  have hk : k.val < (i 2).val := lt_of_lt_of_eq k.isLt (trips_eq i)
  have h8 : (i 2).val < 8 := (i 2).isLt
  exact h ⟨k, by omega⟩

theorem off_head (i : grid0.Coords) : (Scalar.indexCast (BitVec.ofNat 32 (i 1).val)).toNat = (i 1).val := by
  have h : ∀ n : Fin 4, (Scalar.indexCast (BitVec.ofNat 32 n.val)).toNat = n.val := by decide
  exact h (i 1)

/-- What is carried from tile to tile: for either map the greatest score, the weights' sum and the weighted values. -/
abbrev Carry : Type := FVec Ideal S256x1 .f32 × FVec Ideal S256x1 .f32 × FVec Ideal S256x256 .f32 ×
  FVec Ideal S256x1 .f32 × FVec Ideal S256x1 .f32 × FVec Ideal S256x256 .f32

/-- The carried values after one more tile. -/
def step (i : grid0.Coords) (k : Fin (k0_t1_loop i).trips) (b : BitVec 32) (q0 q1 : FVec Ideal S256x128 .bf16) (v9 : Ideal .f32)
    (v15 : FVec Ideal S256x256 .f32) (k0 k1 : Vec Ideal S1x256x128 .f32) (v : Vec Ideal S1x256x256 .f32) (s : Carry) : Carry :=
  (k0_pay5 i b q0 v9 v15 0#32 1#32 k s.1 k0, k0_pay8 i b q0 v9 v15 0#32 1#32 k s.1 s.2.1 k0,
    k0_pay9 i b q0 v9 v15 0#32 1#32 k s.1 s.2.2.1 k0 v,
    k0_pay11 i b q1 v9 v15 0#32 1#32 k s.2.2.2.1 k1,
    k0_pay53 s.2.2.2.2.1 (k0_pay10 i b q1 v9 v15 0#32 1#32 k k1) (k0_pay11 i b q1 v9 v15 0#32 1#32 k s.2.2.2.1 k1)
      (k0_pay12 i b q1 v9 v15 0#32 1#32 k s.2.2.2.1 k1),
    k0_pay54 s.2.2.2.2.2 (k0_pay2 v) (k0_pay10 i b q1 v9 v15 0#32 1#32 k k1) (k0_pay11 i b q1 v9 v15 0#32 1#32 k s.2.2.2.1 k1)
      (k0_pay12 i b q1 v9 v15 0#32 1#32 k s.2.2.2.1 k1))

/-- The carried values after the queries' own tile. -/
def init (b : BitVec 32) (q0 q1 : FVec Ideal S256x128 .bf16) (v9 : Ideal .f32) (k0 k1 : Vec Ideal S1x256x128 .f32)
    (v : Vec Ideal S1x256x256 .f32) : Carry :=
  (k0_pay38 b q0 v9 (k0_pay27 v9) k0_pay30 k0_pay31 (k0_pay33 k0),
    k0_pay41 b q0 v9 (k0_pay27 v9) k0_pay28 k0_pay30 k0_pay31 (k0_pay33 k0),
    k0_pay42 b q0 v9 (k0_pay27 v9) k0_pay29 k0_pay30 k0_pay31 (k0_pay33 k0) v,
    k0_pay44 b q1 v9 (k0_pay27 v9) k0_pay30 k0_pay32 (k0_pay34 k1),
    k0_pay47 b q1 v9 (k0_pay27 v9) k0_pay28 k0_pay30 k0_pay32 (k0_pay34 k1),
    k0_pay50 (k0_pay35 v) (k0_pay48 b q1 v9 (k0_pay27 v9) k0_pay29 k0_pay30 k0_pay32 (k0_pay34 k1))
      (k0_pay49 b q1 v9 (k0_pay27 v9) k0_pay30 k0_pay32 (k0_pay34 k1)) (constant S256x256 .f32 0#32))

theorem trip_eq (𝒱 : Variants) (c : Dev nD) (bd : Option 𝒱.V) (i : grid0.Coords) (arg3 : Memref sig .tc .smem S1x4 .f32) (harg3 : arg3.IsWhole) (arg4 : Memref sig .tc .vmem S1x256x256 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S4x128 .f32) (harg7 : arg7.IsWhole) (arg8 : Memref sig .tc .vmem S1x256 .f32) (harg8 : arg8.IsWhole) (arg9 : Memref sig .tc .vmem S256x2048 .f32) (harg9 : arg9.IsWhole) (arg10 : Memref sig .tc .vmem S1x256x256 .bf16) (harg10 : arg10.IsWhole) (arg11 : Memref sig .tc .vmem S256x2048 .bf16) (harg11 : arg11.IsWhole) (b : BitVec 32) (q0 q1 : FVec Ideal S256x128 .bf16) (v9 : Ideal .f32)
    (v15 : FVec Ideal S256x256 .f32) (v36 : FVec Ideal S256x256 .bf16) (v49 v58 : FVec Ideal S256x1 .f32) (v63 : FVec Ideal S256x256 .f32)
    (v70 v79 : FVec Ideal S256x1 .f32) (v81 : FVec Ideal S256x256 .f32) (v82 : FVec Ideal S256x256 .bf16) (z : FVec Ideal S256x256 .f32)
    (x2 x3 : Vec Ideal S1x2048x256 .f32) (k : Fin (k0_t1_loop i).trips) (s : Carry) :
    tripR_k0_t1 (F := Ideal) 𝒱 c bd i arg3 harg3 arg4 harg4 arg5 harg5 arg6 harg6 arg7 harg7 arg8 harg8 arg9 harg9 arg10 harg10 arg11 harg11 b q0 q1 v9 v15 v36 v49 v58 v63 v70 v79 v81 v82 z (harg5.unread x2) (harg6.unread x3) k s =
      step i k b q0 q1 v9 v15 (ktile x2 0 (256 * k)) (ktile x2 128 (256 * k)) (vtile x3 (256 * k)) s := by
  obtain ⟨s1, s2, s3, s4, s5, s6⟩ := s
  unfold tripR_k0_t1 trip_k0_t1
  dsimp only
  sl_unfold_words
  simp only [View.readAt_eq_ld, harg5.read_unread, harg6.read_unread]
  have e1 := ld_ktile x2 0 (256 * k) _ (off_trip i k)
  have e2 := ld_ktile x2 128 (256 * k) _ (off_trip i k)
  have e3 := ld_vtile x3 (256 * k) _ (off_trip i k)
  have h : ∀ A B C, A = ktile x2 0 (256 * k) → B = ktile x2 128 (256 * k) → C = vtile x3 (256 * k) →
      step i k b q0 q1 v9 v15 A B C (s1, s2, s3, s4, s5, s6) =
        step i k b q0 q1 v9 v15 (ktile x2 0 (256 * k)) (ktile x2 128 (256 * k)) (vtile x3 (256 * k)) (s1, s2, s3, s4, s5, s6) := by
    rintro _ _ _ rfl rfl rfl; rfl
  exact h _ _ _ (e1 _) (e2 _) (e3 _)

/-- The carried values after the queries' own tile and `n` tiles more. -/
def carried (c : Dev nD) (i : grid0.Coords) (arg3 : Memref sig .tc .smem S1x4 .f32) (harg3 : arg3.IsWhole) (arg4 : Memref sig .tc .vmem S1x256x256 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S4x128 .f32) (harg7 : arg7.IsWhole) (arg8 : Memref sig .tc .vmem S1x256 .f32) (harg8 : arg8.IsWhole) (arg9 : Memref sig .tc .vmem S256x2048 .f32) (harg9 : arg9.IsWhole) (arg10 : Memref sig .tc .vmem S1x256x256 .bf16) (harg10 : arg10.IsWhole) (arg11 : Memref sig .tc .vmem S256x2048 .bf16) (harg11 : arg11.IsWhole) (q0 q1 : FVec Ideal S256x128 .bf16) (v9 : Ideal .f32)
    (k0 k1 : Vec Ideal S1x256x128 .f32) (v : Vec Ideal S1x256x256 .f32) (x2 x3 : Vec Ideal S1x2048x256 .f32) (n : ℕ) : Carry :=
  st_k0_t1 (F := Ideal) Variants.none c none i arg3 harg3 arg4 harg4 arg5 harg5 arg6 harg6 arg7 harg7 arg8 harg8 arg9 harg9 arg10 harg10 arg11 harg11 (BitVec.ofNat 32 (i 2).val) q0 q1 v9 (k0_pay27 v9) (k0_pay35 v)
    (init (BitVec.ofNat 32 (i 2).val) q0 q1 v9 k0 k1 v).1 (init (BitVec.ofNat 32 (i 2).val) q0 q1 v9 k0 k1 v).2.1
    (init (BitVec.ofNat 32 (i 2).val) q0 q1 v9 k0 k1 v).2.2.1 (init (BitVec.ofNat 32 (i 2).val) q0 q1 v9 k0 k1 v).2.2.2.1
    (init (BitVec.ofNat 32 (i 2).val) q0 q1 v9 k0 k1 v).2.2.2.2.1
    (k0_pay48 (BitVec.ofNat 32 (i 2).val) q1 v9 (k0_pay27 v9) k0_pay29 k0_pay30 k0_pay32 (k0_pay34 k1))
    (k0_pay49 (BitVec.ofNat 32 (i 2).val) q1 v9 (k0_pay27 v9) k0_pay30 k0_pay32 (k0_pay34 k1)) (constant S256x256 .f32 0#32)
    (harg5.unread x2) (harg6.unread x3) (init (BitVec.ofNat 32 (i 2).val) q0 q1 v9 k0 k1 v) n

/-- The block written from the carried values. -/
def finish (s : Carry) (w : Fin 4 → Vec Ideal S1x128 .f32) (g : Vec Ideal S1x256 .f32) : FVec Ideal S1x256x256 .bf16 :=
  k0_pay1 (k0_pay59 g) (k0_pay60 s.2.1 s.2.2.1 s.2.2.2.2.1 s.2.2.2.2.2 (w 0) (w 1) (w 2) (w 3))
    (k0_pay61 s.2.1 s.2.2.1 s.2.2.2.2.1 s.2.2.2.2.2 (w 0) (w 1) (w 2) (w 3)) k0_pay62

theorem out_eq (c : Dev nD) (i : grid0.Coords) (arg3 : Memref sig .tc .smem S1x4 .f32) (harg3 : arg3.IsWhole) (arg4 : Memref sig .tc .vmem S1x256x256 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S4x128 .f32) (harg7 : arg7.IsWhole) (arg8 : Memref sig .tc .vmem S1x256 .f32) (harg8 : arg8.IsWhole) (arg9 : Memref sig .tc .vmem S256x2048 .f32) (harg9 : arg9.IsWhole) (arg10 : Memref sig .tc .vmem S1x256x256 .bf16) (harg10 : arg10.IsWhole) (arg11 : Memref sig .tc .vmem S256x2048 .bf16) (harg11 : arg11.IsWhole) (x0 : Vec Ideal S1x4 .f32) (x1 : Vec Ideal S1x256x256 .bf16) (x2 x3 : Vec Ideal S1x2048x256 .f32) (x4 : Vec Ideal S4x128 .f32) (x5 : Vec Ideal S1x256 .f32) (x6 : Vec Ideal S256x2048 .f32) :
    out0_A_7 (F := Ideal) c i arg3 harg3 arg4 harg4 arg5 harg5 arg6 harg6 arg7 harg7 arg8 harg8 arg9 harg9 arg10 harg10 arg11 harg11 x0 x1 x2 x3 x4 x5 x6 =
      finish (carried c i arg3 harg3 arg4 harg4 arg5 harg5 arg6 harg6 arg7 harg7 arg8 harg8 arg9 harg9 arg10 harg10 arg11 harg11 (k0_pay25 (qhalf x1 0)) (k0_pay26 (qhalf x1 128)) (x0 (ix2 0 (i 1)))
        (ktile x2 0 (256 * (i 2).val)) (ktile x2 128 (256 * (i 2).val)) (vtile x3 (256 * (i 2).val)) x2 x3 (i 2).val)
        (fun a j => x4 (ix2 a (j 1))) x5 := by
  unfold out0_A_7
  rw [View.read_writes_eq_canon _ _ _ (cover0_A_7 c i arg3 harg3 arg4 harg4 arg5 harg5 arg6 harg6 arg7 harg7 arg8 harg8 arg9 harg9 arg10 harg10 arg11 harg11 x0 x1 x2 x3 x4 x5 x6)]
  unfold kernelRun0_A
  dsimp only
  rw [View.canon_unit_zero (funext fun a => by fin_cases a <;> rfl)]
  sl_unfold_words
  simp only [View.readAt_eq_ld, harg3.read_unread, harg4.read_unread, harg5.read_unread, harg6.read_unread, harg7.read_unread, harg8.read_unread]
  have hz : (![0, 0] : Fin 2 → ℕ) = fun _ => 0 := funext fun a => by fin_cases a <;> rfl
  have eg := View.ld_unit_zero (S := S1x256) hz inb_S1x256_S1x256_0_0 x5
  have eq0 := ld_qhalf x1 0 inb_S1x256x256_S1x256x128_0_0_0
  have eq1 := ld_qhalf x1 128 inb_S1x256x256_S1x256x128_0_0_128
  have ek0 := ld_ktile x2 0 _ _ (off_diag i)
  have ek1 := ld_ktile x2 128 _ _ (off_diag i)
  have ev := ld_vtile x3 _ _ (off_diag i)
  have es := ld_slope x0 _ (i 1) (off_head i)
  have ew0 := ld_row x4 0 (by decide) inb_S4x128_S1x128_0_0
  have ew1 := ld_row x4 1 (by decide) inb_S4x128_S1x128_1_0
  have ew2 := ld_row x4 2 (by decide) inb_S4x128_S1x128_2_0
  have ew3 := ld_row x4 3 (by decide) inb_S4x128_S1x128_3_0
  have et := trips2_eq i
  unfold k0_t2_loop Scf.Loop.trips at et
  dsimp only at et
  have et1 := trips_eq i
  unfold k0_t1_loop Scf.Loop.trips at et1
  dsimp only at et1
  rw [et, et1, st_k0_t2_zero]
  have h : ∀ G Q0 Q1 S K0 K1 V W0 W1 W2 W3, G = x5 → Q0 = qhalf x1 0 → Q1 = qhalf x1 128 → S = x0 (ix2 0 (i 1)) →
      K0 = ktile x2 0 (256 * (i 2).val) → K1 = ktile x2 128 (256 * (i 2).val) → V = vtile x3 (256 * (i 2).val) →
      W0 = (fun j => x4 (ix2 0 (j 1))) → W1 = (fun j => x4 (ix2 1 (j 1))) → W2 = (fun j => x4 (ix2 2 (j 1))) →
      W3 = (fun j => x4 (ix2 3 (j 1))) →
      finish (carried c i arg3 harg3 arg4 harg4 arg5 harg5 arg6 harg6 arg7 harg7 arg8 harg8 arg9 harg9 arg10 harg10 arg11 harg11 (k0_pay25 Q0) (k0_pay26 Q1) S K0 K1 V x2 x3 (i 2).val) ![W0, W1, W2, W3] G =
      finish (carried c i arg3 harg3 arg4 harg4 arg5 harg5 arg6 harg6 arg7 harg7 arg8 harg8 arg9 harg9 arg10 harg10 arg11 harg11 (k0_pay25 (qhalf x1 0)) (k0_pay26 (qhalf x1 128)) (x0 (ix2 0 (i 1)))
        (ktile x2 0 (256 * (i 2).val)) (ktile x2 128 (256 * (i 2).val)) (vtile x3 (256 * (i 2).val)) x2 x3 (i 2).val)
        (fun a j => x4 (ix2 a (j 1))) x5 := by
    rintro _ _ _ _ _ _ _ _ _ _ _ rfl rfl rfl rfl rfl rfl rfl rfl rfl rfl rfl; rfl
  have h' := h _ _ _ _ _ _ _ _ _ _ _ eg eq0 eq1 (es (k0_off1_inb i) (by decide)) (ek0 (k0_off2_inb i)) (ek1 (k0_off3_inb i)) (ev (k0_off4_inb i)) ew0 ew1 ew2 ew3
  refine Eq.trans ?_ h'
  rfl

section Rows

/-- The real numbers a step meets in query row `r`. -/
structure Known (y : Fin 4) (x0 : Vec Ideal S1x4 .f32) (x1 : Vec Ideal S1x256x256 .bf16) (x2 x3 : Vec Ideal S1x2048x256 .f32) (r : Fin 256)
    (sl : ℝ) (q : Fin 256 → ℝ) (kf : ℕ → Fin 256 → ℝ) (W : Fin 256 → ℕ → ℝ) : Prop where
  slope : x0 (ix2 0 y) = (sl : EReal)
  query : ∀ e, x1 (ix3 0 r e) = (q e : EReal)
  key : ∀ (s : Fin 2048) e, x2 (ix3 0 s e) = (kf s e : EReal)
  value : ∀ (s : Fin 2048) d, x3 (ix3 0 s d) = (W d s : EReal)

variable {x0 : Vec Ideal S1x4 .f32} {x1 : Vec Ideal S1x256x256 .bf16} {x2 x3 : Vec Ideal S1x2048x256 .f32} {r : Fin 256}
    {sl : ℝ} {q : Fin 256 → ℝ} {kf : ℕ → Fin 256 → ℝ} {W : Fin 256 → ℕ → ℝ} {y : Fin 4}

section Reads

variable (H : Known y x0 x1 x2 x3 r sl q kf W)
include H

theorem Known.q0 (e : Fin 128) : k0_pay25 (F := Ideal) (qhalf x1 0) (ix2 r e) = (q (lo e) : EReal) := by
  rw [← H.query]
  pointwise [k0_pay25]
  unfold qhalf
  refine (dif_pos (show 0 + e.val < 256 by omega)).trans ?_
  exact congrArg (fun z => x1 (ix3 0 r z)) (Fin.ext (Nat.zero_add _))

theorem Known.q1 (e : Fin 128) : k0_pay26 (F := Ideal) (qhalf x1 128) (ix2 r e) = (q (hi e) : EReal) := by
  rw [← H.query]
  pointwise [k0_pay26]
  unfold qhalf
  exact dif_pos (show 128 + e.val < 256 by omega)

theorem Known.k0 {n : ℕ} (hn : n + 256 ≤ 2048) (x : Fin 256) (e : Fin 128) : ktile x2 0 n (ix3 0 x e) = (kf (n + x) (lo e) : EReal) := by
  unfold ktile
  refine (dif_pos (show n + x.val < 2048 ∧ 0 + e.val < 256 by omega)).trans ((H.key _ _).trans ?_)
  exact congrArg (fun z => ((kf (n + x) z : ℝ) : EReal)) (Fin.ext (Nat.zero_add _))

theorem Known.k1 {n : ℕ} (hn : n + 256 ≤ 2048) (x : Fin 256) (e : Fin 128) : ktile x2 128 n (ix3 0 x e) = (kf (n + x) (hi e) : EReal) := by
  unfold ktile
  exact (dif_pos (show n + x.val < 2048 ∧ 128 + e.val < 256 by omega)).trans (H.key _ _)

theorem Known.v {n : ℕ} (hn : n + 256 ≤ 2048) (x d : Fin 256) : vtile x3 n (ix3 0 x d) = (W d (n + x) : EReal) := by
  unfold vtile
  exact (dif_pos (show n + x.val < 2048 by omega)).trans (H.value _ _)

end Reads

/-- Both maps' carried values are right in row `r`. -/
def Holds (sl : ℝ) (q : Fin 256 → ℝ) (kf : ℕ → Fin 256 → ℝ) (W : Fin 256 → ℕ → ℝ) (r : Fin 256) (n p : ℕ) (s : Carry) : Prop :=
  Held (scoreLo sl q kf (p + r)) W n p (p + r) (s.1 (ix2 r 0)) (s.2.1 (ix2 r 0)) (fun d => s.2.2.1 (ix2 r d)) ∧
    Held (scoreHi sl q kf (p + r)) W n p (p + r) (s.2.2.2.1 (ix2 r 0)) (s.2.2.2.2.1 (ix2 r 0)) fun d => s.2.2.2.2.2 (ix2 r d)

section Loop

variable (H : Known y x0 x1 x2 x3 r sl q kf W)
include H

theorem holds_init (i : Fin 8) :
    Holds sl q kf W r 0 (256 * i) (init (BitVec.ofNat 32 i.val) (k0_pay25 (qhalf x1 0)) (k0_pay26 (qhalf x1 128)) (x0 (ix2 0 y))
      (ktile x2 0 (256 * i)) (ktile x2 128 (256 * i)) (vtile x3 (256 * i))) := by
  have hn : 256 * i.val + 256 ≤ 2048 := by omega
  exact ⟨held_diag_lo (H.v hn) (score_diag_lo H.slope H.q0 i (H.k0 hn)), held_diag_hi (H.v hn) (score_diag_hi H.slope H.q1 i (H.k1 hn))⟩

theorem holds_step (i : grid0.Coords) (k : Fin (k0_t1_loop i).trips) (hk8 : k.val < 8) {s : Carry}
    (hs : Holds sl q kf W r (256 * k) (256 * (i 2).val) s) :
    Holds sl q kf W r (256 * (k + 1)) (256 * (i 2).val) (step i k (BitVec.ofNat 32 (i 2).val) (k0_pay25 (qhalf x1 0)) (k0_pay26 (qhalf x1 128))
      (x0 (ix2 0 y)) (k0_pay27 (x0 (ix2 0 y))) (ktile x2 0 (256 * k)) (ktile x2 128 (256 * k)) (vtile x3 (256 * k)) s) := by
  have hn : 256 * k.val + 256 ≤ 2048 := by omega
  rw [show 256 * (k.val + 1) = 256 * k.val + 256 by ring]
  exact ⟨held_lo hs.1 (H.v hn) (score_lo H.slope H.q0 i k hk8 (H.k0 hn)), held_hi hs.2 (H.v hn) (score_hi H.slope H.q1 i k hk8 (H.k1 hn))⟩

theorem holds_loop (c : Dev nD) (i : grid0.Coords) (arg3 : Memref sig .tc .smem S1x4 .f32) (harg3 : arg3.IsWhole) (arg4 : Memref sig .tc .vmem S1x256x256 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S4x128 .f32) (harg7 : arg7.IsWhole) (arg8 : Memref sig .tc .vmem S1x256 .f32) (harg8 : arg8.IsWhole) (arg9 : Memref sig .tc .vmem S256x2048 .f32) (harg9 : arg9.IsWhole) (arg10 : Memref sig .tc .vmem S1x256x256 .bf16) (harg10 : arg10.IsWhole) (arg11 : Memref sig .tc .vmem S256x2048 .bf16) (harg11 : arg11.IsWhole) (n : ℕ) (hn : n ≤ (i 2).val) :
    Holds sl q kf W r (256 * n) (256 * (i 2).val) (carried c i arg3 harg3 arg4 harg4 arg5 harg5 arg6 harg6 arg7 harg7 arg8 harg8 arg9 harg9 arg10 harg10 arg11 harg11 (k0_pay25 (qhalf x1 0)) (k0_pay26 (qhalf x1 128)) (x0 (ix2 0 y))
        (ktile x2 0 (256 * (i 2).val)) (ktile x2 128 (256 * (i 2).val)) (vtile x3 (256 * (i 2).val)) x2 x3 n) := by
  have h8 : (i 2).val < 8 := (i 2).isLt
  induction n with
  | zero => exact holds_init H (i 2)
  | succ n ih =>
    unfold carried
    rw [st_k0_t1_succ (F := Ideal) Variants.none c none i arg3 harg3 arg4 harg4 arg5 harg5 arg6 harg6 arg7 harg7 arg8 harg8 arg9 harg9 arg10 harg10 arg11 harg11 _ _ _ _ _ _ _ _ _ _ _ _ _ _ _ _ _ ⟨n, by rw [trips_eq]; omega⟩, trip_eq]
    exact holds_step H i ⟨n, by rw [trips_eq]; omega⟩ (by show n < 8; omega) (ih (by omega))

end Loop

/-- One entry of the block a step leaves. -/
theorem out_at (c : Dev nD) (i : grid0.Coords) (H : Known (i 1) x0 x1 x2 x3 r sl q kf W) (arg3 : Memref sig .tc .smem S1x4 .f32) (harg3 : arg3.IsWhole) (arg4 : Memref sig .tc .vmem S1x256x256 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S4x128 .f32) (harg7 : arg7.IsWhole) (arg8 : Memref sig .tc .vmem S1x256 .f32) (harg8 : arg8.IsWhole) (arg9 : Memref sig .tc .vmem S256x2048 .f32) (harg9 : arg9.IsWhole) (arg10 : Memref sig .tc .vmem S1x256x256 .bf16) (harg10 : arg10.IsWhole) (arg11 : Memref sig .tc .vmem S256x2048 .bf16) (harg11 : arg11.IsWhole) (x4 : Vec Ideal S4x128 .f32) (x5 : Vec Ideal S1x256 .f32) (x6 : Vec Ideal S256x2048 .f32) (d : Fin 256) :
    out0_A_7 (F := Ideal) c i arg3 harg3 arg4 harg4 arg5 harg5 arg6 harg6 arg7 harg7 arg8 harg8 arg9 harg9 arg10 harg10 arg11 harg11 x0 x1 x2 x3 x4 x5 x6 (ix3 0 r d) =
      normed (fun d => ((mean (scoreLo sl q kf (256 * (i 2).val + r)) (W d) (256 * (i 2).val + r) : ℝ) : EReal) -
          mixing (fun a e => x4 (ix2 a e)) * ((mean (scoreHi sl q kf (256 * (i 2).val + r)) (W d) (256 * (i 2).val + r) : ℝ) : EReal))
        (fun d => x5 (ix2 0 d)) d := by
  rw [out_eq]
  have h := holds_loop H c i arg3 harg3 arg4 harg4 arg5 harg5 arg6 harg6 arg7 harg7 arg8 harg8 arg9 harg9 arg10 harg10 arg11 harg11 (i 2).val le_rfl
  refine result_at (w := fun a j => x4 (ix2 a (j 1))) (fun d => ?_) d
  rw [h.1.mean (by omega), h.2.mean (by omega)]
  rfl

end Rows

theorem out8_eq (c : Dev nD) (i : grid0.Coords) (arg3 : Memref sig .tc .smem S1x4 .f32) (harg3 : arg3.IsWhole) (arg4 : Memref sig .tc .vmem S1x256x256 .bf16) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S4x128 .f32) (harg7 : arg7.IsWhole) (arg8 : Memref sig .tc .vmem S1x256 .f32) (harg8 : arg8.IsWhole) (arg9 : Memref sig .tc .vmem S256x2048 .f32) (harg9 : arg9.IsWhole) (arg10 : Memref sig .tc .vmem S1x256x256 .bf16) (harg10 : arg10.IsWhole) (arg11 : Memref sig .tc .vmem S256x2048 .bf16) (harg11 : arg11.IsWhole) (x0 : Vec Ideal S1x4 .f32) (x1 : Vec Ideal S1x256x256 .bf16) (x2 x3 : Vec Ideal S1x2048x256 .f32) (x4 : Vec Ideal S4x128 .f32) (x5 : Vec Ideal S1x256 .f32) (x6 : Vec Ideal S256x2048 .f32) :
    out0_A_8 (F := Ideal) c i arg3 harg3 arg4 harg4 arg5 harg5 arg6 harg6 arg7 harg7 arg8 harg8 arg9 harg9 arg10 harg10 arg11 harg11 x0 x1 x2 x3 x4 x5 x6 = k0_pay24 x6 := by
  unfold out0_A_8
  rw [View.read_writes_eq_canon _ _ _ (cover0_A_8 c i arg3 harg3 arg4 harg4 arg5 harg5 arg6 harg6 arg7 harg7 arg8 harg8 arg9 harg9 arg10 harg10 arg11 harg11 x0 x1 x2 x3 x4 x5 x6)]
  unfold kernelRun0_A
  dsimp only
  have hz : (![0, 0] : Fin 2 → ℕ) = fun _ => 0 := funext fun a => by fin_cases a <;> rfl
  sl_unfold_words
  rw [View.canon_unit_zero hz]
  simp only [View.readAt_eq_ld, harg9.read_unread]
  exact congrArg k0_pay24 (View.ld_unit_zero (S := S256x2048) hz _ _)

end Cert.Kernel5Ideal.Df
-- ==== Proof.DfFinal.lean ====
module

public import proofs.«01_k».proof.Proof.DfBody

@[expose] public section

set_option maxRecDepth 16384

noncomputable section

/-!
# What the differential attention's kernel leaves

The layer's attention is stated on its arguments, and every entry of the kernel's first result is one of its entries.
-/

namespace Cert.Df

open Idealize.ShloMosaic

/-- The slope of head `h`, `2 ^ (-8 (h + 1) / 4)`, as both programs write it. -/
def headSlope (h : Fin 4) : EReal :=
  Ideal.exp (Ideal.ofBits .f32 0x3F317218#32 * Ideal.div (Ideal.ofBits .f32 0xC1000000#32 *
    (Ideal.ofBits .f32 0x3F800000#32 + FloatOps.sitofp (F := Ideal) .f32 (BitVec.ofNat 32 h.val))) (Ideal.ofBits .f32 0x40800000#32))

theorem four_real : Ideal.ofBits .f32 0x40800000#32 = ((4 : ℝ) : EReal) := by
  simp [Ideal.ofBits, Ideal.ieee, -EReal.coe_mul]; norm_num

theorem slope_real (h : Fin 4) : headSlope h = ((headSlope h).toReal : EReal) := by
  have h1 : ∃ c : ℝ, Ideal.ofBits .f32 0x3F317218#32 = (c : EReal) := by
    rw [Ideal.ofBits, Ideal.ieee, if_neg (by decide), if_neg (by decide)]; exact ⟨_, rfl⟩
  have h2 : ∃ c : ℝ, Ideal.ofBits .f32 0xC1000000#32 = (c : EReal) := by
    rw [Ideal.ofBits, Ideal.ieee, if_neg (by decide), if_neg (by decide)]; exact ⟨_, rfl⟩
  have h3 : ∃ c : ℝ, Ideal.ofBits .f32 0x3F800000#32 = (c : EReal) := by
    rw [Ideal.ofBits, Ideal.ieee, if_neg (by decide), if_neg (by decide)]; exact ⟨_, rfl⟩
  have h4 : ∃ c : ℝ, (FloatOps.sitofp (F := Ideal) .f32 (BitVec.ofNat 32 h.val) : EReal) = (c : EReal) := ⟨_, rfl⟩
  obtain ⟨c1, h1⟩ := h1
  obtain ⟨c2, h2⟩ := h2
  obtain ⟨c3, h3⟩ := h3
  obtain ⟨c4, h4⟩ := h4
  unfold headSlope
  rw [h1, h2, h3, h4, four_real, ← EReal.coe_add, ← EReal.coe_mul, Ideal.div_coe (by norm_num), ← EReal.coe_mul, ← EReal.coe_mul,
    Ideal.exp_coe, EReal.toReal_coe]

section Layer

variable (Q : Fin 8 → Fin 2048 → Fin 4 → Fin 2 → Fin 128 → EReal) (KV : Fin 8 → Fin 2048 → Fin 2 → Fin 4 → Fin 256 → EReal)
  (L : Fin 4 → Fin 128 → EReal) (G : Fin 256 → EReal)

/-- A query's columns, both maps', scaled. -/
def query (b : Fin 8) (h : Fin 4) (t : Fin 2048) (e : Fin 256) : ℝ :=
  (Q b t h ⟨e.val / 128, by omega⟩ ⟨e.val % 128, by omega⟩ * Ideal.ofBits .f32 0x3DB504F3#32).toReal

/-- The keys by position (0 past the last). -/
def key (b : Fin 8) (h : Fin 4) (s : ℕ) (e : Fin 256) : ℝ := if hs : s < 2048 then (KV b ⟨s, hs⟩ 0 h e).toReal else 0

/-- The values by position (0 past the last). -/
def val (b : Fin 8) (h : Fin 4) (d : Fin 256) (s : ℕ) : ℝ := if hs : s < 2048 then (KV b ⟨s, hs⟩ 1 h d).toReal else 0

/-- The first map's mean of the values, and the second's. -/
def meanLo (b : Fin 8) (h : Fin 4) (t : Fin 2048) (d : Fin 256) : ℝ :=
  mean (scoreLo (headSlope h).toReal (query Q b h t) (key KV b h) t) (val KV b h d) t
def meanHi (b : Fin 8) (h : Fin 4) (t : Fin 2048) (d : Fin 256) : ℝ :=
  mean (scoreHi (headSlope h).toReal (query Q b h t) (key KV b h) t) (val KV b h d) t

/-- One entry of the layer's differential attention. -/
def attend (b : Fin 8) (h : Fin 4) (t : Fin 2048) (d : Fin 256) : EReal :=
  normed (fun d => ((meanLo Q KV b h t d : ℝ) : EReal) - mixing L * ((meanHi Q KV b h t d : ℝ) : EReal)) G d

/-- Queries, keys, values and mixing weights are finite. -/
structure Finite : Prop where
  q : ∀ b t h j e, ∃ x : ℝ, Q b t h j e = (x : EReal)
  kv : ∀ b s w h e, ∃ x : ℝ, KV b s w h e = (x : EReal)
  l : ∀ j e, ∃ x : ℝ, L j e = (x : EReal)

variable {Q KV L}

theorem Finite.query (hf : Finite Q KV L) (b : Fin 8) (h : Fin 4) (t : Fin 2048) (e : Fin 256) :
    Q b t h ⟨e.val / 128, by omega⟩ ⟨e.val % 128, by omega⟩ * Ideal.ofBits .f32 0x3DB504F3#32 = (Df.query Q b h t e : EReal) := by
  obtain ⟨c, hc⟩ := Stick.scale_real
  obtain ⟨x, hx⟩ := hf.q b t h ⟨e.val / 128, by omega⟩ ⟨e.val % 128, by omega⟩
  unfold Df.query
  rw [hx, hc, ← EReal.coe_mul, EReal.toReal_coe]

theorem Finite.key (hf : Finite Q KV L) (b : Fin 8) (h : Fin 4) (s : Fin 2048) (e : Fin 256) :
    KV b s 0 h e = (Df.key KV b h s e : EReal) := by
  obtain ⟨x, hx⟩ := hf.kv b s 0 h e
  unfold Df.key
  rw [dif_pos s.isLt]
  show _ = ((KV b s 0 h e).toReal : EReal)
  rw [hx, EReal.toReal_coe]

theorem Finite.val (hf : Finite Q KV L) (b : Fin 8) (h : Fin 4) (s : Fin 2048) (d : Fin 256) :
    KV b s 1 h d = (Df.val KV b h d s : EReal) := by
  obtain ⟨x, hx⟩ := hf.kv b s 1 h d
  unfold Df.val
  rw [dif_pos s.isLt]
  show _ = ((KV b s 1 h d).toReal : EReal)
  rw [hx, EReal.toReal_coe]

end Layer

end Cert.Df

namespace Cert.Kernel5Ideal.Df

open Cert.Kernel5Ideal Cert.Kernel5Ideal.Gen Idealize.ShloMosaic Idealize.ShloMosaic.TcCoe Idealize.SL.Sem Cert.Df
open Idealize.ShloMosaic.Pipeline (Dat)

variable (m : (ℓ : Loc nD τ sig) → Buf (Elt Ideal) ℓ)

/-- The arguments a run is launched on: queries, keys and values, mixing weights, the norm's weights. -/
def Q (c : Dev nD) (b : Fin 8) (t : Fin 2048) (h : Fin 4) (j : Fin 2) (e : Fin 128) : EReal :=
  m ((c : Thread nD τ).loc main_arg0) (ix5 b t h j e)
def KV (c : Dev nD) (b : Fin 8) (s : Fin 2048) (w : Fin 2) (h : Fin 4) (e : Fin 256) : EReal :=
  m ((c : Thread nD τ).loc main_arg1) (ix5 b s w h e)
def L (c : Dev nD) (j : Fin 4) (e : Fin 128) : EReal := m ((c : Thread nD τ).loc main_arg2) (ix3 0 j e)
def G (c : Dev nD) (d : Fin 256) : EReal := m ((c : Thread nD τ).loc main_arg3) (ix2 0 d)

theorem idx : ∀ t : Fin cfg0.N,
    win0_0.index t = ![0, 0] ∧
    win0_1.index t = ![(grid0.coords t 0).val, (grid0.coords t 2).val, (grid0.coords t 1).val] ∧
    win0_2.index t = ![(grid0.coords t 0).val, 0, (grid0.coords t 1).val] ∧
    win0_3.index t = ![(grid0.coords t 0).val, 0, 4 + (grid0.coords t 1).val] ∧
    win0_4.index t = ![0, 0] ∧
    win0_5.index t = ![0, 0] ∧
    win0_6.index t = ![t.val, 0] ∧
    win0_7.index t = ![(grid0.coords t 0).val, (grid0.coords t 2).val, (grid0.coords t 1).val] ∧
    win0_8.index t = ![t.val, 0] :=
  (by decide +kernel : ∀ t : Fin grid0.N, _)

section Blocks

variable (c : Dev nD) (t : Fin cfg0.N)

theorem slopes_at (y : Fin 4) : (V m c main_v10 (ix2 0 y) : EReal) = headSlope y := by
  unfold headSlope
  entry_read
  pointwise []

theorem slope_at (y : Fin 4) : (iblk m c 0 t (ix2 0 y) : EReal) = headSlope y := by
  refine Eq.trans ?_ (slopes_at m c y)
  blk_point [iblk, idx t]

theorem mixing_at (j : Fin 4) (e : Fin 128) : (iblk m c 4 t (ix2 j e) : EReal) = L m c j e := by
  unfold L
  blk_point [iblk, V, idx t]

theorem norm_at (d : Fin 256) : (iblk m c 5 t (ix2 0 d) : EReal) = G m c d := by
  unfold G
  blk_point [iblk, V, idx t]

variable {b : Fin 8} {h : Fin 4} {i : Fin 8}
  (hb : (grid0.coords t 0).val = b.val) (hh : (grid0.coords t 1).val = h.val) (hi : (grid0.coords t 2).val = i.val)
include hb hh hi

theorem q_at (r y : Fin 256) :
    (iblk m c 1 t (ix3 0 r y) : EReal) = Q m c b ⟨256 * i + r, by omega⟩ h ⟨y.val / 128, by omega⟩ ⟨y.val % 128, by omega⟩ *
      Ideal.ofBits .f32 0x3DB504F3#32 := by
  unfold Q
  blk_simp [iblk, idx t]
  entry_read
  pointwise []
  refine Ideal.mul_congr ?_ rfl
  blk_point [iblk, V, idx t]

theorem k_at (s : Fin 2048) (y : Fin 256) : (iblk m c 2 t (ix3 0 s y) : EReal) = KV m c b s 0 h y := by
  unfold KV
  blk_point [iblk, V, idx t]

theorem v_at (s : Fin 2048) (y : Fin 256) : (iblk m c 3 t (ix3 0 s y) : EReal) = KV m c b s 1 h y := by
  unfold KV
  blk_point [iblk, V, idx t]

end Blocks

/-- The attention, laid out as the kernel's result: head and column share the last axis. -/
def attended (c : Dev nD) : S8x2048x1024.Idx → EReal := fun j =>
  attend (Q m c) (KV m c) (L m c) (G m c) (j 0) ⟨(j 2).val / 256, by have : (j 2).val < 1024 := (j 2).isLt; omega⟩ (j 1)
    ⟨(j 2).val % 256, Nat.mod_lt _ (by omega)⟩

theorem point (hf : ∀ c, Finite (Q m c) (KV m c) (L m c)) (c : Dev nD) (t : Fin cfg0.N) {b : Fin 8} {h : Fin 4} {i : Fin 8}
    (hb : (grid0.coords t 0).val = b.val) (hh : (grid0.coords t 1).val = h.val) (hi : (grid0.coords t 2).val = i.val)
    (r y : Fin 256) :
    (outsAt0 m c t).1 (ix3 0 r y) = attend (Q m c) (KV m c) (L m c) (G m c) b h ⟨256 * i + r, by omega⟩ y := by
  simp only [outsAt0]
  have H : Known (grid0.coords t 1) (iblk m c 0 t) (iblk m c 1 t) (iblk m c 2 t) (iblk m c 3 t) r (headSlope h).toReal
      (query (Q m c) b h ⟨256 * i + r, by omega⟩) (key (KV m c) b h) (val (KV m c) b h) :=
    { slope := by
        rw [← slope_real]
        refine (slope_at m c t (grid0.coords t 1)).trans (congrArg headSlope (Fin.ext hh))
      query := fun e => (q_at m c t hb hh hi r e).trans ((hf c).query b h ⟨256 * i + r, by omega⟩ e)
      key := fun s e => (k_at m c t hb hh hi s e).trans ((hf c).key b h s e)
      value := fun s d => (v_at m c t hb hh hi s d).trans ((hf c).val b h s d) }
  have hl : (fun a e => iblk m c 4 t (ix2 a e)) = L m c := by
    funext j e
    exact mixing_at m c t j e
  have hg : (fun d => iblk m c 5 t (ix2 0 d)) = G m c := by
    funext d
    exact norm_at m c t d
  refine (out_at c _ H _ _ _ _ _ _ _ _ _ _ _ _ _ _ _ _ _ _ _ _ _ y).trans ?_
  rw [hl, hg, hi]
  rfl

theorem final7 (hf : ∀ c, Finite (Q m c) (KV m c) (L m c)) (c : Dev nD) : (dats m 0 c).arrAt 7 cfg0.N = attended m c := by
  refine (dats m 0 c).arrAt_eq_of_covers 7 _ (by decide +kernel) fun t _ y => ?_
  blk_simp
  rw [after0_7]
  idx_vars y
  obtain rfl : y0 = 0 := Subsingleton.elim _ _
  have h0 : (grid0.coords t 0).val < 8 := (grid0.coords t 0).isLt
  have h1 : (grid0.coords t 1).val < 4 := (grid0.coords t 1).isLt
  have h2 : (grid0.coords t 2).val < 8 := (grid0.coords t 2).isLt
  have hd : attended m c (ix3 ⟨_, h0⟩ ⟨256 * (grid0.coords t 2).val + y1.val, by omega⟩ ⟨256 * (grid0.coords t 1).val + y2.val, by omega⟩) =
      attend (Q m c) (KV m c) (L m c) (G m c) ⟨_, h0⟩ ⟨_, h1⟩ ⟨256 * (grid0.coords t 2).val + y1.val, by omega⟩ y2 :=
    congrArg₂ (fun h d => attend (Q m c) (KV m c) (L m c) (G m c) ⟨_, h0⟩ h ⟨256 * (grid0.coords t 2).val + y1.val, by omega⟩ d)
      (Fin.ext (by show (256 * (grid0.coords t 1).val + y2.val) / 256 = (grid0.coords t 1).val; omega))
      (Fin.ext (by show (256 * (grid0.coords t 1).val + y2.val) % 256 = y2.val; omega))
  refine (point m hf c t (b := ⟨_, h0⟩) (h := ⟨_, h1⟩) (i := ⟨_, h2⟩) rfl rfl rfl y1 y2).trans (hd.symm.trans (congrArg (attended m c) ?_))
  blk_ext [idx t]

theorem final8 (c : Dev nD) : (dats m 0 c).arrAt 8 cfg0.N = fun j : S65536x2048.Idx => (V m c main_v20 j : EReal) := by
  refine (dats m 0 c).arrAt_eq_of_covers 8 _ (by decide +kernel) fun t _ y => ?_
  blk_simp
  rw [after0_8]
  simp only [outsAt0]
  rw [out8_eq]
  idx_vars y
  pointwise [k0_pay24]
  blk_point [iblk, idx t]

end Cert.Kernel5Ideal.Df
-- ==== Proof.DfRef.lean ====
module

public import proofs.«01_k».proof.Defs
public import proofs.«01_k».proof.Proof.DfFinal
public import proofs.«01_k».proof.Proof.Attention
public import proofs.«01_k».proof.Proof.Gen.Kernel5
public import proofs.«01_k».proof.Proof.Gen.Reference5Ideal.Run
public import Idealize.ShloMosaic.Lib.StableHlo.RunHlo

@[expose] public section

set_option maxRecDepth 16384

noncomputable section

/-!
# The differential attention: the kernel's results are the reference's

The reference is read in five stages: the masked scores, their softmax, the second map's weight, the weighted values
and the norm.
-/

namespace Cert.DfEq

open Idealize.ShloMosaic Idealize.ShloMosaic.TcCoe Idealize.SL.Sem Cert.Df

instance : Cert.Pre_finite5.Facts := by constructor <;> decide

section Stages

open Cert.Reference5Ideal Cert.Reference5Ideal.Gen

/-- The masked scores of both maps. -/
def refScore (a0 : FVec Ideal S8x2048x4x2x128 .f32) (a1 : FVec Ideal S8x2048x2x4x256 .f32) : FVec Ideal S8x4x2x2048x2048 .f32 :=
  (select (broadcastInDim S8x4x2x2048x2048 ![3, 4] bcast_S2048x2048_S8x4x2x2048x2048_3_4 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (subf (mulf (Host.dotGeneral dot_S8x2048x4x2x128_S8x2048x4x2x128_S8x4x2x2048x2048_4_4_1_1_023_023 none a0 (shapeCast _ (shapeCast _ (extractStridedSlice S8x2048x1x4x256 ![0, 0, 0, 0, 0] a1 slices_S8x2048x2x4x256_S8x2048x1x4x256_0_0_0_0_0) shapeCasts_S8x2048x1x4x256_S8x2048x4x256) shapeCasts_S8x2048x4x256_S8x2048x4x2x128)) (broadcastInDim S8x4x2x2048x2048 ![] bcast_S_S8x4x2x2048x2048 (constant S_ .f32 0x3DB504F3#32))) (broadcastInDim S8x4x2x2048x2048 ![0, 1, 2, 3, 4] bcast_S1x4x1x2048x2048_S8x4x2x2048x2048_0_1_2_3_4 (broadcastInDim S1x4x1x2048x2048 ![1, 2, 3, 4] bcast_S4x1x2048x2048_S1x4x1x2048x2048_1_2_3_4 (mulf (broadcastInDim S4x1x2048x2048 ![0, 1, 2, 3] bcast_S4x1x1x1_S4x1x2048x2048_0_1_2_3 (broadcastInDim S4x1x1x1 ![0] bcast_S4_S4x1x1x1_0 (Host.exp (mulf (broadcastInDim S4 ![] bcast_S_S4 (constant S_ .f32 0x3F317218#32)) (Host.divf (mulf (broadcastInDim S4 ![] bcast_S_S4 (constant S_ .f32 0xC1000000#32)) (addf (broadcastInDim S4 ![] bcast_S_S4 (constant S_ .f32 0x3F800000#32)) (sitofp .f32 (iotaInDim S4 32 0)))) (broadcastInDim S4 ![] bcast_S_S4 (constant S_ .f32 0x40800000#32))))))) (broadcastInDim S4x1x2048x2048 ![0, 1, 2, 3] bcast_S1x1x2048x2048_S4x1x2048x2048_0_1_2_3 (broadcastInDim S1x1x2048x2048 ![2, 3] bcast_S2048x2048_S1x1x2048x2048_2_3 (sitofp .f32 (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))))))))) (broadcastInDim S8x4x2x2048x2048 ![] bcast_S_S8x4x2x2048x2048 (id (constant S_ .f32 0xFF800000#32))))

/-- The greatest score of each query. -/
def refMax (z : FVec Ideal S8x4x2x2048x2048 .f32) : FVec Ideal S8x4x2x2048 .f32 :=
  maximumf (broadcastInDim S8x4x2x2048 ![] bcast_S_S8x4x2x2048 (constant S_ .f32 0xFF800000#32))
    (Host.reduce FloatOps.maximumf z (constant S_ .f32 0xFF800000#32) reducesTo_S8x4x2x2048x2048_S8x4x2x2048_d4 h_S_)

/-- The exponentials of the scores less it. -/
def refExp (z : FVec Ideal S8x4x2x2048x2048 .f32) (w : FVec Ideal S8x4x2x2048 .f32) : FVec Ideal S8x4x2x2048x2048 .f32 :=
  Host.exp (subf z (broadcastInDim S8x4x2x2048x2048 ![0, 1, 2, 3, 4] bcast_S8x4x2x2048x1_S8x4x2x2048x2048_0_1_2_3_4
    (broadcastInDim S8x4x2x2048x1 ![0, 1, 2, 3] bcast_S8x4x2x2048_S8x4x2x2048x1_0_1_2_3 w)))

/-- Their shares. -/
def refShare (e : FVec Ideal S8x4x2x2048x2048 .f32) : FVec Ideal S8x4x2x2048x2048 .f32 :=
  Host.divf e (broadcastInDim S8x4x2x2048x2048 ![0, 1, 2, 3, 4] bcast_S8x4x2x2048x1_S8x4x2x2048x2048_0_1_2_3_4
    (broadcastInDim S8x4x2x2048x1 ![0, 1, 2, 3] bcast_S8x4x2x2048_S8x4x2x2048x1_0_1_2_3
      (Host.reduceAdd e (constant S_ .f32 0x00000000#32) reducesTo_S8x4x2x2048x2048_S8x4x2x2048_d4 h_S_)))

/-- The softmax of the scores. -/
def refSoftmax (z : FVec Ideal S8x4x2x2048x2048 .f32) : FVec Ideal S8x4x2x2048x2048 .f32 := refShare (refExp z (refMax z))

/-- The second map's weight. -/
def refMix (a2 : FVec Ideal S1x4x128 .f32) : FVec Ideal S_ .f32 :=
  (addf (subf (Host.exp (Host.reduceAdd (mulf (shapeCast _ (extractStridedSlice S1x128 ![0, 0] (shapeCast _ a2 shapeCasts_S1x4x128_S4x128) slices_S4x128_S1x128_0_0) shapeCasts_S1x128_S128) (shapeCast _ (extractStridedSlice S1x128 ![1, 0] (shapeCast _ a2 shapeCasts_S1x4x128_S4x128) slices_S4x128_S1x128_1_0) shapeCasts_S1x128_S128)) (constant S_ .f32 0x00000000#32) reducesTo_S128_S_d0 h_S_)) (Host.exp (Host.reduceAdd (mulf (shapeCast _ (extractStridedSlice S1x128 ![2, 0] (shapeCast _ a2 shapeCasts_S1x4x128_S4x128) slices_S4x128_S1x128_2_0) shapeCasts_S1x128_S128) (shapeCast _ (extractStridedSlice S1x128 ![3, 0] (shapeCast _ a2 shapeCasts_S1x4x128_S4x128) slices_S4x128_S1x128_3_0) shapeCasts_S1x128_S128)) (constant S_ .f32 0x00000000#32) reducesTo_S128_S_d0 h_S_))) (constant S_ .f32 0x3E4CCCCD#32))

/-- The weighted values. -/
def refOut (a1 : FVec Ideal S8x2048x2x4x256 .f32) (p : FVec Ideal S8x4x2x2048x2048 .f32) (l : FVec Ideal S_ .f32) : FVec Ideal S8x2048x4x256 .f32 :=
  (transpose S8x2048x4x256 [0, 3, 1, 2] (Host.dotGeneral dot_S8x2048x4x256_S8x4x2048x2048_S8x4x256x2048_1_3_3_2_02_01 none (shapeCast _ (extractStridedSlice S8x2048x1x4x256 ![0, 0, 1, 0, 0] a1 slices_S8x2048x2x4x256_S8x2048x1x4x256_0_0_1_0_0) shapeCasts_S8x2048x1x4x256_S8x2048x4x256) (subf (shapeCast _ (extractStridedSlice S8x4x1x2048x2048 ![0, 0, 0, 0, 0] p slices_S8x4x2x2048x2048_S8x4x1x2048x2048_0_0_0_0_0) shapeCasts_S8x4x1x2048x2048_S8x4x2048x2048) (mulf (broadcastInDim S8x4x2048x2048 ![] bcast_S_S8x4x2048x2048 l) (shapeCast _ (extractStridedSlice S8x4x1x2048x2048 ![0, 0, 1, 0, 0] p slices_S8x4x2x2048x2048_S8x4x1x2048x2048_0_0_1_0_0) shapeCasts_S8x4x1x2048x2048_S8x4x2048x2048)))) transposes_S8x4x256x2048_S8x2048x4x256_0_3_1_2)

/-- The norm. -/
def refNorm (o : FVec Ideal S8x2048x4x256 .f32) (a3 : FVec Ideal S1x256 .f32) : FVec Ideal S8x2048x1024 .bf16 :=
  truncf .bf16 (shapeCast _ (mulf (mulf (mulf o (broadcastInDim S8x2048x4x256 ![0, 1, 2, 3] bcast_S8x2048x4x1_S8x2048x4x256_0_1_2_3 (Host.rsqrt (addf (Host.divf (broadcastInDim S8x2048x4x1 ![0, 1, 2] bcast_S8x2048x4_S8x2048x4x1_0_1_2 (Host.reduceAdd (mulf o o) (constant S_ .f32 0x00000000#32) reducesTo_S8x2048x4x256_S8x2048x4_d3 h_S_)) (broadcastInDim S8x2048x4x1 ![] bcast_S_S8x2048x4x1 (constant S_ .f32 0x43800000#32))) (broadcastInDim S8x2048x4x1 ![] bcast_S_S8x2048x4x1 (constant S_ .f32 0x358637BD#32)))))) (broadcastInDim S8x2048x4x256 ![0, 1, 2, 3] bcast_S1x1x1x256_S8x2048x4x256_0_1_2_3 (broadcastInDim S1x1x1x256 ![3] bcast_S256_S1x1x1x256_3 (shapeCast _ a3 shapeCasts_S1x256_S256)))) (broadcastInDim S8x2048x4x256 ![] bcast_S_S8x2048x4x256 (constant S_ .f32 0x3F4CCCCD#32))) shapeCasts_S8x2048x4x256_S8x2048x1024) bitsLt_bf16_f32

theorem res_eq (m : (ℓ : Loc nD τ sig) → Buf (Elt Ideal) ℓ) (c : Dev nD) :
    Cert.Reference5Ideal.Value.res_main_v93 m c =
      refNorm (refOut (m ((c.tc : Thread nD τ).loc main_arg1))
        (refSoftmax (refScore (m ((c.tc : Thread nD τ).loc main_arg0)) (m ((c.tc : Thread nD τ).loc main_arg1))))
        (refMix (m ((c.tc : Thread nD τ).loc main_arg2)))) (m ((c.tc : Thread nD τ).loc main_arg3)) := rfl

theorem refMix_at (a2 : FVec Ideal S1x4x128 .f32) : (refMix a2 ix0 : EReal) = mixing fun j e => a2 (ix3 0 j e) := by
  unfold refMix mixing
  pointwise []

theorem refNorm_at (o : FVec Ideal S8x2048x4x256 .f32) (a3 : FVec Ideal S1x256 .f32) (b : Fin 8) (t : Fin 2048) (y : Fin 1024) :
    (refNorm o a3 (ix3 b t y) : EReal) =
      normed (fun d => o (ix4 b t ⟨y.val / 256, by omega⟩ d)) (fun d => a3 (ix2 0 d)) ⟨y.val % 256, by omega⟩ := by
  unfold refNorm normed
  pointwise []

theorem refOut_at (a1 : FVec Ideal S8x2048x2x4x256 .f32) (p : FVec Ideal S8x4x2x2048x2048 .f32) (l : FVec Ideal S_ .f32)
    (b : Fin 8) (t : Fin 2048) (h : Fin 4) (d : Fin 256) :
    (refOut a1 p l (ix4 b t h d) : EReal) =
      ∑ s : Fin 2048, a1 (ix5 b s 1 h d) * (p (ix5 b h 0 t s) - l ix0 * p (ix5 b h 1 t s)) := by
  unfold refOut
  pointwise []

theorem refMax_at (z : FVec Ideal S8x4x2x2048x2048 .f32) (b : Fin 8) (h : Fin 4) (j : Fin 2) (t : Fin 2048) :
    (refMax z (ix4 b h j t) : EReal) = Finset.univ.sup fun x : Fin 2048 => (z (ix5 b h j t x) : EReal) := by
  unfold refMax
  have hr : S8x4x2x2048x2048.Reduces [4] S8x4x2x2048 := by decide
  refine (maximumf_apply _ _ _).trans ?_
  have hm := Host.reduce_eq_fold_single (s := S8x4x2x2048x2048) (t := S8x4x2x2048)
    (FloatOps.maximumf : Ideal .f32 → Ideal .f32 → Ideal .f32) z (constant S_ .f32 0xFF800000#32)
    reducesTo_S8x4x2x2048x2048_S8x4x2x2048_d4 hr h_S_ (ix4 b h j t)
  rw [hm]
  have hl : z ∘ hr.lift (ix4 b h j t) = fun x : Fin 2048 => z (ix5 b h j t x) := by
    funext x
    refine congrArg z (funext fun a => Fin.ext ?_)
    fin_cases a <;> rfl
  rw [hl]
  refine Eq.trans ?_ ((congrArg (max (Ideal.ofBits .f32 0xFF800000#32))
    (fold_max (fun x : Fin 2048 => (z (ix5 b h j t x) : EReal)))).trans ?_)
  · rfl
  · rw [neg_inf]
    exact max_bot_left _

theorem refExp_at (z : FVec Ideal S8x4x2x2048x2048 .f32) (w : FVec Ideal S8x4x2x2048 .f32) (b : Fin 8) (h : Fin 4) (j : Fin 2)
    (t s : Fin 2048) : (refExp z w (ix5 b h j t s) : EReal) = Ideal.exp (z (ix5 b h j t s) - w (ix4 b h j t)) := by
  unfold refExp
  pointwise []

theorem refShare_at (e : FVec Ideal S8x4x2x2048x2048 .f32) (b : Fin 8) (h : Fin 4) (j : Fin 2) (t s : Fin 2048) :
    (refShare e (ix5 b h j t s) : EReal) = Ideal.div (e (ix5 b h j t s)) (∑ x : Fin 2048, e (ix5 b h j t x)) := by
  unfold refShare
  pointwise []

/-- The shares of one query of one map, from its scores. -/
theorem refSoftmax_at {z : FVec Ideal S8x4x2x2048x2048 .f32} {b : Fin 8} {h : Fin 4} {j : Fin 2} {t : Fin 2048} {Z : ℕ → ℝ}
    (hz : ∀ s : Fin 2048, (z (ix5 b h j t s) : EReal) = if s.val ≤ t.val then ((Z s : ℝ) : EReal) else ⊥) (s : Fin 2048) :
    (refSoftmax z (ix5 b h j t s) : EReal) = ((share Z t s : ℝ) : EReal) := by
  unfold refSoftmax
  rw [refShare_at]
  simp only [refExp_at, refMax_at]
  exact softmax_coe t.isLt hz s

theorem refScore_read (a0 : FVec Ideal S8x2048x4x2x128 .f32) (a1 : FVec Ideal S8x2048x2x4x256 .f32) (b : Fin 8) (h : Fin 4)
    (j : Fin 2) (t s : Fin 2048) :
    (refScore a0 a1 (ix5 b h j t s) : EReal) =
      Scalar.select (IntOp.cmpi .sle (BitVec.ofNat 32 s.val) (BitVec.ofNat 32 t.val))
        ((∑ x : Fin 128, a0 (ix5 b t h j x) * a1 (ix5 b s 0 h ⟨j.val * 128 + x.val, by omega⟩)) * Ideal.ofBits .f32 0x3DB504F3#32 -
          headSlope h * FloatOps.sitofp (F := Ideal) .f32 (IntOp.subi (BitVec.ofNat 32 t.val) (BitVec.ofNat 32 s.val)))
        (Ideal.ofBits .f32 0xFF800000#32) := by
  unfold refScore headSlope
  rw [Ideal.ofBits_one_f32]
  pointwise []
  rfl

variable {Q : Fin 8 → Fin 2048 → Fin 4 → Fin 2 → Fin 128 → EReal} {KV : Fin 8 → Fin 2048 → Fin 2 → Fin 4 → Fin 256 → EReal}
  {L : Fin 4 → Fin 128 → EReal} {G : Fin 256 → EReal}
  {a0 : FVec Ideal S8x2048x4x2x128 .f32} {a1 : FVec Ideal S8x2048x2x4x256 .f32} {a2 : FVec Ideal S1x4x128 .f32}
  {a3 : FVec Ideal S1x256 .f32}

section Score

variable (hf : Finite Q KV L) (hQ : ∀ b t h j e, (a0 (ix5 b t h j e) : EReal) = Q b t h j e)
  (hKV : ∀ b s w h e, (a1 (ix5 b s w h e) : EReal) = KV b s w h e)
include hf hQ hKV

/-- The product of the columns of one map. -/
theorem product (b : Fin 8) (h : Fin 4) (j : Fin 2) (t s : Fin 2048) :
    (∑ x : Fin 128, a0 (ix5 b t h j x) * a1 (ix5 b s 0 h ⟨j.val * 128 + x.val, by omega⟩)) * Ideal.ofBits .f32 0x3DB504F3#32 =
      ((∑ x : Fin 128, query Q b h t ⟨j.val * 128 + x.val, by omega⟩ * key KV b h s ⟨j.val * 128 + x.val, by omega⟩ : ℝ) : EReal) := by
  obtain ⟨c, hc⟩ := Cert.Stick.scale_real
  choose q hq using hf.q
  have hx : ∀ x : Fin 128, query Q b h t ⟨j.val * 128 + x.val, by omega⟩ = q b t h j x * c := fun x => by
    have h1 := hf.query b h t ⟨j.val * 128 + x.val, by omega⟩
    have h2 : (⟨(j.val * 128 + x.val) / 128, by omega⟩ : Fin 2) = j := Fin.ext (by show (j.val * 128 + x.val) / 128 = j.val; omega)
    have h3 : (⟨(j.val * 128 + x.val) % 128, by omega⟩ : Fin 128) = x := Fin.ext (by show (j.val * 128 + x.val) % 128 = x.val; omega)
    simp only [h2, h3] at h1
    rw [hq, hc, ← EReal.coe_mul] at h1
    exact (EReal.coe_injective h1).symm
  simp only [hQ, hKV, hf.key, hq, hc, hx, ← EReal.coe_mul, ← Cert.Stick.coe_sum]
  rw [Finset.sum_mul]
  congr 1
  exact Finset.sum_congr rfl fun x _ => by ring

theorem refScore_at (b : Fin 8) (h : Fin 4) (j : Fin 2) (t s : Fin 2048) :
    (refScore a0 a1 (ix5 b h j t s) : EReal) = if s.val ≤ t.val then
      ((∑ x : Fin 128, query Q b h t ⟨j.val * 128 + x.val, by omega⟩ * key KV b h s ⟨j.val * 128 + x.val, by omega⟩ -
        (headSlope h).toReal * ((t.val : ℝ) - (s.val : ℝ)) : ℝ) : EReal) else ⊥ := by
  rw [refScore_read, product hf hQ hKV, slope_real h, sitofp_sub _ _ (by omega) (by omega), neg_inf, ← EReal.coe_mul, ← EReal.coe_sub]
  by_cases hs : s.val ≤ t.val
  · rw [show IntOp.cmpi CmpIPredicate.sle (BitVec.ofNat 32 s.val) (BitVec.ofNat 32 t.val) = 1#1 by word_cmp, if_pos hs, EReal.toReal_coe]
    rfl
  · rw [show IntOp.cmpi CmpIPredicate.sle (BitVec.ofNat 32 s.val) (BitVec.ofNat 32 t.val) = 0#1 by word_cmp, if_neg hs]
    rfl

theorem score_lo (b : Fin 8) (h : Fin 4) (t s : Fin 2048) :
    (refScore a0 a1 (ix5 b h 0 t s) : EReal) = if s.val ≤ t.val then
      ((scoreLo (headSlope h).toReal (query Q b h t) (key KV b h) t s : ℝ) : EReal) else ⊥ := by
  have e : ∀ x : Fin 128, (⟨(0 : Fin 2).val * 128 + x.val, by omega⟩ : Fin 256) = lo x := fun x =>
    Fin.ext (by show 0 * 128 + x.val = x.val; omega)
  refine (refScore_at hf hQ hKV b h 0 t s).trans ?_
  simp only [e]
  rfl

theorem score_hi (b : Fin 8) (h : Fin 4) (t s : Fin 2048) :
    (refScore a0 a1 (ix5 b h 1 t s) : EReal) = if s.val ≤ t.val then
      ((scoreHi (headSlope h).toReal (query Q b h t) (key KV b h) t s : ℝ) : EReal) else ⊥ := by
  have e : ∀ x : Fin 128, (⟨(1 : Fin 2).val * 128 + x.val, by omega⟩ : Fin 256) = hi x := fun x =>
    Fin.ext (by show 1 * 128 + x.val = 128 + x.val; omega)
  refine (refScore_at hf hQ hKV b h 1 t s).trans ?_
  simp only [e]
  rfl

end Score

theorem mixing_real (hl : ∀ j e, ∃ x : ℝ, L j e = (x : EReal)) : ∃ x : ℝ, mixing L = (x : EReal) := by
  choose l hl using hl
  obtain ⟨c, hc⟩ : ∃ c : ℝ, Ideal.ofBits .f32 0x3E4CCCCD#32 = (c : EReal) := by
    rw [Ideal.ofBits, Ideal.ieee, if_neg (by decide), if_neg (by decide)]; exact ⟨_, rfl⟩
  unfold mixing
  simp only [hl, hc, ← EReal.coe_mul, ← Cert.Stick.coe_sum, Ideal.exp_coe, ← EReal.coe_sub, ← EReal.coe_add]
  exact ⟨_, rfl⟩

/-- The difference of the two maps' shares, weighted, is the difference of the two means. -/
theorem mean_sub (Z1 Z2 W : ℕ → ℝ) (t : Fin 2048) {l : EReal} (hl : ∃ x : ℝ, l = (x : EReal)) :
    ∑ s : Fin 2048, (W s : EReal) * (((share Z1 t s : ℝ) : EReal) - l * ((share Z2 t s : ℝ) : EReal)) =
      ((mean Z1 W t : ℝ) : EReal) - l * ((mean Z2 W t : ℝ) : EReal) := by
  obtain ⟨x, rfl⟩ := hl
  simp only [← EReal.coe_mul, ← EReal.coe_sub, ← Cert.Stick.coe_sum]
  rw [mean_eq Z1 W t.isLt, mean_eq Z2 W t.isLt, Finset.mul_sum, ← Finset.sum_sub_distrib]
  congr 1
  exact Finset.sum_congr rfl fun s _ => by ring

/-- The reference's first result, entry by entry. -/
theorem ref_at (hf : Finite Q KV L) (hQ : ∀ b t h j e, (a0 (ix5 b t h j e) : EReal) = Q b t h j e)
    (hKV : ∀ b s w h e, (a1 (ix5 b s w h e) : EReal) = KV b s w h e) (hL : ∀ j e, (a2 (ix3 0 j e) : EReal) = L j e)
    (hG : ∀ d, (a3 (ix2 0 d) : EReal) = G d) (b : Fin 8) (t : Fin 2048) (y : Fin 1024) :
    (refNorm (refOut a1 (refSoftmax (refScore a0 a1)) (refMix a2)) a3 (ix3 b t y) : EReal) =
      attend Q KV L G b ⟨y.val / 256, by omega⟩ t ⟨y.val % 256, by omega⟩ := by
  have h1 : (refMix a2 ix0 : EReal) = mixing L := (refMix_at a2).trans (congrArg mixing (funext fun j => funext fun e => hL j e))
  have h2 : ∀ h d, (refOut a1 (refSoftmax (refScore a0 a1)) (refMix a2) (ix4 b t h d) : EReal) =
      ((meanLo Q KV b h t d : ℝ) : EReal) - mixing L * ((meanHi Q KV b h t d : ℝ) : EReal) := fun h d => by
    rw [refOut_at, h1]
    simp only [hKV, hf.val, refSoftmax_at (score_lo hf hQ hKV b h t), refSoftmax_at (score_hi hf hQ hKV b h t)]
    exact mean_sub _ _ _ t (mixing_real hf.l)
  rw [refNorm_at]
  simp only [h2, hG]
  rfl

end Stages

/-- The precondition says that queries, keys, values and mixing weights are finite. -/
theorem finite_of_pre (m : (ℓ : Loc Cert.Kernel5Ideal.nD Cert.Kernel5Ideal.τ Cert.Kernel5Ideal.sig) → Buf (Elt Ideal) ℓ)
    (h : Cert.Pre_Kernel5Ideal_finite5 m) (c : Dev Cert.Kernel5Ideal.nD) :
    Finite (Cert.Kernel5Ideal.Df.Q m c) (Cert.Kernel5Ideal.Df.KV m c) (Cert.Kernel5Ideal.Df.L m c) := by
  have h1 := (h c).1
  have h2 := (h c).2.1
  have h3 := (h c).2.2
  simp only [Cert.Pre_finite5.fn] at h1 h2 h3
  constructor
  · intro b t h j e
    have := congrFun h1 (ix5 b t h j e)
    exact Cert.AttEq.real_of_lt _ this
  · intro b s w h e
    have := congrFun h2 (ix5 b s w h e)
    exact Cert.AttEq.real_of_lt _ this
  · intro j e
    have := congrFun h3 (ix3 0 j e)
    exact Cert.AttEq.real_of_lt _ this

/-- The second result: the rows of the experts' weights, rounded. -/
theorem rows_eq (m : (ℓ : Loc Cert.Kernel5Ideal.nD Cert.Kernel5Ideal.τ Cert.Kernel5Ideal.sig) → Buf (Elt Ideal) ℓ)
    (c : Dev Cert.Kernel5Ideal.nD) (a : FVec Ideal Cert.Reference5Ideal.S1x32x2048x2048 .f32)
    (ha : a = m ((c : Thread Cert.Kernel5Ideal.nD Cert.Kernel5Ideal.τ).loc Cert.Kernel5Ideal.main_arg4)) :
    truncf .bf16 (shapeCast Cert.Reference5Ideal.S65536x2048 a Cert.Reference5Ideal.Gen.facts.shapeCasts_S1x32x2048x2048_S65536x2048)
        Cert.Reference5Ideal.Gen.facts.bitsLt_bf16_f32 =
      fun j : Cert.Kernel5Ideal.S65536x2048.Idx => (Cert.Kernel5Ideal.Gen.V m c Cert.Kernel5Ideal.main_v20 j : EReal) := by
  subst ha
  funext j
  idx_vars j
  entry_read
  pointwise []

/-- The reference runs, and leaves its arguments and its counters, of which it has none. -/
theorem frame_ref : Cert.quiescent_Reference5Ideal := fun m ρ _ =>
  (θ_run _ _ _).mono (fun r h => ⟨fun c => (h c).2.2, sem_eq_zero_of_no_sems (by decide) r.2⟩)
    (Cert.Reference5Ideal.Value.run m ρ)

theorem frame_ref_finite : Cert.quiescent_Reference5Ideal_pre_finite5 := fun m ρ _ => frame_ref m ρ trivial

/-- Kernel and reference compute the same differential attention, for finite queries, keys, values and mixing weights. -/
theorem algebraic : Cert.algebraic_Kernel5Ideal_Reference5Ideal_pre_finite5 := by
  intro m g m' g' hpre hag
  have hf := finite_of_pre m hpre
  refine ⟨fun c => Cert.Kernel5Ideal.Df.attended m c,
    fun c => fun j : Cert.Kernel5Ideal.S65536x2048.Idx => (Cert.Kernel5Ideal.Gen.V m c Cert.Kernel5Ideal.main_v20 j : EReal), ?_, ?_⟩
  · refine (θ_run _ _ _).mono (fun r h c => ?_) (Cert.Kernel5Ideal.Value.run_blocks m g)
    obtain ⟨h0, h1, h2⟩ := h c
    exact ⟨h0.trans (Cert.Kernel5Ideal.Df.final7 m hf c), h1.trans (Cert.Kernel5Ideal.Df.final8 m c), h2⟩
  · refine (θ_run _ _ _).mono (fun r h c => ?_) (Cert.Reference5Ideal.Value.run m' g')
    obtain ⟨h0, h1, h2⟩ := h c
    obtain ⟨a0, a1, a2, a3, a4⟩ := hag c
    refine ⟨h0.trans ?_, h1.trans (rows_eq m c _ a4), h2⟩
    funext j
    idx_vars j
    rw [res_eq]
    exact ref_at (hf c) (fun _ _ _ _ _ => congrFun a0 _) (fun _ _ _ _ _ => congrFun a1 _) (fun _ _ => congrFun a2 _)
      (fun _ => congrFun a3 _) _ _ _

end Cert.DfEq
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3Ideal
public import proofs.«01_k».proof.Proof.Gen.Kernel3Ideal.Skeleton
public import proofs.«01_k».proof.Proof.Gen.Reference3Ideal
public import proofs.«01_k».proof.Proof.Gen.Reference3Ideal.Run
public import proofs.«01_k».proof.Proof.Attention
public import proofs.«01_k».proof.Proof.ProjRef
public import Idealize.ShloMosaic.Adequacy
public import Idealize.ShloMosaic.Init
public import Idealize.ShloMosaic.Lib.StableHlo.RunHlo
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Loops
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.DownRef
public import proofs.«01_k».proof.Proof.PostRef
public import proofs.«01_k».proof.Proof.DfRef

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    by constructor <;> decide, by constructor <;> decide,
    fun m ρ _ => Cert.Kernel.Gen.frame m ρ, fun m ρ _ => Cert.KernelIdeal.Gen.frame m ρ,
    fun m ρ _ => Cert.KernelIdeal.Gen.frame m ρ, Cert.AttEq.frame_ref, Cert.AttEq.frame_ref_finite,
    Cert.Proj.frame_bits, Cert.Proj.frame_ideal, Cert.Proj.frame_ref,
    Cert.Down.frame_bits, Cert.Down.frame_ideal, Cert.Down.frame_ref,
    Cert.Post.frame_bits, Cert.Post.frame_ideal, Cert.Post.frame_ref,
    fun m ρ _ => Cert.Kernel5.Gen.frame m ρ, fun m ρ _ => Cert.Kernel5Ideal.Gen.frame m ρ,
    fun m ρ _ => Cert.Kernel5Ideal.Gen.frame m ρ, Cert.DfEq.frame_ref, Cert.DfEq.frame_ref_finite,
    trivial, Cert.AttEq.algebraic, trivial, Cert.Proj.algebraic, trivial, Cert.Down.algebraic,
    trivial, Cert.Post.algebraic,
    IdealRules.named_const.statement Cert.Kernel5Ideal.κ "mask" .f32 0xF149F2CA#32 ⊥ rfl, Cert.DfEq.algebraic⟩

end Cert.Proof

end
